-- ==== Defs.lean ====
def Pre_Kernel [hPre_in_runs : Cert.Pre_in_runs.Facts] (m : (ℓ : Loc Cert.Kernel.nD Cert.Kernel.τ Cert.Kernel.sig) → Buf (Elt Bits) ℓ) : Prop :=
  ∀ c : Dev Cert.Kernel.nD,
    (Cert.Pre_in_runs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_runs : Cert.Pre_in_runs.Facts] (m : (ℓ : Loc Cert.KernelIdeal.nD Cert.KernelIdeal.τ Cert.KernelIdeal.sig) → Buf (Elt Ideal) ℓ) : Prop :=
  ∀ c : Dev Cert.KernelIdeal.nD,
    (Cert.Pre_in_runs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_in_runs_finite_KernelIdeal [hPre_in_runs_finite_KernelIdeal : Cert.Pre_in_runs_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_runs_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_runs_finite_ReferenceIdeal [hPre_in_runs_finite_ReferenceIdeal : Cert.Pre_in_runs_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_runs_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_runs : Cert.Pre_in_runs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_runs : Cert.Pre_in_runs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_runs_finite_KernelIdeal [hKernelIdeal : Cert.KernelIdeal.Facts] [hPre_in_runs_finite_KernelIdeal : Cert.Pre_in_runs_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_runs_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_runs_finite_ReferenceIdeal [hReferenceIdeal : Cert.ReferenceIdeal.Facts] [hPre_in_runs_finite_ReferenceIdeal : Cert.Pre_in_runs_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_runs_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_runs_finite_KernelIdeal [hKernelIdeal : Cert.KernelIdeal.Facts] [hReferenceIdeal : Cert.ReferenceIdeal.Facts] [hPre_in_runs_finite_KernelIdeal : Cert.Pre_in_runs_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_runs_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 1024]⟩ ⟨2, ![1024, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_runs : Cert.Pre_in_runs.Facts) (hPre_in_runs_finite_KernelIdeal : Cert.Pre_in_runs_finite_KernelIdeal.Facts) (hPre_in_runs_finite_ReferenceIdeal : Cert.Pre_in_runs_finite_ReferenceIdeal.Facts),
    quiescent_Kernel (hKernel := hKernel) (hPre_in_runs := hPre_in_runs)
    ∧ quiescent_KernelIdeal (hKernelIdeal := hKernelIdeal) (hPre_in_runs := hPre_in_runs)
    ∧ quiescent_KernelIdeal_pre_in_runs_finite_KernelIdeal (hKernelIdeal := hKernelIdeal) (hPre_in_runs_finite_KernelIdeal := hPre_in_runs_finite_KernelIdeal)
    ∧ quiescent_ReferenceIdeal (hReferenceIdeal := hReferenceIdeal)
    ∧ quiescent_ReferenceIdeal_pre_in_runs_finite_ReferenceIdeal (hReferenceIdeal := hReferenceIdeal) (hPre_in_runs_finite_ReferenceIdeal := hPre_in_runs_finite_ReferenceIdeal)
    ∧ preserves_Kernel_KernelIdeal
    ∧ algebraic_KernelIdeal_ReferenceIdeal_pre_in_runs_finite_KernelIdeal (hKernelIdeal := hKernelIdeal) (hReferenceIdeal := hReferenceIdeal) (hPre_in_runs_finite_KernelIdeal := hPre_in_runs_finite_KernelIdeal)
-- ==== Pre_in_runs.lean ====
abbrev S1024x512 : Shape := ⟨2, ![1024, 512]⟩
abbrev S512x128 : Shape := ⟨2, ![512, 128]⟩
abbrev S1024x1 : Shape := ⟨2, ![1024, 1]⟩
abbrev S4x512x1024 : Shape := ⟨3, ![4, 512, 1024]⟩
abbrev S512x1024 : Shape := ⟨2, ![512, 1024]⟩
abbrev S_ : Shape := ⟨0, ![]⟩

class Facts : Prop where
  bcast_S_S1024x1 : S_.BroadcastsInDim S1024x1 (![] : Fin 0 → Fin S1024x1.rank)
  reducesTo_S1024x1_S_d0_1 : S1024x1.ReducesTo [0, 1] S_
  h_S_ : 0 < S_.numel

variable [Facts]

def fn {F : FTy → Type} [FloatOps F] (main_arg0 : FVec F S1024x512 .bf16) (main_arg1 : FVec F S512x128 .bf16) (main_arg2 : IVec S1024x1 32) (main_arg3 : FVec F S4x512x1024 .bf16) (main_arg4 : FVec F S512x1024 .bf16) : IVec S_ 1 :=
  let main_v0 : IVec S1024x1 32 := iotaInDim S1024x1 32 0
  let main_c : IVec S_ 32 := constantI S_ 32 24#32
  let main_v1 : IVec S1024x1 32 := broadcastInDim S1024x1 ![] bcast_S_S1024x1 main_c
  let main_v2 : IVec S1024x1 32 := Host.divsi main_v0 main_v1
  let main_c_0 : IVec S_ 32 := constantI S_ 32 32#32
  let main_v3 : IVec S1024x1 32 := broadcastInDim S1024x1 ![] bcast_S_S1024x1 main_c_0
  let main_v4 : IVec S1024x1 32 := Host.remsi main_v2 main_v3
  let main_c_1 : IVec S_ 32 := constantI S_ 32 4#32
  let main_v5 : IVec S1024x1 32 := broadcastInDim S1024x1 ![] bcast_S_S1024x1 main_c_1
  let main_v6 : IVec S1024x1 32 := muli main_v5 main_v4
  let main_v7 : IVec S1024x1 1 := cmpi .sge main_arg2 main_v6
  let main_c_2 : IVec S_ 32 := constantI S_ 32 4#32
  let main_v8 : IVec S1024x1 32 := broadcastInDim S1024x1 ![] bcast_S_S1024x1 main_c_2
  let main_v9 : IVec S1024x1 32 := addi main_v6 main_v8
  let main_v10 : IVec S1024x1 1 := cmpi .slt main_arg2 main_v9
  let main_v11 : IVec S1024x1 1 := andi main_v7 main_v10
  let main_c_3 : IVec S_ 1 := constantI S_ 1 1#1
  let main_v12 : IVec S_ 1 := (fun x v => Host.reduce IntOp.andi x v reducesTo_S1024x1_S_d0_1 h_S_) main_v11 main_c_3
  main_v12
-- ==== Pre_in_runs_finite_KernelIdeal.lean ====
abbrev S1024x512 : Shape := ⟨2, ![1024, 512]⟩
abbrev S512x128 : Shape := ⟨2, ![512, 128]⟩
abbrev S1024x1 : Shape := ⟨2, ![1024, 1]⟩
abbrev S4x512x1024 : Shape := ⟨3, ![4, 512, 1024]⟩
abbrev S512x1024 : Shape := ⟨2, ![512, 1024]⟩
abbrev S_ : Shape := ⟨0, ![]⟩

class Facts : Prop where
  bitsLt_bf16_f32 : FTy.bits .bf16 < FTy.bits .f32
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S1024x1 : S_.BroadcastsInDim S1024x1 (![] : Fin 0 → Fin S1024x1.rank)
  reducesTo_S1024x1_S_d0_1 : S1024x1.ReducesTo [0, 1] S_

variable [Facts]

def fn_part1 {F : FTy → Type} [FloatOps F] (main_arg2 : IVec S1024x1 32) (main_v10 : IVec S_ 1) (main_v15 : IVec S1024x1 32) (main_v16 : IVec S1024x1 32) : IVec S_ 1 :=
  let main_v17 : IVec S1024x1 32 := muli main_v16 main_v15
  let main_v18 : IVec S1024x1 1 := cmpi .sge main_arg2 main_v17
  let main_c_5 : IVec S_ 32 := constantI S_ 32 4#32
  let main_v19 : IVec S1024x1 32 := broadcastInDim S1024x1 ![] bcast_S_S1024x1 main_c_5
  let main_v20 : IVec S1024x1 32 := addi main_v17 main_v19
  let main_v21 : IVec S1024x1 1 := cmpi .slt main_arg2 main_v20
  let main_v22 : IVec S1024x1 1 := andi main_v18 main_v21
  let main_c_6 : IVec S_ 1 := constantI S_ 1 1#1
  let main_v23 : IVec S_ 1 := (fun x v => Host.reduce IntOp.andi x v reducesTo_S1024x1_S_d0_1 h_S_) main_v22 main_c_6
  let main_v24 : IVec S_ 1 := andi main_v23 main_v10
  main_v24

def fn {F : FTy → Type} [FloatOps F] (main_arg0 : FVec F S1024x512 .bf16) (main_arg1 : FVec F S512x128 .bf16) (main_arg2 : IVec S1024x1 32) (main_arg3 : FVec F S4x512x1024 .bf16) (main_arg4 : FVec F S512x1024 .bf16) : IVec S_ 1 :=
  let main_v0 : FVec F S1024x512 .f32 := (extf .f32 · bitsLt_bf16_f32) main_arg0
  let main_v1 : FVec F S1024x512 .f32 := Host.absf main_v0
  let main_cst : FVec F S_ .f32 := constant S_ .f32 0x7F800000#32
  let main_v2 : FVec F S1024x512 .f32 := broadcastInDim S1024x512 ![] bcast_S_S1024x512 main_cst
  let main_v3 : IVec S1024x512 1 := cmpf .olt main_v1 main_v2
  let main_c : IVec S_ 1 := constantI S_ 1 1#1
  let main_v4 : IVec S_ 1 := (fun x v => Host.reduce IntOp.andi x v reducesTo_S1024x512_S_d0_1 h_S_) main_v3 main_c
  let main_v5 : FVec F S512x128 .f32 := (extf .f32 · bitsLt_bf16_f32) main_arg1
  let main_v6 : FVec F S512x128 .f32 := Host.absf main_v5
  let main_cst_0 : FVec F S_ .f32 := constant S_ .f32 0x7F800000#32
  let main_v7 : FVec F S512x128 .f32 := broadcastInDim S512x128 ![] bcast_S_S512x128 main_cst_0
  let main_v8 : IVec S512x128 1 := cmpf .olt main_v6 main_v7
  let main_c_1 : IVec S_ 1 := constantI S_ 1 1#1
  let main_v9 : IVec S_ 1 := (fun x v => Host.reduce IntOp.andi x v reducesTo_S512x128_S_d0_1 h_S_) main_v8 main_c_1
  let main_v10 : IVec S_ 1 := andi main_v4 main_v9
  let main_v11 : IVec S1024x1 32 := iotaInDim S1024x1 32 0
  let main_c_2 : IVec S_ 32 := constantI S_ 32 24#32
  let main_v12 : IVec S1024x1 32 := broadcastInDim S1024x1 ![] bcast_S_S1024x1 main_c_2
  let main_v13 : IVec S1024x1 32 := Host.divsi main_v11 main_v12
  let main_c_3 : IVec S_ 32 := constantI S_ 32 32#32
  let main_v14 : IVec S1024x1 32 := broadcastInDim S1024x1 ![] bcast_S_S1024x1 main_c_3
  let main_v15 : IVec S1024x1 32 := Host.remsi main_v13 main_v14
  let main_c_4 : IVec S_ 32 := constantI S_ 32 4#32
  let main_v16 : IVec S1024x1 32 := broadcastInDim S1024x1 ![] bcast_S_S1024x1 main_c_4
  fn_part1 (F := F) main_arg2 main_v10 main_v15 main_v16
-- ==== Pre_in_runs_finite_ReferenceIdeal.lean ====
abbrev S1024x512 : Shape := ⟨2, ![1024, 512]⟩
abbrev S512x128 : Shape := ⟨2, ![512, 128]⟩
abbrev S1024x1 : Shape := ⟨2, ![1024, 1]⟩
abbrev S128x512x1024 : Shape := ⟨3, ![128, 512, 1024]⟩
abbrev S512x1024 : Shape := ⟨2, ![512, 1024]⟩
abbrev S_ : Shape := ⟨0, ![]⟩

class Facts : Prop where
  bitsLt_bf16_f32 : FTy.bits .bf16 < FTy.bits .f32
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S1024x1 : S_.BroadcastsInDim S1024x1 (![] : Fin 0 → Fin S1024x1.rank)
  reducesTo_S1024x1_S_d0_1 : S1024x1.ReducesTo [0, 1] S_

variable [Facts]

def fn_part1 {F : FTy → Type} [FloatOps F] (main_arg2 : IVec S1024x1 32) (main_v10 : IVec S_ 1) (main_v15 : IVec S1024x1 32) (main_v16 : IVec S1024x1 32) : IVec S_ 1 :=
  let main_v17 : IVec S1024x1 32 := muli main_v16 main_v15
  let main_v18 : IVec S1024x1 1 := cmpi .sge main_arg2 main_v17
  let main_c_5 : IVec S_ 32 := constantI S_ 32 4#32
  let main_v19 : IVec S1024x1 32 := broadcastInDim S1024x1 ![] bcast_S_S1024x1 main_c_5
  let main_v20 : IVec S1024x1 32 := addi main_v17 main_v19
  let main_v21 : IVec S1024x1 1 := cmpi .slt main_arg2 main_v20
  let main_v22 : IVec S1024x1 1 := andi main_v18 main_v21
  let main_c_6 : IVec S_ 1 := constantI S_ 1 1#1
  let main_v23 : IVec S_ 1 := (fun x v => Host.reduce IntOp.andi x v reducesTo_S1024x1_S_d0_1 h_S_) main_v22 main_c_6
  let main_v24 : IVec S_ 1 := andi main_v23 main_v10
  main_v24

def fn {F : FTy → Type} [FloatOps F] (main_arg0 : FVec F S1024x512 .bf16) (main_arg1 : FVec F S512x128 .bf16) (main_arg2 : IVec S1024x1 32) (main_arg3 : FVec F S128x512x1024 .bf16) (main_arg4 : FVec F S512x1024 .bf16) : IVec S_ 1 :=
  let main_v0 : FVec F S1024x512 .f32 := (extf .f32 · bitsLt_bf16_f32) main_arg0
  let main_v1 : FVec F S1024x512 .f32 := Host.absf main_v0
  let main_cst : FVec F S_ .f32 := constant S_ .f32 0x7F800000#32
  let main_v2 : FVec F S1024x512 .f32 := broadcastInDim S1024x512 ![] bcast_S_S1024x512 main_cst
  let main_v3 : IVec S1024x512 1 := cmpf .olt main_v1 main_v2
  let main_c : IVec S_ 1 := constantI S_ 1 1#1
  let main_v4 : IVec S_ 1 := (fun x v => Host.reduce IntOp.andi x v reducesTo_S1024x512_S_d0_1 h_S_) main_v3 main_c
  let main_v5 : FVec F S512x128 .f32 := (extf .f32 · bitsLt_bf16_f32) main_arg1
  let main_v6 : FVec F S512x128 .f32 := Host.absf main_v5
  let main_cst_0 : FVec F S_ .f32 := constant S_ .f32 0x7F800000#32
  let main_v7 : FVec F S512x128 .f32 := broadcastInDim S512x128 ![] bcast_S_S512x128 main_cst_0
  let main_v8 : IVec S512x128 1 := cmpf .olt main_v6 main_v7
  let main_c_1 : IVec S_ 1 := constantI S_ 1 1#1
  let main_v9 : IVec S_ 1 := (fun x v => Host.reduce IntOp.andi x v reducesTo_S512x128_S_d0_1 h_S_) main_v8 main_c_1
  let main_v10 : IVec S_ 1 := andi main_v4 main_v9
  let main_v11 : IVec S1024x1 32 := iotaInDim S1024x1 32 0
  let main_c_2 : IVec S_ 32 := constantI S_ 32 24#32
  let main_v12 : IVec S1024x1 32 := broadcastInDim S1024x1 ![] bcast_S_S1024x1 main_c_2
  let main_v13 : IVec S1024x1 32 := Host.divsi main_v11 main_v12
  let main_c_3 : IVec S_ 32 := constantI S_ 32 32#32
  let main_v14 : IVec S1024x1 32 := broadcastInDim S1024x1 ![] bcast_S_S1024x1 main_c_3
  let main_v15 : IVec S1024x1 32 := Host.remsi main_v13 main_v14
  let main_c_4 : IVec S_ 32 := constantI S_ 32 4#32
  let main_v16 : IVec S1024x1 32 := broadcastInDim S1024x1 ![] bcast_S_S1024x1 main_c_4
  fn_part1 (F := F) main_arg2 main_v10 main_v15 main_v16
-- ==== Kernel.lean ====
abbrev S1024x512 : Shape := ⟨2, ![1024, 512]⟩
abbrev S512x128 : Shape := ⟨2, ![512, 128]⟩
abbrev S1024x1 : Shape := ⟨2, ![1024, 1]⟩
abbrev S4x512x1024 : Shape := ⟨3, ![4, 512, 1024]⟩
abbrev S512x1024 : Shape := ⟨2, ![512, 1024]⟩
abbrev S32x1024 : Shape := ⟨2, ![32, 1024]⟩
abbrev S1024x8x128 : Shape := ⟨3, ![1024, 8, 128]⟩
abbrev S32x8x128 : Shape := ⟨3, ![32, 8, 128]⟩
abbrev S32 : Shape := ⟨1, ![32]⟩
abbrev S_ : Shape := ⟨0, ![]⟩
abbrev S1024x128 : Shape := ⟨2, ![1024, 128]⟩
abbrev S1024 : Shape := ⟨1, ![1024]⟩
abbrev S1024x2048 : Shape := ⟨2, ![1024, 2048]⟩
abbrev S2048x1024 : Shape := ⟨2, ![2048, 1024]⟩
abbrev S1024x1024 : Shape := ⟨2, ![1024, 1024]⟩
abbrev S1024x1x128 : Shape := ⟨3, ![1024, 1, 128]⟩
abbrev S1x1 : Shape := ⟨2, ![1, 1]⟩
abbrev S1 : Shape := ⟨1, ![1]⟩
abbrev S1x8x128 : Shape := ⟨3, ![1, 8, 128]⟩
abbrev S8x128 : Shape := ⟨2, ![8, 128]⟩
abbrev S32x512 : Shape := ⟨2, ![32, 512]⟩
abbrev S32x1x128 : Shape := ⟨3, ![32, 1, 128]⟩
abbrev S32x128 : Shape := ⟨2, ![32, 128]⟩

abbrev nBuf : Space → Nat
  | .hbm => 6
  | .vmem => 8
  | .smem => 1
  | _ => 0

abbrev bufTy : (tb : Table) → Fin (tcTables nBuf tb) → BufTy
  | .hbm, ⟨0, _⟩ => ⟨S1024x512, .bf16⟩
  | .hbm, ⟨1, _⟩ => ⟨S512x128, .bf16⟩
  | .hbm, ⟨2, _⟩ => ⟨S1024x1, .i32⟩
  | .hbm, ⟨3, _⟩ => ⟨S4x512x1024, .bf16⟩
  | .hbm, ⟨4, _⟩ => ⟨S512x1024, .bf16⟩
  | .hbm, ⟨5, _⟩ => ⟨S32x1024, .f32⟩
  | .local _ .vmem, ⟨0, _⟩ => ⟨S1024x512, .bf16⟩
  | .local _ .vmem, ⟨1, _⟩ => ⟨S512x128, .bf16⟩
  | .local _ .vmem, ⟨2, _⟩ => ⟨S1024x1, .i32⟩
  | .local _ .vmem, ⟨3, _⟩ => ⟨S4x512x1024, .bf16⟩
  | .local _ .vmem, ⟨4, _⟩ => ⟨S512x1024, .bf16⟩
  | .local _ .vmem, ⟨5, _⟩ => ⟨S32x1024, .f32⟩
  | .local _ .vmem, ⟨6, _⟩ => ⟨S1024x8x128, .f32⟩
  | .local _ .vmem, ⟨7, _⟩ => ⟨S32x8x128, .f32⟩
  | .local _ .smem, ⟨0, _⟩ => ⟨S1024x1, .i32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 1 → Bool
  | ⟨0, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  (ofTc nBuf bufTy 1 71 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_scratch0 : Ref sig .tc := ⟨.vmem, 6, rfl⟩
abbrev cc0_scratch1 : Ref sig .tc := ⟨.vmem, 7, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2 : BitVec 32 := 1#32
  let v8 : BitVec 32 := Scalar.addi v2 c1_i32_2
  let c32_i32_3 : BitVec 32 := 32#32
  let c0_i32 : BitVec 32 := 0#32
  let v9 : BitVec 1 := Scalar.cmpi .eq c32_i32_3 c0_i32
  let c1_i32_4 : BitVec 32 := 1#32
  let v10 : BitVec 32 := Scalar.select v9 c1_i32_4 c32_i32_3
  let v11 : BitVec 32 := Scalar.remsi v8 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let c1_i32_9 : BitVec 32 := 1#32
  let v19 : BitVec 32 := Scalar.muli v18 c1_i32_9
  let v20 : BitVec 32 := Scalar.addi c0_i32_10 v19
  v20.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v21 : BitVec 32 := Scalar.addi v2 c2_i32
  let c32_i32_11 : BitVec 32 := 32#32
  let c0_i32_12 : BitVec 32 := 0#32
  let v22 : BitVec 1 := Scalar.cmpi .eq c32_i32_11 c0_i32_12
  let c1_i32_13 : BitVec 32 := 1#32
  let v23 : BitVec 32 := Scalar.select v22 c1_i32_13 c32_i32_11
  let v24 : BitVec 32 := Scalar.remsi v21 v23
  let c0_i32_15 : BitVec 32 := 0#32
  let v26 : BitVec 1 := Scalar.cmpi .slt v24 c0_i32_15
  let c0_i32_16 : BitVec 32 := 0#32
  let v27 : BitVec 1 := Scalar.cmpi .slt v23 c0_i32_16
  let v28 : BitVec 1 := Scalar.xori v26 v27
  let c0_i32_14 : BitVec 32 := 0#32
  let v25 : BitVec 1 := Scalar.cmpi .ne v24 c0_i32_14
  let v29 : BitVec 1 := Scalar.andi v28 v25
  let v30 : BitVec 32 := Scalar.addi v24 v23
  let v31 : BitVec 32 := Scalar.select v29 v30 v24
  let c1_i32_18 : BitVec 32 := 1#32
  let v32 : BitVec 32 := Scalar.muli v31 c1_i32_18
  let v33 : BitVec 32 := Scalar.addi c0_i32_19 v32
  v33.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v34 : BitVec 32 := Scalar.addi v2 c3_i32
  let c32_i32_20 : BitVec 32 := 32#32
  let c0_i32_21 : BitVec 32 := 0#32
  let v35 : BitVec 1 := Scalar.cmpi .eq c32_i32_20 c0_i32_21
  let c1_i32_22 : BitVec 32 := 1#32
  let v36 : BitVec 32 := Scalar.select v35 c1_i32_22 c32_i32_20
  let v37 : BitVec 32 := Scalar.remsi v34 v36
  let c0_i32_24 : BitVec 32 := 0#32
  let v39 : BitVec 1 := Scalar.cmpi .slt v37 c0_i32_24
  let c0_i32_25 : BitVec 32 := 0#32
  let v40 : BitVec 1 := Scalar.cmpi .slt v36 c0_i32_25
  let v41 : BitVec 1 := Scalar.xori v39 v40
  let c0_i32_23 : BitVec 32 := 0#32
  let v38 : BitVec 1 := Scalar.cmpi .ne v37 c0_i32_23
  let v42 : BitVec 1 := Scalar.andi v41 v38
  let v43 : BitVec 32 := Scalar.addi v37 v36
  let v44 : BitVec 32 := Scalar.select v42 v43 v37
  let c1_i32_27 : BitVec 32 := 1#32
  let v45 : BitVec 32 := Scalar.muli v44 c1_i32_27
  let v46 : BitVec 32 := Scalar.addi c0_i32_28 v45
  v46.toNat
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v47 : BitVec 32 := Scalar.addi v2 c4_i32
  let c32_i32_29 : BitVec 32 := 32#32
  let c0_i32_30 : BitVec 32 := 0#32
  let v48 : BitVec 1 := Scalar.cmpi .eq c32_i32_29 c0_i32_30
  let c1_i32_31 : BitVec 32 := 1#32
  let v49 : BitVec 32 := Scalar.select v48 c1_i32_31 c32_i32_29
  let v50 : BitVec 32 := Scalar.remsi v47 v49
  let c0_i32_33 : BitVec 32 := 0#32
  let v52 : BitVec 1 := Scalar.cmpi .slt v50 c0_i32_33
  let c0_i32_34 : BitVec 32 := 0#32
  let v53 : BitVec 1 := Scalar.cmpi .slt v49 c0_i32_34
  let v54 : BitVec 1 := Scalar.xori v52 v53
  let c0_i32_32 : BitVec 32 := 0#32
  let v51 : BitVec 1 := Scalar.cmpi .ne v50 c0_i32_32
  let v55 : BitVec 1 := Scalar.andi v54 v51
  let v56 : BitVec 32 := Scalar.addi v50 v49
  let v57 : BitVec 32 := Scalar.select v55 v56 v50
  let c1_i32_36 : BitVec 32 := 1#32
  let v58 : BitVec 32 := Scalar.muli v57 c1_i32_36
  let v59 : BitVec 32 := Scalar.addi c0_i32_37 v58
  v59.toNat
def k0_dev5 (d0 : Dev nD) : Nat :=
  let c0_i32_46 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v60 : BitVec 32 := Scalar.addi v2 c5_i32
  let c32_i32_38 : BitVec 32 := 32#32
  let c0_i32_39 : BitVec 32 := 0#32
  let v61 : BitVec 1 := Scalar.cmpi .eq c32_i32_38 c0_i32_39
  let c1_i32_40 : BitVec 32 := 1#32
  let v62 : BitVec 32 := Scalar.select v61 c1_i32_40 c32_i32_38
  let v63 : BitVec 32 := Scalar.remsi v60 v62
  let c0_i32_42 : BitVec 32 := 0#32
  let v65 : BitVec 1 := Scalar.cmpi .slt v63 c0_i32_42
  let c0_i32_43 : BitVec 32 := 0#32
  let v66 : BitVec 1 := Scalar.cmpi .slt v62 c0_i32_43
  let v67 : BitVec 1 := Scalar.xori v65 v66
  let c0_i32_41 : BitVec 32 := 0#32
  let v64 : BitVec 1 := Scalar.cmpi .ne v63 c0_i32_41
  let v68 : BitVec 1 := Scalar.andi v67 v64
  let v69 : BitVec 32 := Scalar.addi v63 v62
  let v70 : BitVec 32 := Scalar.select v68 v69 v63
  let c1_i32_45 : BitVec 32 := 1#32
  let v71 : BitVec 32 := Scalar.muli v70 c1_i32_45
  let v72 : BitVec 32 := Scalar.addi c0_i32_46 v71
  v72.toNat
def k0_dev6 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v73 : BitVec 32 := Scalar.addi v2 c6_i32
  let c32_i32_47 : BitVec 32 := 32#32
  let c0_i32_48 : BitVec 32 := 0#32
  let v74 : BitVec 1 := Scalar.cmpi .eq c32_i32_47 c0_i32_48
  let c1_i32_49 : BitVec 32 := 1#32
  let v75 : BitVec 32 := Scalar.select v74 c1_i32_49 c32_i32_47
  let v76 : BitVec 32 := Scalar.remsi v73 v75
  let c0_i32_51 : BitVec 32 := 0#32
  let v78 : BitVec 1 := Scalar.cmpi .slt v76 c0_i32_51
  let c0_i32_52 : BitVec 32 := 0#32
  let v79 : BitVec 1 := Scalar.cmpi .slt v75 c0_i32_52
  let v80 : BitVec 1 := Scalar.xori v78 v79
  let c0_i32_50 : BitVec 32 := 0#32
  let v77 : BitVec 1 := Scalar.cmpi .ne v76 c0_i32_50
  let v81 : BitVec 1 := Scalar.andi v80 v77
  let v82 : BitVec 32 := Scalar.addi v76 v75
  let v83 : BitVec 32 := Scalar.select v81 v82 v76
  let c1_i32_54 : BitVec 32 := 1#32
  let v84 : BitVec 32 := Scalar.muli v83 c1_i32_54
  let v85 : BitVec 32 := Scalar.addi c0_i32_55 v84
  v85.toNat
def k0_dev7 (d0 : Dev nD) : Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v86 : BitVec 32 := Scalar.addi v2 c7_i32
  let c32_i32_56 : BitVec 32 := 32#32
  let c0_i32_57 : BitVec 32 := 0#32
  let v87 : BitVec 1 := Scalar.cmpi .eq c32_i32_56 c0_i32_57
  let c1_i32_58 : BitVec 32 := 1#32
  let v88 : BitVec 32 := Scalar.select v87 c1_i32_58 c32_i32_56
  let v89 : BitVec 32 := Scalar.remsi v86 v88
  let c0_i32_60 : BitVec 32 := 0#32
  let v91 : BitVec 1 := Scalar.cmpi .slt v89 c0_i32_60
  let c0_i32_61 : BitVec 32 := 0#32
  let v92 : BitVec 1 := Scalar.cmpi .slt v88 c0_i32_61
  let v93 : BitVec 1 := Scalar.xori v91 v92
  let c0_i32_59 : BitVec 32 := 0#32
  let v90 : BitVec 1 := Scalar.cmpi .ne v89 c0_i32_59
  let v94 : BitVec 1 := Scalar.andi v93 v90
  let v95 : BitVec 32 := Scalar.addi v89 v88
  let v96 : BitVec 32 := Scalar.select v94 v95 v89
  let c1_i32_63 : BitVec 32 := 1#32
  let v97 : BitVec 32 := Scalar.muli v96 c1_i32_63
  let v98 : BitVec 32 := Scalar.addi c0_i32_64 v97
  v98.toNat
def k0_dev8 (d0 : Dev nD) : Nat :=
  let c0_i32_73 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v99 : BitVec 32 := Scalar.addi v2 c8_i32
  let c32_i32_65 : BitVec 32 := 32#32
  let c0_i32_66 : BitVec 32 := 0#32
  let v100 : BitVec 1 := Scalar.cmpi .eq c32_i32_65 c0_i32_66
  let c1_i32_67 : BitVec 32 := 1#32
  let v101 : BitVec 32 := Scalar.select v100 c1_i32_67 c32_i32_65
  let v102 : BitVec 32 := Scalar.remsi v99 v101
  let c0_i32_69 : BitVec 32 := 0#32
  let v104 : BitVec 1 := Scalar.cmpi .slt v102 c0_i32_69
  let c0_i32_70 : BitVec 32 := 0#32
  let v105 : BitVec 1 := Scalar.cmpi .slt v101 c0_i32_70
  let v106 : BitVec 1 := Scalar.xori v104 v105
  let c0_i32_68 : BitVec 32 := 0#32
  let v103 : BitVec 1 := Scalar.cmpi .ne v102 c0_i32_68
  let v107 : BitVec 1 := Scalar.andi v106 v103
  let v108 : BitVec 32 := Scalar.addi v102 v101
  let v109 : BitVec 32 := Scalar.select v107 v108 v102
  let c1_i32_72 : BitVec 32 := 1#32
  let v110 : BitVec 32 := Scalar.muli v109 c1_i32_72
  let v111 : BitVec 32 := Scalar.addi c0_i32_73 v110
  v111.toNat
def k0_dev9 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v112 : BitVec 32 := Scalar.addi v2 c9_i32
  let c32_i32_74 : BitVec 32 := 32#32
  let c0_i32_75 : BitVec 32 := 0#32
  let v113 : BitVec 1 := Scalar.cmpi .eq c32_i32_74 c0_i32_75
  let c1_i32_76 : BitVec 32 := 1#32
  let v114 : BitVec 32 := Scalar.select v113 c1_i32_76 c32_i32_74
  let v115 : BitVec 32 := Scalar.remsi v112 v114
  let c0_i32_78 : BitVec 32 := 0#32
  let v117 : BitVec 1 := Scalar.cmpi .slt v115 c0_i32_78
  let c0_i32_79 : BitVec 32 := 0#32
  let v118 : BitVec 1 := Scalar.cmpi .slt v114 c0_i32_79
  let v119 : BitVec 1 := Scalar.xori v117 v118
  let c0_i32_77 : BitVec 32 := 0#32
  let v116 : BitVec 1 := Scalar.cmpi .ne v115 c0_i32_77
  let v120 : BitVec 1 := Scalar.andi v119 v116
  let v121 : BitVec 32 := Scalar.addi v115 v114
  let v122 : BitVec 32 := Scalar.select v120 v121 v115
  let c1_i32_81 : BitVec 32 := 1#32
  let v123 : BitVec 32 := Scalar.muli v122 c1_i32_81
  let v124 : BitVec 32 := Scalar.addi c0_i32_82 v123
  v124.toNat
def k0_dev10 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v125 : BitVec 32 := Scalar.addi v2 c10_i32
  let c32_i32_83 : BitVec 32 := 32#32
  let c0_i32_84 : BitVec 32 := 0#32
  let v126 : BitVec 1 := Scalar.cmpi .eq c32_i32_83 c0_i32_84
  let c1_i32_85 : BitVec 32 := 1#32
  let v127 : BitVec 32 := Scalar.select v126 c1_i32_85 c32_i32_83
  let v128 : BitVec 32 := Scalar.remsi v125 v127
  let c0_i32_87 : BitVec 32 := 0#32
  let v130 : BitVec 1 := Scalar.cmpi .slt v128 c0_i32_87
  let c0_i32_88 : BitVec 32 := 0#32
  let v131 : BitVec 1 := Scalar.cmpi .slt v127 c0_i32_88
  let v132 : BitVec 1 := Scalar.xori v130 v131
  let c0_i32_86 : BitVec 32 := 0#32
  let v129 : BitVec 1 := Scalar.cmpi .ne v128 c0_i32_86
  let v133 : BitVec 1 := Scalar.andi v132 v129
  let v134 : BitVec 32 := Scalar.addi v128 v127
  let v135 : BitVec 32 := Scalar.select v133 v134 v128
  let c1_i32_90 : BitVec 32 := 1#32
  let v136 : BitVec 32 := Scalar.muli v135 c1_i32_90
  let v137 : BitVec 32 := Scalar.addi c0_i32_91 v136
  v137.toNat
def k0_dev11 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v138 : BitVec 32 := Scalar.addi v2 c11_i32
  let c32_i32_92 : BitVec 32 := 32#32
  let c0_i32_93 : BitVec 32 := 0#32
  let v139 : BitVec 1 := Scalar.cmpi .eq c32_i32_92 c0_i32_93
  let c1_i32_94 : BitVec 32 := 1#32
  let v140 : BitVec 32 := Scalar.select v139 c1_i32_94 c32_i32_92
  let v141 : BitVec 32 := Scalar.remsi v138 v140
  let c0_i32_96 : BitVec 32 := 0#32
  let v143 : BitVec 1 := Scalar.cmpi .slt v141 c0_i32_96
  let c0_i32_97 : BitVec 32 := 0#32
  let v144 : BitVec 1 := Scalar.cmpi .slt v140 c0_i32_97
  let v145 : BitVec 1 := Scalar.xori v143 v144
  let c0_i32_95 : BitVec 32 := 0#32
  let v142 : BitVec 1 := Scalar.cmpi .ne v141 c0_i32_95
  let v146 : BitVec 1 := Scalar.andi v145 v142
  let v147 : BitVec 32 := Scalar.addi v141 v140
  let v148 : BitVec 32 := Scalar.select v146 v147 v141
  let c1_i32_99 : BitVec 32 := 1#32
  let v149 : BitVec 32 := Scalar.muli v148 c1_i32_99
  let v150 : BitVec 32 := Scalar.addi c0_i32_100 v149
  v150.toNat
def k0_dev12 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v151 : BitVec 32 := Scalar.addi v2 c12_i32
  let c32_i32_101 : BitVec 32 := 32#32
  let c0_i32_102 : BitVec 32 := 0#32
  let v152 : BitVec 1 := Scalar.cmpi .eq c32_i32_101 c0_i32_102
  let c1_i32_103 : BitVec 32 := 1#32
  let v153 : BitVec 32 := Scalar.select v152 c1_i32_103 c32_i32_101
  let v154 : BitVec 32 := Scalar.remsi v151 v153
  let c0_i32_105 : BitVec 32 := 0#32
  let v156 : BitVec 1 := Scalar.cmpi .slt v154 c0_i32_105
  let c0_i32_106 : BitVec 32 := 0#32
  let v157 : BitVec 1 := Scalar.cmpi .slt v153 c0_i32_106
  let v158 : BitVec 1 := Scalar.xori v156 v157
  let c0_i32_104 : BitVec 32 := 0#32
  let v155 : BitVec 1 := Scalar.cmpi .ne v154 c0_i32_104
  let v159 : BitVec 1 := Scalar.andi v158 v155
  let v160 : BitVec 32 := Scalar.addi v154 v153
  let v161 : BitVec 32 := Scalar.select v159 v160 v154
  let c1_i32_108 : BitVec 32 := 1#32
  let v162 : BitVec 32 := Scalar.muli v161 c1_i32_108
  let v163 : BitVec 32 := Scalar.addi c0_i32_109 v162
  v163.toNat
def k0_dev13 (d0 : Dev nD) : Nat :=
  let c0_i32_118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v164 : BitVec 32 := Scalar.addi v2 c13_i32
  let c32_i32_110 : BitVec 32 := 32#32
  let c0_i32_111 : BitVec 32 := 0#32
  let v165 : BitVec 1 := Scalar.cmpi .eq c32_i32_110 c0_i32_111
  let c1_i32_112 : BitVec 32 := 1#32
  let v166 : BitVec 32 := Scalar.select v165 c1_i32_112 c32_i32_110
  let v167 : BitVec 32 := Scalar.remsi v164 v166
  let c0_i32_114 : BitVec 32 := 0#32
  let v169 : BitVec 1 := Scalar.cmpi .slt v167 c0_i32_114
  let c0_i32_115 : BitVec 32 := 0#32
  let v170 : BitVec 1 := Scalar.cmpi .slt v166 c0_i32_115
  let v171 : BitVec 1 := Scalar.xori v169 v170
  let c0_i32_113 : BitVec 32 := 0#32
  let v168 : BitVec 1 := Scalar.cmpi .ne v167 c0_i32_113
  let v172 : BitVec 1 := Scalar.andi v171 v168
  let v173 : BitVec 32 := Scalar.addi v167 v166
  let v174 : BitVec 32 := Scalar.select v172 v173 v167
  let c1_i32_117 : BitVec 32 := 1#32
  let v175 : BitVec 32 := Scalar.muli v174 c1_i32_117
  let v176 : BitVec 32 := Scalar.addi c0_i32_118 v175
  v176.toNat
def k0_dev14 (d0 : Dev nD) : Nat :=
  let c0_i32_127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v177 : BitVec 32 := Scalar.addi v2 c14_i32
  let c32_i32_119 : BitVec 32 := 32#32
  let c0_i32_120 : BitVec 32 := 0#32
  let v178 : BitVec 1 := Scalar.cmpi .eq c32_i32_119 c0_i32_120
  let c1_i32_121 : BitVec 32 := 1#32
  let v179 : BitVec 32 := Scalar.select v178 c1_i32_121 c32_i32_119
  let v180 : BitVec 32 := Scalar.remsi v177 v179
  let c0_i32_123 : BitVec 32 := 0#32
  let v182 : BitVec 1 := Scalar.cmpi .slt v180 c0_i32_123
  let c0_i32_124 : BitVec 32 := 0#32
  let v183 : BitVec 1 := Scalar.cmpi .slt v179 c0_i32_124
  let v184 : BitVec 1 := Scalar.xori v182 v183
  let c0_i32_122 : BitVec 32 := 0#32
  let v181 : BitVec 1 := Scalar.cmpi .ne v180 c0_i32_122
  let v185 : BitVec 1 := Scalar.andi v184 v181
  let v186 : BitVec 32 := Scalar.addi v180 v179
  let v187 : BitVec 32 := Scalar.select v185 v186 v180
  let c1_i32_126 : BitVec 32 := 1#32
  let v188 : BitVec 32 := Scalar.muli v187 c1_i32_126
  let v189 : BitVec 32 := Scalar.addi c0_i32_127 v188
  v189.toNat
def k0_dev15 (d0 : Dev nD) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v190 : BitVec 32 := Scalar.addi v2 c15_i32
  let c32_i32_128 : BitVec 32 := 32#32
  let c0_i32_129 : BitVec 32 := 0#32
  let v191 : BitVec 1 := Scalar.cmpi .eq c32_i32_128 c0_i32_129
  let c1_i32_130 : BitVec 32 := 1#32
  let v192 : BitVec 32 := Scalar.select v191 c1_i32_130 c32_i32_128
  let v193 : BitVec 32 := Scalar.remsi v190 v192
  let c0_i32_132 : BitVec 32 := 0#32
  let v195 : BitVec 1 := Scalar.cmpi .slt v193 c0_i32_132
  let c0_i32_133 : BitVec 32 := 0#32
  let v196 : BitVec 1 := Scalar.cmpi .slt v192 c0_i32_133
  let v197 : BitVec 1 := Scalar.xori v195 v196
  let c0_i32_131 : BitVec 32 := 0#32
  let v194 : BitVec 1 := Scalar.cmpi .ne v193 c0_i32_131
  let v198 : BitVec 1 := Scalar.andi v197 v194
  let v199 : BitVec 32 := Scalar.addi v193 v192
  let v200 : BitVec 32 := Scalar.select v198 v199 v193
  let c1_i32_135 : BitVec 32 := 1#32
  let v201 : BitVec 32 := Scalar.muli v200 c1_i32_135
  let v202 : BitVec 32 := Scalar.addi c0_i32_136 v201
  v202.toNat
def k0_dev16 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v203 : BitVec 32 := Scalar.addi v2 c16_i32
  let c32_i32_137 : BitVec 32 := 32#32
  let c0_i32_138 : BitVec 32 := 0#32
  let v204 : BitVec 1 := Scalar.cmpi .eq c32_i32_137 c0_i32_138
  let c1_i32_139 : BitVec 32 := 1#32
  let v205 : BitVec 32 := Scalar.select v204 c1_i32_139 c32_i32_137
  let v206 : BitVec 32 := Scalar.remsi v203 v205
  let c0_i32_141 : BitVec 32 := 0#32
  let v208 : BitVec 1 := Scalar.cmpi .slt v206 c0_i32_141
  let c0_i32_142 : BitVec 32 := 0#32
  let v209 : BitVec 1 := Scalar.cmpi .slt v205 c0_i32_142
  let v210 : BitVec 1 := Scalar.xori v208 v209
  let c0_i32_140 : BitVec 32 := 0#32
  let v207 : BitVec 1 := Scalar.cmpi .ne v206 c0_i32_140
  let v211 : BitVec 1 := Scalar.andi v210 v207
  let v212 : BitVec 32 := Scalar.addi v206 v205
  let v213 : BitVec 32 := Scalar.select v211 v212 v206
  let c1_i32_144 : BitVec 32 := 1#32
  let v214 : BitVec 32 := Scalar.muli v213 c1_i32_144
  let v215 : BitVec 32 := Scalar.addi c0_i32_145 v214
  v215.toNat
def k0_dev17 (d0 : Dev nD) : Nat :=
  let c0_i32_154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v216 : BitVec 32 := Scalar.addi v2 c17_i32
  let c32_i32_146 : BitVec 32 := 32#32
  let c0_i32_147 : BitVec 32 := 0#32
  let v217 : BitVec 1 := Scalar.cmpi .eq c32_i32_146 c0_i32_147
  let c1_i32_148 : BitVec 32 := 1#32
  let v218 : BitVec 32 := Scalar.select v217 c1_i32_148 c32_i32_146
  let v219 : BitVec 32 := Scalar.remsi v216 v218
  let c0_i32_150 : BitVec 32 := 0#32
  let v221 : BitVec 1 := Scalar.cmpi .slt v219 c0_i32_150
  let c0_i32_151 : BitVec 32 := 0#32
  let v222 : BitVec 1 := Scalar.cmpi .slt v218 c0_i32_151
  let v223 : BitVec 1 := Scalar.xori v221 v222
  let c0_i32_149 : BitVec 32 := 0#32
  let v220 : BitVec 1 := Scalar.cmpi .ne v219 c0_i32_149
  let v224 : BitVec 1 := Scalar.andi v223 v220
  let v225 : BitVec 32 := Scalar.addi v219 v218
  let v226 : BitVec 32 := Scalar.select v224 v225 v219
  let c1_i32_153 : BitVec 32 := 1#32
  let v227 : BitVec 32 := Scalar.muli v226 c1_i32_153
  let v228 : BitVec 32 := Scalar.addi c0_i32_154 v227
  v228.toNat
def k0_dev18 (d0 : Dev nD) : Nat :=
  let c0_i32_163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v229 : BitVec 32 := Scalar.addi v2 c18_i32
  let c32_i32_155 : BitVec 32 := 32#32
  let c0_i32_156 : BitVec 32 := 0#32
  let v230 : BitVec 1 := Scalar.cmpi .eq c32_i32_155 c0_i32_156
  let c1_i32_157 : BitVec 32 := 1#32
  let v231 : BitVec 32 := Scalar.select v230 c1_i32_157 c32_i32_155
  let v232 : BitVec 32 := Scalar.remsi v229 v231
  let c0_i32_159 : BitVec 32 := 0#32
  let v234 : BitVec 1 := Scalar.cmpi .slt v232 c0_i32_159
  let c0_i32_160 : BitVec 32 := 0#32
  let v235 : BitVec 1 := Scalar.cmpi .slt v231 c0_i32_160
  let v236 : BitVec 1 := Scalar.xori v234 v235
  let c0_i32_158 : BitVec 32 := 0#32
  let v233 : BitVec 1 := Scalar.cmpi .ne v232 c0_i32_158
  let v237 : BitVec 1 := Scalar.andi v236 v233
  let v238 : BitVec 32 := Scalar.addi v232 v231
  let v239 : BitVec 32 := Scalar.select v237 v238 v232
  let c1_i32_162 : BitVec 32 := 1#32
  let v240 : BitVec 32 := Scalar.muli v239 c1_i32_162
  let v241 : BitVec 32 := Scalar.addi c0_i32_163 v240
  v241.toNat
def k0_dev19 (d0 : Dev nD) : Nat :=
  let c0_i32_172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v242 : BitVec 32 := Scalar.addi v2 c19_i32
  let c32_i32_164 : BitVec 32 := 32#32
  let c0_i32_165 : BitVec 32 := 0#32
  let v243 : BitVec 1 := Scalar.cmpi .eq c32_i32_164 c0_i32_165
  let c1_i32_166 : BitVec 32 := 1#32
  let v244 : BitVec 32 := Scalar.select v243 c1_i32_166 c32_i32_164
  let v245 : BitVec 32 := Scalar.remsi v242 v244
  let c0_i32_168 : BitVec 32 := 0#32
  let v247 : BitVec 1 := Scalar.cmpi .slt v245 c0_i32_168
  let c0_i32_169 : BitVec 32 := 0#32
  let v248 : BitVec 1 := Scalar.cmpi .slt v244 c0_i32_169
  let v249 : BitVec 1 := Scalar.xori v247 v248
  let c0_i32_167 : BitVec 32 := 0#32
  let v246 : BitVec 1 := Scalar.cmpi .ne v245 c0_i32_167
  let v250 : BitVec 1 := Scalar.andi v249 v246
  let v251 : BitVec 32 := Scalar.addi v245 v244
  let v252 : BitVec 32 := Scalar.select v250 v251 v245
  let c1_i32_171 : BitVec 32 := 1#32
  let v253 : BitVec 32 := Scalar.muli v252 c1_i32_171
  let v254 : BitVec 32 := Scalar.addi c0_i32_172 v253
  v254.toNat
def k0_dev20 (d0 : Dev nD) : Nat :=
  let c0_i32_181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v255 : BitVec 32 := Scalar.addi v2 c20_i32
  let c32_i32_173 : BitVec 32 := 32#32
  let c0_i32_174 : BitVec 32 := 0#32
  let v256 : BitVec 1 := Scalar.cmpi .eq c32_i32_173 c0_i32_174
  let c1_i32_175 : BitVec 32 := 1#32
  let v257 : BitVec 32 := Scalar.select v256 c1_i32_175 c32_i32_173
  let v258 : BitVec 32 := Scalar.remsi v255 v257
  let c0_i32_177 : BitVec 32 := 0#32
  let v260 : BitVec 1 := Scalar.cmpi .slt v258 c0_i32_177
  let c0_i32_178 : BitVec 32 := 0#32
  let v261 : BitVec 1 := Scalar.cmpi .slt v257 c0_i32_178
  let v262 : BitVec 1 := Scalar.xori v260 v261
  let c0_i32_176 : BitVec 32 := 0#32
  let v259 : BitVec 1 := Scalar.cmpi .ne v258 c0_i32_176
  let v263 : BitVec 1 := Scalar.andi v262 v259
  let v264 : BitVec 32 := Scalar.addi v258 v257
  let v265 : BitVec 32 := Scalar.select v263 v264 v258
  let c1_i32_180 : BitVec 32 := 1#32
  let v266 : BitVec 32 := Scalar.muli v265 c1_i32_180
  let v267 : BitVec 32 := Scalar.addi c0_i32_181 v266
  v267.toNat
def k0_dev21 (d0 : Dev nD) : Nat :=
  let c0_i32_190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v268 : BitVec 32 := Scalar.addi v2 c21_i32
  let c32_i32_182 : BitVec 32 := 32#32
  let c0_i32_183 : BitVec 32 := 0#32
  let v269 : BitVec 1 := Scalar.cmpi .eq c32_i32_182 c0_i32_183
  let c1_i32_184 : BitVec 32 := 1#32
  let v270 : BitVec 32 := Scalar.select v269 c1_i32_184 c32_i32_182
  let v271 : BitVec 32 := Scalar.remsi v268 v270
  let c0_i32_186 : BitVec 32 := 0#32
  let v273 : BitVec 1 := Scalar.cmpi .slt v271 c0_i32_186
  let c0_i32_187 : BitVec 32 := 0#32
  let v274 : BitVec 1 := Scalar.cmpi .slt v270 c0_i32_187
  let v275 : BitVec 1 := Scalar.xori v273 v274
  let c0_i32_185 : BitVec 32 := 0#32
  let v272 : BitVec 1 := Scalar.cmpi .ne v271 c0_i32_185
  let v276 : BitVec 1 := Scalar.andi v275 v272
  let v277 : BitVec 32 := Scalar.addi v271 v270
  let v278 : BitVec 32 := Scalar.select v276 v277 v271
  let c1_i32_189 : BitVec 32 := 1#32
  let v279 : BitVec 32 := Scalar.muli v278 c1_i32_189
  let v280 : BitVec 32 := Scalar.addi c0_i32_190 v279
  v280.toNat
def k0_dev22 (d0 : Dev nD) : Nat :=
  let c0_i32_199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v281 : BitVec 32 := Scalar.addi v2 c22_i32
  let c32_i32_191 : BitVec 32 := 32#32
  let c0_i32_192 : BitVec 32 := 0#32
  let v282 : BitVec 1 := Scalar.cmpi .eq c32_i32_191 c0_i32_192
  let c1_i32_193 : BitVec 32 := 1#32
  let v283 : BitVec 32 := Scalar.select v282 c1_i32_193 c32_i32_191
  let v284 : BitVec 32 := Scalar.remsi v281 v283
  let c0_i32_195 : BitVec 32 := 0#32
  let v286 : BitVec 1 := Scalar.cmpi .slt v284 c0_i32_195
  let c0_i32_196 : BitVec 32 := 0#32
  let v287 : BitVec 1 := Scalar.cmpi .slt v283 c0_i32_196
  let v288 : BitVec 1 := Scalar.xori v286 v287
  let c0_i32_194 : BitVec 32 := 0#32
  let v285 : BitVec 1 := Scalar.cmpi .ne v284 c0_i32_194
  let v289 : BitVec 1 := Scalar.andi v288 v285
  let v290 : BitVec 32 := Scalar.addi v284 v283
  let v291 : BitVec 32 := Scalar.select v289 v290 v284
  let c1_i32_198 : BitVec 32 := 1#32
  let v292 : BitVec 32 := Scalar.muli v291 c1_i32_198
  let v293 : BitVec 32 := Scalar.addi c0_i32_199 v292
  v293.toNat
def k0_dev23 (d0 : Dev nD) : Nat :=
  let c0_i32_208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v294 : BitVec 32 := Scalar.addi v2 c23_i32
  let c32_i32_200 : BitVec 32 := 32#32
  let c0_i32_201 : BitVec 32 := 0#32
  let v295 : BitVec 1 := Scalar.cmpi .eq c32_i32_200 c0_i32_201
  let c1_i32_202 : BitVec 32 := 1#32
  let v296 : BitVec 32 := Scalar.select v295 c1_i32_202 c32_i32_200
  let v297 : BitVec 32 := Scalar.remsi v294 v296
  let c0_i32_204 : BitVec 32 := 0#32
  let v299 : BitVec 1 := Scalar.cmpi .slt v297 c0_i32_204
  let c0_i32_205 : BitVec 32 := 0#32
  let v300 : BitVec 1 := Scalar.cmpi .slt v296 c0_i32_205
  let v301 : BitVec 1 := Scalar.xori v299 v300
  let c0_i32_203 : BitVec 32 := 0#32
  let v298 : BitVec 1 := Scalar.cmpi .ne v297 c0_i32_203
  let v302 : BitVec 1 := Scalar.andi v301 v298
  let v303 : BitVec 32 := Scalar.addi v297 v296
  let v304 : BitVec 32 := Scalar.select v302 v303 v297
  let c1_i32_207 : BitVec 32 := 1#32
  let v305 : BitVec 32 := Scalar.muli v304 c1_i32_207
  let v306 : BitVec 32 := Scalar.addi c0_i32_208 v305
  v306.toNat
def k0_dev24 (d0 : Dev nD) : Nat :=
  let c0_i32_217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v307 : BitVec 32 := Scalar.addi v2 c24_i32
  let c32_i32_209 : BitVec 32 := 32#32
  let c0_i32_210 : BitVec 32 := 0#32
  let v308 : BitVec 1 := Scalar.cmpi .eq c32_i32_209 c0_i32_210
  let c1_i32_211 : BitVec 32 := 1#32
  let v309 : BitVec 32 := Scalar.select v308 c1_i32_211 c32_i32_209
  let v310 : BitVec 32 := Scalar.remsi v307 v309
  let c0_i32_213 : BitVec 32 := 0#32
  let v312 : BitVec 1 := Scalar.cmpi .slt v310 c0_i32_213
  let c0_i32_214 : BitVec 32 := 0#32
  let v313 : BitVec 1 := Scalar.cmpi .slt v309 c0_i32_214
  let v314 : BitVec 1 := Scalar.xori v312 v313
  let c0_i32_212 : BitVec 32 := 0#32
  let v311 : BitVec 1 := Scalar.cmpi .ne v310 c0_i32_212
  let v315 : BitVec 1 := Scalar.andi v314 v311
  let v316 : BitVec 32 := Scalar.addi v310 v309
  let v317 : BitVec 32 := Scalar.select v315 v316 v310
  let c1_i32_216 : BitVec 32 := 1#32
  let v318 : BitVec 32 := Scalar.muli v317 c1_i32_216
  let v319 : BitVec 32 := Scalar.addi c0_i32_217 v318
  v319.toNat
def k0_dev25 (d0 : Dev nD) : Nat :=
  let c0_i32_226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v320 : BitVec 32 := Scalar.addi v2 c25_i32
  let c32_i32_218 : BitVec 32 := 32#32
  let c0_i32_219 : BitVec 32 := 0#32
  let v321 : BitVec 1 := Scalar.cmpi .eq c32_i32_218 c0_i32_219
  let c1_i32_220 : BitVec 32 := 1#32
  let v322 : BitVec 32 := Scalar.select v321 c1_i32_220 c32_i32_218
  let v323 : BitVec 32 := Scalar.remsi v320 v322
  let c0_i32_222 : BitVec 32 := 0#32
  let v325 : BitVec 1 := Scalar.cmpi .slt v323 c0_i32_222
  let c0_i32_223 : BitVec 32 := 0#32
  let v326 : BitVec 1 := Scalar.cmpi .slt v322 c0_i32_223
  let v327 : BitVec 1 := Scalar.xori v325 v326
  let c0_i32_221 : BitVec 32 := 0#32
  let v324 : BitVec 1 := Scalar.cmpi .ne v323 c0_i32_221
  let v328 : BitVec 1 := Scalar.andi v327 v324
  let v329 : BitVec 32 := Scalar.addi v323 v322
  let v330 : BitVec 32 := Scalar.select v328 v329 v323
  let c1_i32_225 : BitVec 32 := 1#32
  let v331 : BitVec 32 := Scalar.muli v330 c1_i32_225
  let v332 : BitVec 32 := Scalar.addi c0_i32_226 v331
  v332.toNat
def k0_dev26 (d0 : Dev nD) : Nat :=
  let c0_i32_235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v333 : BitVec 32 := Scalar.addi v2 c26_i32
  let c32_i32_227 : BitVec 32 := 32#32
  let c0_i32_228 : BitVec 32 := 0#32
  let v334 : BitVec 1 := Scalar.cmpi .eq c32_i32_227 c0_i32_228
  let c1_i32_229 : BitVec 32 := 1#32
  let v335 : BitVec 32 := Scalar.select v334 c1_i32_229 c32_i32_227
  let v336 : BitVec 32 := Scalar.remsi v333 v335
  let c0_i32_231 : BitVec 32 := 0#32
  let v338 : BitVec 1 := Scalar.cmpi .slt v336 c0_i32_231
  let c0_i32_232 : BitVec 32 := 0#32
  let v339 : BitVec 1 := Scalar.cmpi .slt v335 c0_i32_232
  let v340 : BitVec 1 := Scalar.xori v338 v339
  let c0_i32_230 : BitVec 32 := 0#32
  let v337 : BitVec 1 := Scalar.cmpi .ne v336 c0_i32_230
  let v341 : BitVec 1 := Scalar.andi v340 v337
  let v342 : BitVec 32 := Scalar.addi v336 v335
  let v343 : BitVec 32 := Scalar.select v341 v342 v336
  let c1_i32_234 : BitVec 32 := 1#32
  let v344 : BitVec 32 := Scalar.muli v343 c1_i32_234
  let v345 : BitVec 32 := Scalar.addi c0_i32_235 v344
  v345.toNat
def k0_dev27 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v346 : BitVec 32 := Scalar.addi v2 c27_i32
  let c32_i32_236 : BitVec 32 := 32#32
  let c0_i32_237 : BitVec 32 := 0#32
  let v347 : BitVec 1 := Scalar.cmpi .eq c32_i32_236 c0_i32_237
  let c1_i32_238 : BitVec 32 := 1#32
  let v348 : BitVec 32 := Scalar.select v347 c1_i32_238 c32_i32_236
  let v349 : BitVec 32 := Scalar.remsi v346 v348
  let c0_i32_240 : BitVec 32 := 0#32
  let v351 : BitVec 1 := Scalar.cmpi .slt v349 c0_i32_240
  let c0_i32_241 : BitVec 32 := 0#32
  let v352 : BitVec 1 := Scalar.cmpi .slt v348 c0_i32_241
  let v353 : BitVec 1 := Scalar.xori v351 v352
  let c0_i32_239 : BitVec 32 := 0#32
  let v350 : BitVec 1 := Scalar.cmpi .ne v349 c0_i32_239
  let v354 : BitVec 1 := Scalar.andi v353 v350
  let v355 : BitVec 32 := Scalar.addi v349 v348
  let v356 : BitVec 32 := Scalar.select v354 v355 v349
  let c1_i32_243 : BitVec 32 := 1#32
  let v357 : BitVec 32 := Scalar.muli v356 c1_i32_243
  let v358 : BitVec 32 := Scalar.addi c0_i32_244 v357
  v358.toNat
def k0_dev28 (d0 : Dev nD) : Nat :=
  let c0_i32_253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v359 : BitVec 32 := Scalar.addi v2 c28_i32
  let c32_i32_245 : BitVec 32 := 32#32
  let c0_i32_246 : BitVec 32 := 0#32
  let v360 : BitVec 1 := Scalar.cmpi .eq c32_i32_245 c0_i32_246
  let c1_i32_247 : BitVec 32 := 1#32
  let v361 : BitVec 32 := Scalar.select v360 c1_i32_247 c32_i32_245
  let v362 : BitVec 32 := Scalar.remsi v359 v361
  let c0_i32_249 : BitVec 32 := 0#32
  let v364 : BitVec 1 := Scalar.cmpi .slt v362 c0_i32_249
  let c0_i32_250 : BitVec 32 := 0#32
  let v365 : BitVec 1 := Scalar.cmpi .slt v361 c0_i32_250
  let v366 : BitVec 1 := Scalar.xori v364 v365
  let c0_i32_248 : BitVec 32 := 0#32
  let v363 : BitVec 1 := Scalar.cmpi .ne v362 c0_i32_248
  let v367 : BitVec 1 := Scalar.andi v366 v363
  let v368 : BitVec 32 := Scalar.addi v362 v361
  let v369 : BitVec 32 := Scalar.select v367 v368 v362
  let c1_i32_252 : BitVec 32 := 1#32
  let v370 : BitVec 32 := Scalar.muli v369 c1_i32_252
  let v371 : BitVec 32 := Scalar.addi c0_i32_253 v370
  v371.toNat
def k0_dev29 (d0 : Dev nD) : Nat :=
  let c0_i32_262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v372 : BitVec 32 := Scalar.addi v2 c29_i32
  let c32_i32_254 : BitVec 32 := 32#32
  let c0_i32_255 : BitVec 32 := 0#32
  let v373 : BitVec 1 := Scalar.cmpi .eq c32_i32_254 c0_i32_255
  let c1_i32_256 : BitVec 32 := 1#32
  let v374 : BitVec 32 := Scalar.select v373 c1_i32_256 c32_i32_254
  let v375 : BitVec 32 := Scalar.remsi v372 v374
  let c0_i32_258 : BitVec 32 := 0#32
  let v377 : BitVec 1 := Scalar.cmpi .slt v375 c0_i32_258
  let c0_i32_259 : BitVec 32 := 0#32
  let v378 : BitVec 1 := Scalar.cmpi .slt v374 c0_i32_259
  let v379 : BitVec 1 := Scalar.xori v377 v378
  let c0_i32_257 : BitVec 32 := 0#32
  let v376 : BitVec 1 := Scalar.cmpi .ne v375 c0_i32_257
  let v380 : BitVec 1 := Scalar.andi v379 v376
  let v381 : BitVec 32 := Scalar.addi v375 v374
  let v382 : BitVec 32 := Scalar.select v380 v381 v375
  let c1_i32_261 : BitVec 32 := 1#32
  let v383 : BitVec 32 := Scalar.muli v382 c1_i32_261
  let v384 : BitVec 32 := Scalar.addi c0_i32_262 v383
  v384.toNat
def k0_dev30 (d0 : Dev nD) : Nat :=
  let c0_i32_271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v385 : BitVec 32 := Scalar.addi v2 c30_i32
  let c32_i32_263 : BitVec 32 := 32#32
  let c0_i32_264 : BitVec 32 := 0#32
  let v386 : BitVec 1 := Scalar.cmpi .eq c32_i32_263 c0_i32_264
  let c1_i32_265 : BitVec 32 := 1#32
  let v387 : BitVec 32 := Scalar.select v386 c1_i32_265 c32_i32_263
  let v388 : BitVec 32 := Scalar.remsi v385 v387
  let c0_i32_267 : BitVec 32 := 0#32
  let v390 : BitVec 1 := Scalar.cmpi .slt v388 c0_i32_267
  let c0_i32_268 : BitVec 32 := 0#32
  let v391 : BitVec 1 := Scalar.cmpi .slt v387 c0_i32_268
  let v392 : BitVec 1 := Scalar.xori v390 v391
  let c0_i32_266 : BitVec 32 := 0#32
  let v389 : BitVec 1 := Scalar.cmpi .ne v388 c0_i32_266
  let v393 : BitVec 1 := Scalar.andi v392 v389
  let v394 : BitVec 32 := Scalar.addi v388 v387
  let v395 : BitVec 32 := Scalar.select v393 v394 v388
  let c1_i32_270 : BitVec 32 := 1#32
  let v396 : BitVec 32 := Scalar.muli v395 c1_i32_270
  let v397 : BitVec 32 := Scalar.addi c0_i32_271 v396
  v397.toNat
def k0_dev31 (d0 : Dev nD) : Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v398 : BitVec 32 := Scalar.addi v2 c31_i32
  let c32_i32_272 : BitVec 32 := 32#32
  let c0_i32_273 : BitVec 32 := 0#32
  let v399 : BitVec 1 := Scalar.cmpi .eq c32_i32_272 c0_i32_273
  let c1_i32_274 : BitVec 32 := 1#32
  let v400 : BitVec 32 := Scalar.select v399 c1_i32_274 c32_i32_272
  let v401 : BitVec 32 := Scalar.remsi v398 v400
  let c0_i32_276 : BitVec 32 := 0#32
  let v403 : BitVec 1 := Scalar.cmpi .slt v401 c0_i32_276
  let c0_i32_277 : BitVec 32 := 0#32
  let v404 : BitVec 1 := Scalar.cmpi .slt v400 c0_i32_277
  let v405 : BitVec 1 := Scalar.xori v403 v404
  let c0_i32_275 : BitVec 32 := 0#32
  let v402 : BitVec 1 := Scalar.cmpi .ne v401 c0_i32_275
  let v406 : BitVec 1 := Scalar.andi v405 v402
  let v407 : BitVec 32 := Scalar.addi v401 v400
  let v408 : BitVec 32 := Scalar.select v406 v407 v401
  let c1_i32_279 : BitVec 32 := 1#32
  let v409 : BitVec 32 := Scalar.muli v408 c1_i32_279
  let v410 : BitVec 32 := Scalar.addi c0_i32_280 v409
  v410.toNat
@[reducible] def k0_t1_loop : Scf.Loop 32 :=
  let c0_i32_327 : BitVec 32 := 0#32
  let c1024_i32 : BitVec 32 := 1024#32
  let v507 : BitVec 32 := Scalar.addi c0_i32_327 c1024_i32
  let c1_i32_328 : BitVec 32 := 1#32
  ⟨c0_i32_327, v507, c1_i32_328⟩
def k0_off1 (k0_t1 : Fin k0_t1_loop.trips) : Fin 2 → Nat :=
  let c0_i32_327 : BitVec 32 := 0#32
  let c1_i32_328 : BitVec 32 := 1#32
  let arg11 : BitVec 32 := Scf.iv c0_i32_327 c1_i32_328 k0_t1
  let v1433 : Index := Scalar.indexCast arg11
  let c0_801 : Index := 0#32
  ![v1433.toNat, 0]
def k0_off2 (arg12 : BitVec 32) : Fin 1 → Nat :=
  let c32_i32_818 : BitVec 32 := 32#32
  let v1478 : BitVec 32 := Scalar.remsi arg12 c32_i32_818
  ![v1478.toNat]
def k0_cond1 (d0 : Dev nD) (k0_t1 : Fin k0_t1_loop.trips) (v1434 : BitVec 32) : BitVec 1 :=
  let c0_i32_803 : BitVec 32 := 0#32
  let v1436 : BitVec 1 := Scalar.cmpi .sgt v1434 c0_i32_803
  let v1437 : BitVec 32 := Scalar.extui v1436
  let c0_i32_804 : BitVec 32 := 0#32
  let v1438 : BitVec 1 := Scalar.cmpi .slt v1434 c0_i32_804
  let v1439 : BitVec 32 := Scalar.extui v1438
  let v1440 : BitVec 32 := Scalar.subi v1437 v1439
  let c4_i32_802 : BitVec 32 := 4#32
  let c0_i32_805 : BitVec 32 := 0#32
  let v1441 : BitVec 1 := Scalar.cmpi .sgt c4_i32_802 c0_i32_805
  let v1442 : BitVec 32 := Scalar.extui v1441
  let c0_i32_806 : BitVec 32 := 0#32
  let v1443 : BitVec 1 := Scalar.cmpi .slt c4_i32_802 c0_i32_806
  let v1444 : BitVec 32 := Scalar.extui v1443
  let v1445 : BitVec 32 := Scalar.subi v1442 v1444
  let v1446 : BitVec 1 := Scalar.cmpi .ne v1440 v1445
  let v1447 : BitVec 32 := Scalar.remsi v1434 c4_i32_802
  let c0_i32_807 : BitVec 32 := 0#32
  let v1448 : BitVec 1 := Scalar.cmpi .ne v1447 c0_i32_807
  let v1449 : BitVec 1 := Scalar.andi v1446 v1448
  let v1435 : BitVec 32 := Scalar.divsi v1434 c4_i32_802
  let c1_i32_808 : BitVec 32 := 1#32
  let v1450 : BitVec 32 := Scalar.subi v1435 c1_i32_808
  let v1451 : BitVec 32 := Scalar.select v1449 v1450 v1435
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1452 : BitVec 1 := Scalar.cmpi .eq v1451 v2
  let c0_i32_327 : BitVec 32 := 0#32
  let c1_i32_328 : BitVec 32 := 1#32
  let arg11 : BitVec 32 := Scf.iv c0_i32_327 c1_i32_328 k0_t1
  let c0_i32_810 : BitVec 32 := 0#32
  let v1454 : BitVec 1 := Scalar.cmpi .sgt arg11 c0_i32_810
  let v1455 : BitVec 32 := Scalar.extui v1454
  let c0_i32_811 : BitVec 32 := 0#32
  let v1456 : BitVec 1 := Scalar.cmpi .slt arg11 c0_i32_811
  let v1457 : BitVec 32 := Scalar.extui v1456
  let v1458 : BitVec 32 := Scalar.subi v1455 v1457
  let c32_i32_809 : BitVec 32 := 32#32
  let c0_i32_812 : BitVec 32 := 0#32
  let v1459 : BitVec 1 := Scalar.cmpi .sgt c32_i32_809 c0_i32_812
  let v1460 : BitVec 32 := Scalar.extui v1459
  let c0_i32_813 : BitVec 32 := 0#32
  let v1461 : BitVec 1 := Scalar.cmpi .slt c32_i32_809 c0_i32_813
  let v1462 : BitVec 32 := Scalar.extui v1461
  let v1463 : BitVec 32 := Scalar.subi v1460 v1462
  let v1464 : BitVec 1 := Scalar.cmpi .ne v1458 v1463
  let v1465 : BitVec 32 := Scalar.remsi arg11 c32_i32_809
  let c0_i32_814 : BitVec 32 := 0#32
  let v1466 : BitVec 1 := Scalar.cmpi .ne v1465 c0_i32_814
  let v1467 : BitVec 1 := Scalar.andi v1464 v1466
  let v1453 : BitVec 32 := Scalar.divsi arg11 c32_i32_809
  let c1_i32_815 : BitVec 32 := 1#32
  let v1468 : BitVec 32 := Scalar.subi v1453 c1_i32_815
  let v1469 : BitVec 32 := Scalar.select v1467 v1468 v1453
  let v1472 : BitVec 1 := Scalar.cmpi .ne v1469 v2
  let v1473 : BitVec 1 := Scalar.andi v1452 v1472
  let v1474 : BitVec 32 := Scalar.extui v1473
  let c0_i32_817 : BitVec 32 := 0#32
  let v1475 : BitVec 1 := Scalar.cmpi .ne v1474 c0_i32_817
  v1475

def k0_cond2 (arg12 : BitVec 32) : BitVec 1 :=
  let c32_i32_819 : BitVec 32 := 32#32
  let v1479 : BitVec 1 := Scalar.cmpi .sge arg12 c32_i32_819
  let v1480 : BitVec 32 := Scalar.extui v1479
  let c0_i32_820 : BitVec 32 := 0#32
  let v1481 : BitVec 1 := Scalar.cmpi .ne v1480 c0_i32_820
  v1481

def k0_off3 (arg12 : BitVec 32) : Fin 1 → Nat :=
  let c32_i32_818 : BitVec 32 := 32#32
  let v1478 : BitVec 32 := Scalar.remsi arg12 c32_i32_818
  ![v1478.toNat]

def k0_chk1 (d0 : Dev nD) (k0_t1 : Fin k0_t1_loop.trips) (arg12 : BitVec 32) (v1434 : BitVec 32) : Prop :=
  (∀ (k0_h1 : k0_cond1 d0 k0_t1 v1434 = 1#1), ∀ (k0_h2 : k0_cond2 arg12 = 1#1), ∀ a, (k0_off2 arg12) a + S1.size a ≤ S32.size a) ∧
  (∀ (k0_h1 : k0_cond1 d0 k0_t1 v1434 = 1#1), ∀ a, (k0_off3 arg12) a + S1.size a ≤ S32.size a)
theorem k0_off2_inb : ∀ (d0 : Dev nD) (k0_t1 : Fin k0_t1_loop.trips) (arg12 : BitVec 32) (v1434 : BitVec 32) (k0_hw1 : k0_chk1 d0 k0_t1 arg12 v1434), ∀ (k0_h1 : k0_cond1 d0 k0_t1 v1434 = 1#1), ∀ (k0_h2 : k0_cond2 arg12 = 1#1), ∀ a, (k0_off2 arg12) a + S1.size a ≤ S32.size a := fun d0 k0_t1 arg12 v1434 k0_hw1 k0_h1 k0_h2 => k0_hw1.1 k0_h1 k0_h2
theorem k0_off3_inb : ∀ (d0 : Dev nD) (k0_t1 : Fin k0_t1_loop.trips) (arg12 : BitVec 32) (v1434 : BitVec 32) (k0_hw1 : k0_chk1 d0 k0_t1 arg12 v1434), ∀ (k0_h1 : k0_cond1 d0 k0_t1 v1434 = 1#1), ∀ a, (k0_off3 arg12) a + S1.size a ≤ S32.size a := fun d0 k0_t1 arg12 v1434 k0_hw1 k0_h1 => k0_hw1.2 k0_h1

def k0_off4 (k0_t1 : Fin k0_t1_loop.trips) : Fin 1 → Nat :=
  let c0_i32_327 : BitVec 32 := 0#32
  let c1_i32_328 : BitVec 32 := 1#32
  let arg11 : BitVec 32 := Scf.iv c0_i32_327 c1_i32_328 k0_t1
  let c0_i32_810 : BitVec 32 := 0#32
  let v1454 : BitVec 1 := Scalar.cmpi .sgt arg11 c0_i32_810
  let v1455 : BitVec 32 := Scalar.extui v1454
  let c0_i32_811 : BitVec 32 := 0#32
  let v1456 : BitVec 1 := Scalar.cmpi .slt arg11 c0_i32_811
  let v1457 : BitVec 32 := Scalar.extui v1456
  let v1458 : BitVec 32 := Scalar.subi v1455 v1457
  let c32_i32_809 : BitVec 32 := 32#32
  let c0_i32_812 : BitVec 32 := 0#32
  let v1459 : BitVec 1 := Scalar.cmpi .sgt c32_i32_809 c0_i32_812
  let v1460 : BitVec 32 := Scalar.extui v1459
  let c0_i32_813 : BitVec 32 := 0#32
  let v1461 : BitVec 1 := Scalar.cmpi .slt c32_i32_809 c0_i32_813
  let v1462 : BitVec 32 := Scalar.extui v1461
  let v1463 : BitVec 32 := Scalar.subi v1460 v1462
  let v1464 : BitVec 1 := Scalar.cmpi .ne v1458 v1463
  let v1465 : BitVec 32 := Scalar.remsi arg11 c32_i32_809
  let c0_i32_814 : BitVec 32 := 0#32
  let v1466 : BitVec 1 := Scalar.cmpi .ne v1465 c0_i32_814
  let v1467 : BitVec 1 := Scalar.andi v1464 v1466
  let v1453 : BitVec 32 := Scalar.divsi arg11 c32_i32_809
  let c1_i32_815 : BitVec 32 := 1#32
  let v1468 : BitVec 32 := Scalar.subi v1453 c1_i32_815
  let v1469 : BitVec 32 := Scalar.select v1467 v1468 v1453
  let c32_i32_816 : BitVec 32 := 32#32
  let v1470 : BitVec 32 := Scalar.muli v1469 c32_i32_816
  let v1471 : BitVec 32 := Scalar.subi arg11 v1470
  ![v1471.toNat]
def k0_off5 (k0_t1 : Fin k0_t1_loop.trips) : Fin 3 → Nat :=
  let c0_i32_327 : BitVec 32 := 0#32
  let c1_i32_328 : BitVec 32 := 1#32
  let arg11 : BitVec 32 := Scf.iv c0_i32_327 c1_i32_328 k0_t1
  let c0_i32_810 : BitVec 32 := 0#32
  let v1454 : BitVec 1 := Scalar.cmpi .sgt arg11 c0_i32_810
  let v1455 : BitVec 32 := Scalar.extui v1454
  let c0_i32_811 : BitVec 32 := 0#32
  let v1456 : BitVec 1 := Scalar.cmpi .slt arg11 c0_i32_811
  let v1457 : BitVec 32 := Scalar.extui v1456
  let v1458 : BitVec 32 := Scalar.subi v1455 v1457
  let c32_i32_809 : BitVec 32 := 32#32
  let c0_i32_812 : BitVec 32 := 0#32
  let v1459 : BitVec 1 := Scalar.cmpi .sgt c32_i32_809 c0_i32_812
  let v1460 : BitVec 32 := Scalar.extui v1459
  let c0_i32_813 : BitVec 32 := 0#32
  let v1461 : BitVec 1 := Scalar.cmpi .slt c32_i32_809 c0_i32_813
  let v1462 : BitVec 32 := Scalar.extui v1461
  let v1463 : BitVec 32 := Scalar.subi v1460 v1462
  let v1464 : BitVec 1 := Scalar.cmpi .ne v1458 v1463
  let v1465 : BitVec 32 := Scalar.remsi arg11 c32_i32_809
  let c0_i32_814 : BitVec 32 := 0#32
  let v1466 : BitVec 1 := Scalar.cmpi .ne v1465 c0_i32_814
  let v1467 : BitVec 1 := Scalar.andi v1464 v1466
  let v1453 : BitVec 32 := Scalar.divsi arg11 c32_i32_809
  let c1_i32_815 : BitVec 32 := 1#32
  let v1468 : BitVec 32 := Scalar.subi v1453 c1_i32_815
  let v1469 : BitVec 32 := Scalar.select v1467 v1468 v1453
  let c32_i32_816 : BitVec 32 := 32#32
  let v1470 : BitVec 32 := Scalar.muli v1469 c32_i32_816
  let v1471 : BitVec 32 := Scalar.subi arg11 v1470
  let c0_i32_823 : BitVec 32 := 0#32
  let c0_i32_824 : BitVec 32 := 0#32
  ![v1471.toNat, 0, 0]
def k0_off6 (k0_t1 : Fin k0_t1_loop.trips) : Fin 3 → Nat :=
  let c0_i32_327 : BitVec 32 := 0#32
  let c1_i32_328 : BitVec 32 := 1#32
  let arg11 : BitVec 32 := Scf.iv c0_i32_327 c1_i32_328 k0_t1
  let c0_i32_825 : BitVec 32 := 0#32
  let c0_i32_826 : BitVec 32 := 0#32
  ![arg11.toNat, 0, 0]
def k0_dev32 (k0_t1 : Fin k0_t1_loop.trips) : Nat :=
  let c0_i32_822 : BitVec 32 := 0#32
  let c0_i32_327 : BitVec 32 := 0#32
  let c1_i32_328 : BitVec 32 := 1#32
  let arg11 : BitVec 32 := Scf.iv c0_i32_327 c1_i32_328 k0_t1
  let c0_i32_810 : BitVec 32 := 0#32
  let v1454 : BitVec 1 := Scalar.cmpi .sgt arg11 c0_i32_810
  let v1455 : BitVec 32 := Scalar.extui v1454
  let c0_i32_811 : BitVec 32 := 0#32
  let v1456 : BitVec 1 := Scalar.cmpi .slt arg11 c0_i32_811
  let v1457 : BitVec 32 := Scalar.extui v1456
  let v1458 : BitVec 32 := Scalar.subi v1455 v1457
  let c32_i32_809 : BitVec 32 := 32#32
  let c0_i32_812 : BitVec 32 := 0#32
  let v1459 : BitVec 1 := Scalar.cmpi .sgt c32_i32_809 c0_i32_812
  let v1460 : BitVec 32 := Scalar.extui v1459
  let c0_i32_813 : BitVec 32 := 0#32
  let v1461 : BitVec 1 := Scalar.cmpi .slt c32_i32_809 c0_i32_813
  let v1462 : BitVec 32 := Scalar.extui v1461
  let v1463 : BitVec 32 := Scalar.subi v1460 v1462
  let v1464 : BitVec 1 := Scalar.cmpi .ne v1458 v1463
  let v1465 : BitVec 32 := Scalar.remsi arg11 c32_i32_809
  let c0_i32_814 : BitVec 32 := 0#32
  let v1466 : BitVec 1 := Scalar.cmpi .ne v1465 c0_i32_814
  let v1467 : BitVec 1 := Scalar.andi v1464 v1466
  let v1453 : BitVec 32 := Scalar.divsi arg11 c32_i32_809
  let c1_i32_815 : BitVec 32 := 1#32
  let v1468 : BitVec 32 := Scalar.subi v1453 c1_i32_815
  let v1469 : BitVec 32 := Scalar.select v1467 v1468 v1453
  let c1_i32_821 : BitVec 32 := 1#32
  let v1482 : BitVec 32 := Scalar.muli v1469 c1_i32_821
  let v1483 : BitVec 32 := Scalar.addi c0_i32_822 v1482
  v1483.toNat
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_330 : BitVec 32 := 32#32
  let v509 : BitVec 32 := Scalar.muli v2 c32_i32_330
  let v510 : Index := Scalar.indexCast v509
  let c0_331 : Index := 0#32
  ![v510.toNat, 0]
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_335 : BitVec 32 := 32#32
  let v516 : BitVec 32 := Scalar.muli v2 c32_i32_335
  let c0_i32_336 : BitVec 32 := 0#32
  let v517 : BitVec 32 := Scalar.addi v516 c0_i32_336
  let v518 : Index := Scalar.indexCast v517
  let c0_337 : Index := 0#32
  ![v518.toNat, 0]
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v540 : BitVec 32 := Scalar.muli v2 c32_i32_346
  let c1_i32_347 : BitVec 32 := 1#32
  let v541 : BitVec 32 := Scalar.addi v540 c1_i32_347
  let v542 : Index := Scalar.indexCast v541
  let c0_348 : Index := 0#32
  ![v542.toNat, 0]
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_357 : BitVec 32 := 32#32
  let v564 : BitVec 32 := Scalar.muli v2 c32_i32_357
  let c2_i32_358 : BitVec 32 := 2#32
  let v565 : BitVec 32 := Scalar.addi v564 c2_i32_358
  let v566 : Index := Scalar.indexCast v565
  let c0_359 : Index := 0#32
  ![v566.toNat, 0]
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_368 : BitVec 32 := 32#32
  let v588 : BitVec 32 := Scalar.muli v2 c32_i32_368
  let c3_i32_369 : BitVec 32 := 3#32
  let v589 : BitVec 32 := Scalar.addi v588 c3_i32_369
  let v590 : Index := Scalar.indexCast v589
  let c0_370 : Index := 0#32
  ![v590.toNat, 0]
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_379 : BitVec 32 := 32#32
  let v612 : BitVec 32 := Scalar.muli v2 c32_i32_379
  let c4_i32_380 : BitVec 32 := 4#32
  let v613 : BitVec 32 := Scalar.addi v612 c4_i32_380
  let v614 : Index := Scalar.indexCast v613
  let c0_381 : Index := 0#32
  ![v614.toNat, 0]
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_390 : BitVec 32 := 32#32
  let v636 : BitVec 32 := Scalar.muli v2 c32_i32_390
  let c5_i32_391 : BitVec 32 := 5#32
  let v637 : BitVec 32 := Scalar.addi v636 c5_i32_391
  let v638 : Index := Scalar.indexCast v637
  let c0_392 : Index := 0#32
  ![v638.toNat, 0]
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_401 : BitVec 32 := 32#32
  let v660 : BitVec 32 := Scalar.muli v2 c32_i32_401
  let c6_i32_402 : BitVec 32 := 6#32
  let v661 : BitVec 32 := Scalar.addi v660 c6_i32_402
  let v662 : Index := Scalar.indexCast v661
  let c0_403 : Index := 0#32
  ![v662.toNat, 0]
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_412 : BitVec 32 := 32#32
  let v684 : BitVec 32 := Scalar.muli v2 c32_i32_412
  let c7_i32_413 : BitVec 32 := 7#32
  let v685 : BitVec 32 := Scalar.addi v684 c7_i32_413
  let v686 : Index := Scalar.indexCast v685
  let c0_414 : Index := 0#32
  ![v686.toNat, 0]
def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_423 : BitVec 32 := 32#32
  let v708 : BitVec 32 := Scalar.muli v2 c32_i32_423
  let c8_i32_424 : BitVec 32 := 8#32
  let v709 : BitVec 32 := Scalar.addi v708 c8_i32_424
  let v710 : Index := Scalar.indexCast v709
  let c0_425 : Index := 0#32
  ![v710.toNat, 0]
def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_434 : BitVec 32 := 32#32
  let v732 : BitVec 32 := Scalar.muli v2 c32_i32_434
  let c9_i32_435 : BitVec 32 := 9#32
  let v733 : BitVec 32 := Scalar.addi v732 c9_i32_435
  let v734 : Index := Scalar.indexCast v733
  let c0_436 : Index := 0#32
  ![v734.toNat, 0]
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_445 : BitVec 32 := 32#32
  let v756 : BitVec 32 := Scalar.muli v2 c32_i32_445
  let c10_i32_446 : BitVec 32 := 10#32
  let v757 : BitVec 32 := Scalar.addi v756 c10_i32_446
  let v758 : Index := Scalar.indexCast v757
  let c0_447 : Index := 0#32
  ![v758.toNat, 0]
def k0_off19 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_456 : BitVec 32 := 32#32
  let v780 : BitVec 32 := Scalar.muli v2 c32_i32_456
  let c11_i32_457 : BitVec 32 := 11#32
  let v781 : BitVec 32 := Scalar.addi v780 c11_i32_457
  let v782 : Index := Scalar.indexCast v781
  let c0_458 : Index := 0#32
  ![v782.toNat, 0]
def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_467 : BitVec 32 := 32#32
  let v804 : BitVec 32 := Scalar.muli v2 c32_i32_467
  let c12_i32_468 : BitVec 32 := 12#32
  let v805 : BitVec 32 := Scalar.addi v804 c12_i32_468
  let v806 : Index := Scalar.indexCast v805
  let c0_469 : Index := 0#32
  ![v806.toNat, 0]
def k0_off21 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_478 : BitVec 32 := 32#32
  let v828 : BitVec 32 := Scalar.muli v2 c32_i32_478
  let c13_i32_479 : BitVec 32 := 13#32
  let v829 : BitVec 32 := Scalar.addi v828 c13_i32_479
  let v830 : Index := Scalar.indexCast v829
  let c0_480 : Index := 0#32
  ![v830.toNat, 0]
def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_489 : BitVec 32 := 32#32
  let v852 : BitVec 32 := Scalar.muli v2 c32_i32_489
  let c14_i32_490 : BitVec 32 := 14#32
  let v853 : BitVec 32 := Scalar.addi v852 c14_i32_490
  let v854 : Index := Scalar.indexCast v853
  let c0_491 : Index := 0#32
  ![v854.toNat, 0]
def k0_off23 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_500 : BitVec 32 := 32#32
  let v876 : BitVec 32 := Scalar.muli v2 c32_i32_500
  let c15_i32_501 : BitVec 32 := 15#32
  let v877 : BitVec 32 := Scalar.addi v876 c15_i32_501
  let v878 : Index := Scalar.indexCast v877
  let c0_502 : Index := 0#32
  ![v878.toNat, 0]
def k0_off24 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_511 : BitVec 32 := 32#32
  let v900 : BitVec 32 := Scalar.muli v2 c32_i32_511
  let c16_i32_512 : BitVec 32 := 16#32
  let v901 : BitVec 32 := Scalar.addi v900 c16_i32_512
  let v902 : Index := Scalar.indexCast v901
  let c0_513 : Index := 0#32
  ![v902.toNat, 0]
def k0_off25 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_522 : BitVec 32 := 32#32
  let v924 : BitVec 32 := Scalar.muli v2 c32_i32_522
  let c17_i32_523 : BitVec 32 := 17#32
  let v925 : BitVec 32 := Scalar.addi v924 c17_i32_523
  let v926 : Index := Scalar.indexCast v925
  let c0_524 : Index := 0#32
  ![v926.toNat, 0]
def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_533 : BitVec 32 := 32#32
  let v948 : BitVec 32 := Scalar.muli v2 c32_i32_533
  let c18_i32_534 : BitVec 32 := 18#32
  let v949 : BitVec 32 := Scalar.addi v948 c18_i32_534
  let v950 : Index := Scalar.indexCast v949
  let c0_535 : Index := 0#32
  ![v950.toNat, 0]
def k0_off27 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_544 : BitVec 32 := 32#32
  let v972 : BitVec 32 := Scalar.muli v2 c32_i32_544
  let c19_i32_545 : BitVec 32 := 19#32
  let v973 : BitVec 32 := Scalar.addi v972 c19_i32_545
  let v974 : Index := Scalar.indexCast v973
  let c0_546 : Index := 0#32
  ![v974.toNat, 0]
def k0_off28 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_555 : BitVec 32 := 32#32
  let v996 : BitVec 32 := Scalar.muli v2 c32_i32_555
  let c20_i32_556 : BitVec 32 := 20#32
  let v997 : BitVec 32 := Scalar.addi v996 c20_i32_556
  let v998 : Index := Scalar.indexCast v997
  let c0_557 : Index := 0#32
  ![v998.toNat, 0]
def k0_off29 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_566 : BitVec 32 := 32#32
  let v1020 : BitVec 32 := Scalar.muli v2 c32_i32_566
  let c21_i32_567 : BitVec 32 := 21#32
  let v1021 : BitVec 32 := Scalar.addi v1020 c21_i32_567
  let v1022 : Index := Scalar.indexCast v1021
  let c0_568 : Index := 0#32
  ![v1022.toNat, 0]
def k0_off30 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_577 : BitVec 32 := 32#32
  let v1044 : BitVec 32 := Scalar.muli v2 c32_i32_577
  let c22_i32_578 : BitVec 32 := 22#32
  let v1045 : BitVec 32 := Scalar.addi v1044 c22_i32_578
  let v1046 : Index := Scalar.indexCast v1045
  let c0_579 : Index := 0#32
  ![v1046.toNat, 0]
def k0_off31 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_588 : BitVec 32 := 32#32
  let v1068 : BitVec 32 := Scalar.muli v2 c32_i32_588
  let c23_i32_589 : BitVec 32 := 23#32
  let v1069 : BitVec 32 := Scalar.addi v1068 c23_i32_589
  let v1070 : Index := Scalar.indexCast v1069
  let c0_590 : Index := 0#32
  ![v1070.toNat, 0]
def k0_off32 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_599 : BitVec 32 := 32#32
  let v1092 : BitVec 32 := Scalar.muli v2 c32_i32_599
  let c24_i32_600 : BitVec 32 := 24#32
  let v1093 : BitVec 32 := Scalar.addi v1092 c24_i32_600
  let v1094 : Index := Scalar.indexCast v1093
  let c0_601 : Index := 0#32
  ![v1094.toNat, 0]
def k0_off33 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_610 : BitVec 32 := 32#32
  let v1116 : BitVec 32 := Scalar.muli v2 c32_i32_610
  let c25_i32_611 : BitVec 32 := 25#32
  let v1117 : BitVec 32 := Scalar.addi v1116 c25_i32_611
  let v1118 : Index := Scalar.indexCast v1117
  let c0_612 : Index := 0#32
  ![v1118.toNat, 0]
def k0_off34 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_621 : BitVec 32 := 32#32
  let v1140 : BitVec 32 := Scalar.muli v2 c32_i32_621
  let c26_i32_622 : BitVec 32 := 26#32
  let v1141 : BitVec 32 := Scalar.addi v1140 c26_i32_622
  let v1142 : Index := Scalar.indexCast v1141
  let c0_623 : Index := 0#32
  ![v1142.toNat, 0]
def k0_off35 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_632 : BitVec 32 := 32#32
  let v1164 : BitVec 32 := Scalar.muli v2 c32_i32_632
  let c27_i32_633 : BitVec 32 := 27#32
  let v1165 : BitVec 32 := Scalar.addi v1164 c27_i32_633
  let v1166 : Index := Scalar.indexCast v1165
  let c0_634 : Index := 0#32
  ![v1166.toNat, 0]
def k0_off36 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_643 : BitVec 32 := 32#32
  let v1188 : BitVec 32 := Scalar.muli v2 c32_i32_643
  let c28_i32_644 : BitVec 32 := 28#32
  let v1189 : BitVec 32 := Scalar.addi v1188 c28_i32_644
  let v1190 : Index := Scalar.indexCast v1189
  let c0_645 : Index := 0#32
  ![v1190.toNat, 0]
def k0_off37 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_654 : BitVec 32 := 32#32
  let v1212 : BitVec 32 := Scalar.muli v2 c32_i32_654
  let c29_i32_655 : BitVec 32 := 29#32
  let v1213 : BitVec 32 := Scalar.addi v1212 c29_i32_655
  let v1214 : Index := Scalar.indexCast v1213
  let c0_656 : Index := 0#32
  ![v1214.toNat, 0]
def k0_off38 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_665 : BitVec 32 := 32#32
  let v1236 : BitVec 32 := Scalar.muli v2 c32_i32_665
  let c30_i32_666 : BitVec 32 := 30#32
  let v1237 : BitVec 32 := Scalar.addi v1236 c30_i32_666
  let v1238 : Index := Scalar.indexCast v1237
  let c0_667 : Index := 0#32
  ![v1238.toNat, 0]
def k0_off39 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_676 : BitVec 32 := 32#32
  let v1260 : BitVec 32 := Scalar.muli v2 c32_i32_676
  let c31_i32_677 : BitVec 32 := 31#32
  let v1261 : BitVec 32 := Scalar.addi v1260 c31_i32_677
  let v1262 : Index := Scalar.indexCast v1261
  let c0_678 : Index := 0#32
  ![v1262.toNat, 0]
def k0_off40 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_711 : BitVec 32 := 32#32
  let v1301 : BitVec 32 := Scalar.muli v2 c32_i32_711
  let v1302 : Index := Scalar.indexCast v1301
  let c0_712 : Index := 0#32
  let c0_713 : Index := 0#32
  ![v1302.toNat, 0, 0]
def k0_off41 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_714 : BitVec 32 := 32#32
  let v1305 : BitVec 32 := Scalar.muli v2 c32_i32_714
  let v1306 : Index := Scalar.indexCast v1305
  let c1_715 : Index := 1#32
  let c0_716 : Index := 0#32
  ![v1306.toNat, 1, 0]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_717 : BitVec 32 := 32#32
  let v1309 : BitVec 32 := Scalar.muli v2 c32_i32_717
  let v1310 : Index := Scalar.indexCast v1309
  let c2_718 : Index := 2#32
  let c0_719 : Index := 0#32
  ![v1310.toNat, 2, 0]
def k0_off43 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_720 : BitVec 32 := 32#32
  let v1313 : BitVec 32 := Scalar.muli v2 c32_i32_720
  let v1314 : Index := Scalar.indexCast v1313
  let c3_721 : Index := 3#32
  let c0_722 : Index := 0#32
  ![v1314.toNat, 3, 0]
def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_723 : BitVec 32 := 32#32
  let v1317 : BitVec 32 := Scalar.muli v2 c32_i32_723
  let v1318 : Index := Scalar.indexCast v1317
  let c4_724 : Index := 4#32
  let c0_725 : Index := 0#32
  ![v1318.toNat, 4, 0]
def k0_off45 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_726 : BitVec 32 := 32#32
  let v1321 : BitVec 32 := Scalar.muli v2 c32_i32_726
  let v1322 : Index := Scalar.indexCast v1321
  let c5_727 : Index := 5#32
  let c0_728 : Index := 0#32
  ![v1322.toNat, 5, 0]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_729 : BitVec 32 := 32#32
  let v1325 : BitVec 32 := Scalar.muli v2 c32_i32_729
  let v1326 : Index := Scalar.indexCast v1325
  let c6_730 : Index := 6#32
  let c0_731 : Index := 0#32
  ![v1326.toNat, 6, 0]
def k0_off47 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_732 : BitVec 32 := 32#32
  let v1329 : BitVec 32 := Scalar.muli v2 c32_i32_732
  let v1330 : Index := Scalar.indexCast v1329
  let c7_733 : Index := 7#32
  let c0_734 : Index := 0#32
  ![v1330.toNat, 7, 0]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1024x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S1024x512 : Shape := ⟨2, ![1024, 512]⟩
abbrev S512x128 : Shape := ⟨2, ![512, 128]⟩
abbrev S1024x1 : Shape := ⟨2, ![1024, 1]⟩
abbrev S128x512x1024 : Shape := ⟨3, ![128, 512, 1024]⟩
abbrev S512x1024 : Shape := ⟨2, ![512, 1024]⟩
abbrev S1024x128 : Shape := ⟨2, ![1024, 128]⟩
abbrev S_ : Shape := ⟨0, ![]⟩
abbrev S1024 : Shape := ⟨1, ![1024]⟩
abbrev S1024x1024 : Shape := ⟨2, ![1024, 1024]⟩
abbrev S1024x512x1024 : Shape := ⟨3, ![1024, 512, 1024]⟩
abbrev S1024x1x1 : Shape := ⟨3, ![1024, 1, 1]⟩

abbrev nBuf : Space → Nat
  | .hbm => 38
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S512x128, .bf16⟩
  | .hbm, ⟨2, _⟩ => ⟨S1024x1, .i32⟩
  | .hbm, ⟨3, _⟩ => ⟨S128x512x1024, .bf16⟩
  | .hbm, ⟨4, _⟩ => ⟨S512x1024, .bf16⟩
  | .hbm, ⟨5, _⟩ => ⟨S1024x512, .f32⟩
  | .hbm, ⟨6, _⟩ => ⟨S512x128, .f32⟩
  | .hbm, ⟨7, _⟩ => ⟨S1024x128, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1024x128, .f32⟩
  | .hbm, ⟨12, _⟩ => ⟨S1024x128, .f32⟩
  | .hbm, ⟨13, _⟩ => ⟨S1024x128, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x128, .f32⟩
  | .hbm, ⟨18, _⟩ => ⟨S1024x128, .f32⟩
  | .hbm, ⟨19, _⟩ => ⟨S512x1024, .f32⟩
  | .hbm, ⟨20, _⟩ => ⟨S1024x1024, .f32⟩
  | .hbm, ⟨21, _⟩ => ⟨S128x512x1024, .f32⟩
  | .hbm, ⟨22, _⟩ => ⟨S1024, .i32⟩
  | .hbm, ⟨23, _⟩ => ⟨S1024x1, .i32⟩
  | .hbm, ⟨24, _⟩ => ⟨S1024x512x1024, .f32⟩
  | .hbm, ⟨25, _⟩ => ⟨S_, .i32⟩
  | .hbm, ⟨26, _⟩ => ⟨S1024x1, .i32⟩
  | .hbm, ⟨27, _⟩ => ⟨S1024x1, .i1⟩
  | .hbm, ⟨28, _⟩ => ⟨S_, .i32⟩
  | .hbm, ⟨29, _⟩ => ⟨S1024x1, .i32⟩
  | .hbm, ⟨30, _⟩ => ⟨S1024x1, .i32⟩
  | .hbm, ⟨31, _⟩ => ⟨S1024x1, .i32⟩
  | .hbm, ⟨32, _⟩ => ⟨S1024x1x1, .i32⟩
  | .hbm, ⟨33, _⟩ => ⟨S1024x1, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S1024x1024, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_v16 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Proof.Steps.lean ====
module

public import proofs.«01_k».proof.Proof.Gen.KernelIdeal.Skeleton
public import proofs.«01_k».proof.Proof.Gen.KernelIdeal.Loops
public import proofs.«01_k».proof.Proof.Gen.KernelIdeal.Points

/-!
# The kernel body as repeated steps

The printed body signals 31 devices, waits for up to 32 arriving rows and at last waits for up to 32
sends, each written out one by one. Here one signal, one receive and one wait for a send are written
over a number, and the body is shown to be the three chains of these steps with the loads, the stores
and the loop between them.
-/

@[expose] public section

noncomputable section

namespace Cert.KernelIdeal.Gen

open Idealize.ShloMosaic Idealize.ShloMosaic.TcCoe
open Idealize.SL Idealize.SL.Sem

variable {F : FTy → Type} [FloatOps F]

/-- The kernel's programs on one TensorCore. -/
abbrev KProg (F : FTy → Type) := Prog (TpuEff nD τ sig (Elt F) Λ₀ .tc)

/-- The steps `f k`, `f (k + 1)`, …, `n` of them, and then `q`. -/
def chain {N : ℕ} {β : Type} (f : (r : ℕ) → r < N → KProg F PUnit) (q : KProg F β) :
    (n k : ℕ) → k + n ≤ N → KProg F β
  | 0, _, _ => q
  | n + 1, k, h => f k (by omega) >>= fun _ => chain f q n (k + 1) (by omega)

/-- The operation `e` when the bit `b` is set, and nothing otherwise. -/
def whenBit (b : BitVec 1) (e : TpuEff nD τ sig (Elt F) Λ₀ .tc PUnit) : KProg F PUnit :=
  if b = 1#1 then Prog.lift e >>= fun _ => pure ⟨⟩ else pure ⟨⟩

/-- A choice between an operation before the rest and the rest alone is the conditional operation
before the rest. -/
theorem ite_whenBit {β : Type} (b : BitVec 1) (e : TpuEff nD τ sig (Elt F) Λ₀ .tc PUnit) (k : KProg F β) :
    (if b = 1#1 then Prog.lift e >>= fun _ => k else k) = whenBit b e >>= fun _ => k := by
  unfold whenBit
  split <;> rfl

/-- The device's own number, as the kernel computes it. -/
def meW (d0 : Dev nD) : BitVec 32 := Scalar.remsi (Scalar.divsi (Dev.word d0) 1#32) 32#32

/-- The number of the device `o` places further on, as the kernel computes it. -/
def toW (o : ℕ) (d0 : Dev nD) : BitVec 32 :=
  let m : BitVec 32 := Scalar.select (Scalar.cmpi .eq (32#32 : BitVec 32) 0#32) 1#32 32#32
  let s : BitVec 32 := Scalar.remsi (Scalar.addi (meW d0) (BitVec.ofNat 32 o)) m
  Scalar.addi 0#32 (Scalar.muli (Scalar.select
    (Scalar.andi (Scalar.xori (Scalar.cmpi .slt s 0#32) (Scalar.cmpi .slt m 0#32)) (Scalar.cmpi .ne s 0#32))
    (Scalar.addi s m) s) 1#32)

/-- The device `o` places further on is a device. -/
theorem toW_lt : ∀ o : Fin 31, ∀ d0 : Dev nD, (toW (o + 1) d0).toNat < nD := by decide +kernel

/-- The owner of an expert: its number divided by four, rounded down. -/
def ownW (w : BitVec 32) : BitVec 32 :=
  Scalar.select
    (Scalar.andi
      (Scalar.cmpi .ne
        (Scalar.subi (Scalar.extui (Scalar.cmpi .sgt w 0#32)) (Scalar.extui (Scalar.cmpi .slt w 0#32)) : BitVec 32)
        (Scalar.subi (Scalar.extui (Scalar.cmpi .sgt (4#32 : BitVec 32) 0#32))
          (Scalar.extui (Scalar.cmpi .slt (4#32 : BitVec 32) 0#32))))
      (Scalar.cmpi .ne (Scalar.remsi w 4#32) 0#32))
    (Scalar.subi (Scalar.divsi w 4#32) 1#32) (Scalar.divsi w 4#32)

/-- Where row `r` of the device lies in the routing table. -/
def rowOff (r : ℕ) (d0 : Dev nD) : Fin 2 → ℕ :=
  ![(Scalar.indexCast (Scalar.addi (Scalar.muli (meW d0) 32#32) (BitVec.ofNat 32 r)) : BitVec 32).toNat, 0]

/-- The row lies inside the table. -/
theorem rowOff_inb : ∀ r : Fin 32, ∀ d0 : Dev nD, ∀ a, rowOff r d0 a + S1x1.size a ≤ S1024x1.size a := by
  decide +kernel

theorem slot_inb : ∀ r : Fin 32, ∀ a, (![(r : ℕ)] : Fin 1 → ℕ) a + S1.size a ≤ S32.size a := by
  decide
theorem row_inb : ∀ r : Fin 32, ∀ a, (![(r : ℕ), 0, 0] : Fin 3 → ℕ) a + S1x8x128.size a ≤ S32x8x128.size a := by
  decide

/-- The signal to the device `k + 1` places further on. -/
def sigStep (d0 : Dev nD) (k : ℕ) (hk : k < 31) : KProg F PUnit :=
  semSignalWord (⟨(toW (k + 1) d0).toNat, toW_lt ⟨k, hk⟩ d0⟩ : Dev nD)
    (SemArray.scalar (sig.barrier 0 rfl) : Sems sig S_).sem 1#32

/-- The receive of row `r`: a wait when another device owns the row's expert. -/
def recvStep (arg3 : Memref sig .tc .smem S1024x1 .i32) (arg7 : Memref sig .tc .vmem S1024x8x128 .f32)
    (arg8 : Memref sig .tc .vmem S32x8x128 .f32) (arg10 : DmaSems sig S32) (d0 : Dev nD) (r : ℕ) (hr : r < 32) :
    KProg F PUnit := do
  let w : Elt F .i32 ← smemLoad arg3
    (Rect.unit (s := S1024x1) (rowOff r d0) S1x1.size (rowOff_inb ⟨r, hr⟩ d0)) numel1_S1x1 rfl
  whenBit (Scalar.cmpi .ne (Scalar.extui (Scalar.cmpi .ne (ownW w) (meW d0)) : BitVec 32) 0#32)
    (.waitDma2
      ((arg10.slice (Rect.unit (s := S32) ![r] S1.size (slot_inb ⟨r, hr⟩))).squeeze S_ squeezes_S1_S_).sem
      ((arg7.slice (Rect.unit (s := S1024x8x128) ![0, 0, 0] S1x8x128.size inb_S1024x8x128_S1x8x128_0_0_0)
        (fun _ => rfl)).squeeze S8x128 squeezes_S1x8x128_S8x128)
      ((arg8.slice (Rect.unit (s := S32x8x128) ![r, 0, 0] S1x8x128.size (row_inb ⟨r, hr⟩))
        (fun _ => rfl)).squeeze S8x128 squeezes_S1x8x128_S8x128)
      ((View.wordExact_bits rfl).reshape _ _) ((View.wordExact_bits rfl).reshape _ _))

/-- The last wait on send slot `s`: a wait when at least `s + 1` rows were sent. -/
def endStep (arg7 : Memref sig .tc .vmem S1024x8x128 .f32)
    (arg8 : Memref sig .tc .vmem S32x8x128 .f32) (arg9 : DmaSems sig S32) (n : BitVec 32) (s : ℕ) (hs : s < 32) :
    KProg F PUnit := do
  whenBit (Scalar.cmpi .ne (Scalar.extui (Scalar.cmpi .sgt n (BitVec.ofNat 32 s)) : BitVec 32) 0#32)
    (.waitDma2
      ((arg9.slice (Rect.unit (s := S32) ![s] S1.size (slot_inb ⟨s, hs⟩))).squeeze S_ squeezes_S1_S_).sem
      ((arg8.slice (Rect.unit (s := S32x8x128) ![0, 0, 0] S1x8x128.size inb_S32x8x128_S1x8x128_0_0_0)
        (fun _ => rfl)).squeeze S8x128 squeezes_S1x8x128_S8x128)
      ((arg7.slice (Rect.unit (s := S1024x8x128) ![0, 0, 0] S1x8x128.size inb_S1024x8x128_S1x8x128_0_0_0)
        (fun _ => rfl)).squeeze S8x128 squeezes_S1x8x128_S8x128)
      ((View.wordExact_bits rfl).reshape _ _) ((View.wordExact_bits rfl).reshape _ _))

/-- The contributions of all tokens: the joined parts against the four experts. -/
def accV (d0 : Dev nD) (v411 : Vec F S1024x512 .bf16) (v413 : Vec F S512x128 .bf16) (v425 : Vec F S1024x1 .i32)
    (v471 : Vec F S4x512x1024 .bf16) : FVec F S1024x1024 .f32 :=
  k0_pay10 (k0_pay2 v411) (k0_pay5 (k0_pay3 v411 v413) v425) (k0_pay6 (meW d0) (k0_pay2 v411) (k0_pay3 v411 v413) v425) (k0_pay7 (meW d0) (k0_pay2 v411) (k0_pay3 v411 v413) v425) (k0_pay8 (meW d0) (k0_pay2 v411) (k0_pay3 v411 v413) v425) (k0_pay9 (meW d0) v425) (Scalar.ofBits .f32 0x00000000#32) v471
/-- Their column block 5, kept apart by the printing. -/
def accV5 (d0 : Dev nD) (v411 : Vec F S1024x512 .bf16) (v413 : Vec F S512x128 .bf16) (v425 : Vec F S1024x1 .i32)
    (v471 : Vec F S4x512x1024 .bf16) : FVec F S1024x128 .f32 :=
  k0_pay16 (k0_pay2 v411) (k0_pay5 (k0_pay3 v411 v413) v425) (k0_pay6 (meW d0) (k0_pay2 v411) (k0_pay3 v411 v413) v425) (k0_pay7 (meW d0) (k0_pay2 v411) (k0_pay3 v411 v413) v425) (k0_pay8 (meW d0) (k0_pay2 v411) (k0_pay3 v411 v413) v425) (k0_pay9 (meW d0) v425) (Scalar.ofBits .f32 0x00000000#32) v471

/-- After the barrier: the products, the eight stores of the contributions, the loop of the sends, the
receives, the result's store and the last waits. -/
def afterBarrier (arg0 : Memref sig .tc .vmem S1024x512 .bf16) (harg0 : arg0.IsWhole) (arg1 : Memref sig .tc .vmem S512x128 .bf16) (harg1 : arg1.IsWhole) (arg2 : Memref sig .tc .vmem S1024x1 .i32) (harg2 : arg2.IsWhole) (arg3 : Memref sig .tc .smem S1024x1 .i32) (harg3 : arg3.IsWhole) (arg4 : Memref sig .tc .vmem S4x512x1024 .bf16) (harg4 : arg4.IsWhole) (arg5 : Memref sig .tc .vmem S512x1024 .bf16) (harg5 : arg5.IsWhole) (arg6 : Memref sig .tc .vmem S32x1024 .f32) (harg6 : arg6.IsWhole) (arg7 : Memref sig .tc .vmem S1024x8x128 .f32) (harg7 : arg7.IsWhole) (arg8 : Memref sig .tc .vmem S32x8x128 .f32) (harg8 : arg8.IsWhole) (arg9 : DmaSems sig S32) (arg10 : DmaSems sig S32) (d0 : Dev nD) :
    KProg F PUnit := do
  let v411 : Vec F S1024x512 .bf16 ← Prog.lift (.load arg0 (Rect.unit (s := S1024x512) ![0, 0] S1024x512.size inb_S1024x512_S1024x512_0_0).toLoadRect (View.loadsAt_vmem h_S1024x512))
  let v413 : Vec F S512x128 .bf16 ← Prog.lift (.load arg1 (Rect.unit (s := S512x128) ![0, 0] S512x128.size inb_S512x128_S512x128_0_0).toLoadRect (View.loadsAt_vmem h_S512x128))
  let v425 : Vec F S1024x1 .i32 ← Prog.lift (.load arg2 (Rect.unit (s := S1024x1) ![0, 0] S1024x1.size inb_S1024x1_S1024x1_0_0).toLoadRect (View.loadsAt_vmem h_S1024x1))
  let v471 : Vec F S4x512x1024 .bf16 ← Prog.lift (.load arg4 (Rect.unit (s := S4x512x1024) ![0, 0, 0] S4x512x1024.size inb_S4x512x1024_S4x512x1024_0_0_0).toLoadRect (View.loadsAt_vmem h_S4x512x1024))
  let _ : Vec F S1024x1x128 .f32 ← Prog.lift (.load arg7 (Rect.unit (s := S1024x8x128) ![0, 0, 0] S1024x1x128.size inb_S1024x8x128_S1024x1x128_0_0_0).toLoadRect (View.loadsAt_vmem h_S1024x1x128))
  Prog.lift (.store arg7 (Rect.unit (s := S1024x8x128) ![0, 0, 0] S1024x1x128.size inb_S1024x8x128_S1024x1x128_0_0_0) (k0_pay11 (k0_pay2 v411) (k0_pay5 (k0_pay3 v411 v413) v425) (k0_pay6 (meW d0) (k0_pay2 v411) (k0_pay3 v411 v413) v425) (k0_pay7 (meW d0) (k0_pay2 v411) (k0_pay3 v411 v413) v425) (k0_pay8 (meW d0) (k0_pay2 v411) (k0_pay3 v411 v413) v425) (k0_pay9 (meW d0) v425) (Scalar.ofBits .f32 0x00000000#32) v471) Finset.univ (View.stores_vmem_bits_univ h_S1024x1x128 rfl) (.inl rfl))
  let _ : Vec F S1024x1x128 .f32 ← Prog.lift (.load arg7 (Rect.unit (s := S1024x8x128) ![0, 1, 0] S1024x1x128.size inb_S1024x8x128_S1024x1x128_0_1_0).toLoadRect (View.loadsAt_vmem h_S1024x1x128))
  Prog.lift (.store arg7 (Rect.unit (s := S1024x8x128) ![0, 1, 0] S1024x1x128.size inb_S1024x8x128_S1024x1x128_0_1_0) (k0_pay12 (k0_pay2 v411) (k0_pay5 (k0_pay3 v411 v413) v425) (k0_pay6 (meW d0) (k0_pay2 v411) (k0_pay3 v411 v413) v425) (k0_pay7 (meW d0) (k0_pay2 v411) (k0_pay3 v411 v413) v425) (k0_pay8 (meW d0) (k0_pay2 v411) (k0_pay3 v411 v413) v425) (k0_pay9 (meW d0) v425) (Scalar.ofBits .f32 0x00000000#32) v471) Finset.univ (View.stores_vmem_bits_univ h_S1024x1x128 rfl) (.inl rfl))
  let _ : Vec F S1024x1x128 .f32 ← Prog.lift (.load arg7 (Rect.unit (s := S1024x8x128) ![0, 2, 0] S1024x1x128.size inb_S1024x8x128_S1024x1x128_0_2_0).toLoadRect (View.loadsAt_vmem h_S1024x1x128))
  Prog.lift (.store arg7 (Rect.unit (s := S1024x8x128) ![0, 2, 0] S1024x1x128.size inb_S1024x8x128_S1024x1x128_0_2_0) (k0_pay13 (k0_pay2 v411) (k0_pay5 (k0_pay3 v411 v413) v425) (k0_pay6 (meW d0) (k0_pay2 v411) (k0_pay3 v411 v413) v425) (k0_pay7 (meW d0) (k0_pay2 v411) (k0_pay3 v411 v413) v425) (k0_pay8 (meW d0) (k0_pay2 v411) (k0_pay3 v411 v413) v425) (k0_pay9 (meW d0) v425) (Scalar.ofBits .f32 0x00000000#32) v471) Finset.univ (View.stores_vmem_bits_univ h_S1024x1x128 rfl) (.inl rfl))
  let _ : Vec F S1024x1x128 .f32 ← Prog.lift (.load arg7 (Rect.unit (s := S1024x8x128) ![0, 3, 0] S1024x1x128.size inb_S1024x8x128_S1024x1x128_0_3_0).toLoadRect (View.loadsAt_vmem h_S1024x1x128))
  Prog.lift (.store arg7 (Rect.unit (s := S1024x8x128) ![0, 3, 0] S1024x1x128.size inb_S1024x8x128_S1024x1x128_0_3_0) (k0_pay14 (k0_pay2 v411) (k0_pay5 (k0_pay3 v411 v413) v425) (k0_pay6 (meW d0) (k0_pay2 v411) (k0_pay3 v411 v413) v425) (k0_pay7 (meW d0) (k0_pay2 v411) (k0_pay3 v411 v413) v425) (k0_pay8 (meW d0) (k0_pay2 v411) (k0_pay3 v411 v413) v425) (k0_pay9 (meW d0) v425) (Scalar.ofBits .f32 0x00000000#32) v471) Finset.univ (View.stores_vmem_bits_univ h_S1024x1x128 rfl) (.inl rfl))
  let _ : Vec F S1024x1x128 .f32 ← Prog.lift (.load arg7 (Rect.unit (s := S1024x8x128) ![0, 4, 0] S1024x1x128.size inb_S1024x8x128_S1024x1x128_0_4_0).toLoadRect (View.loadsAt_vmem h_S1024x1x128))
  Prog.lift (.store arg7 (Rect.unit (s := S1024x8x128) ![0, 4, 0] S1024x1x128.size inb_S1024x8x128_S1024x1x128_0_4_0) (k0_pay15 (k0_pay2 v411) (k0_pay5 (k0_pay3 v411 v413) v425) (k0_pay6 (meW d0) (k0_pay2 v411) (k0_pay3 v411 v413) v425) (k0_pay7 (meW d0) (k0_pay2 v411) (k0_pay3 v411 v413) v425) (k0_pay8 (meW d0) (k0_pay2 v411) (k0_pay3 v411 v413) v425) (k0_pay9 (meW d0) v425) (Scalar.ofBits .f32 0x00000000#32) v471) Finset.univ (View.stores_vmem_bits_univ h_S1024x1x128 rfl) (.inl rfl))
  let _ : Vec F S1024x1x128 .f32 ← Prog.lift (.load arg7 (Rect.unit (s := S1024x8x128) ![0, 5, 0] S1024x1x128.size inb_S1024x8x128_S1024x1x128_0_5_0).toLoadRect (View.loadsAt_vmem h_S1024x1x128))
  Prog.lift (.store arg7 (Rect.unit (s := S1024x8x128) ![0, 5, 0] S1024x1x128.size inb_S1024x8x128_S1024x1x128_0_5_0) (k0_pay17 (accV5 d0 v411 v413 v425 v471)) Finset.univ (View.stores_vmem_bits_univ h_S1024x1x128 rfl) (.inl rfl))
  let _ : Vec F S1024x1x128 .f32 ← Prog.lift (.load arg7 (Rect.unit (s := S1024x8x128) ![0, 6, 0] S1024x1x128.size inb_S1024x8x128_S1024x1x128_0_6_0).toLoadRect (View.loadsAt_vmem h_S1024x1x128))
  Prog.lift (.store arg7 (Rect.unit (s := S1024x8x128) ![0, 6, 0] S1024x1x128.size inb_S1024x8x128_S1024x1x128_0_6_0) (k0_pay18 (accV d0 v411 v413 v425 v471)) Finset.univ (View.stores_vmem_bits_univ h_S1024x1x128 rfl) (.inl rfl))
  let _ : Vec F S1024x1x128 .f32 ← Prog.lift (.load arg7 (Rect.unit (s := S1024x8x128) ![0, 7, 0] S1024x1x128.size inb_S1024x8x128_S1024x1x128_0_7_0).toLoadRect (View.loadsAt_vmem h_S1024x1x128))
  Prog.lift (.store arg7 (Rect.unit (s := S1024x8x128) ![0, 7, 0] S1024x1x128.size inb_S1024x8x128_S1024x1x128_0_7_0) (k0_pay19 (accV d0 v411 v413 v425 v471)) Finset.univ (View.stores_vmem_bits_univ h_S1024x1x128 rfl) (.inl rfl))
  let v508 : BitVec 32 ← Scf.Loop.for k0_t1_loop k0_t1_ok 0#32 (k0_t1_body arg0 harg0 arg1 harg1 arg2 harg2 arg3 harg3 arg4 harg4 arg5 harg5 arg6 harg6 arg7 harg7 arg8 harg8 arg9 arg10 d0 (meW d0) (accV d0 v411 v413 v425 v471) (accV5 d0 v411 v413 v425 v471))
  let v511 : Vec F S32x512 .bf16 ← Prog.lift (.load arg0 (Rect.unit (s := S1024x512) (k0_off7 d0) S32x512.size (k0_off7_inb d0)).toLoadRect (View.loadsAt_vmem h_S32x512))
  let v513 : Vec F S512x1024 .bf16 ← Prog.lift (.load arg5 (Rect.unit (s := S512x1024) ![0, 0] S512x1024.size inb_S512x1024_S512x1024_0_0).toLoadRect (View.loadsAt_vmem h_S512x1024))
  chain (recvStep arg3 arg7 arg8 arg10 d0) (do
    let r0 : Vec F S32x1x128 .f32 ← Prog.lift (.load arg8 (Rect.unit (s := S32x8x128) ![0, 0, 0] S32x1x128.size inb_S32x8x128_S32x1x128_0_0_0).toLoadRect (View.loadsAt_vmem h_S32x1x128))
    let r1 : Vec F S32x1x128 .f32 ← Prog.lift (.load arg8 (Rect.unit (s := S32x8x128) ![0, 1, 0] S32x1x128.size inb_S32x8x128_S32x1x128_0_1_0).toLoadRect (View.loadsAt_vmem h_S32x1x128))
    let r2 : Vec F S32x1x128 .f32 ← Prog.lift (.load arg8 (Rect.unit (s := S32x8x128) ![0, 2, 0] S32x1x128.size inb_S32x8x128_S32x1x128_0_2_0).toLoadRect (View.loadsAt_vmem h_S32x1x128))
    let r3 : Vec F S32x1x128 .f32 ← Prog.lift (.load arg8 (Rect.unit (s := S32x8x128) ![0, 3, 0] S32x1x128.size inb_S32x8x128_S32x1x128_0_3_0).toLoadRect (View.loadsAt_vmem h_S32x1x128))
    let r4 : Vec F S32x1x128 .f32 ← Prog.lift (.load arg8 (Rect.unit (s := S32x8x128) ![0, 4, 0] S32x1x128.size inb_S32x8x128_S32x1x128_0_4_0).toLoadRect (View.loadsAt_vmem h_S32x1x128))
    let r5 : Vec F S32x1x128 .f32 ← Prog.lift (.load arg8 (Rect.unit (s := S32x8x128) ![0, 5, 0] S32x1x128.size inb_S32x8x128_S32x1x128_0_5_0).toLoadRect (View.loadsAt_vmem h_S32x1x128))
    let r6 : Vec F S32x1x128 .f32 ← Prog.lift (.load arg8 (Rect.unit (s := S32x8x128) ![0, 6, 0] S32x1x128.size inb_S32x8x128_S32x1x128_0_6_0).toLoadRect (View.loadsAt_vmem h_S32x1x128))
    let r7 : Vec F S32x1x128 .f32 ← Prog.lift (.load arg8 (Rect.unit (s := S32x8x128) ![0, 7, 0] S32x1x128.size inb_S32x8x128_S32x1x128_0_7_0).toLoadRect (View.loadsAt_vmem h_S32x1x128))
    let o0 : Vec F S32x1x128 .f32 ← Prog.lift (.load arg7 (Rect.unit (s := S1024x8x128) (k0_off40 d0) S32x1x128.size (k0_off40_inb d0)).toLoadRect (View.loadsAt_vmem h_S32x1x128))
    let o1 : Vec F S32x1x128 .f32 ← Prog.lift (.load arg7 (Rect.unit (s := S1024x8x128) (k0_off41 d0) S32x1x128.size (k0_off41_inb d0)).toLoadRect (View.loadsAt_vmem h_S32x1x128))
    let o2 : Vec F S32x1x128 .f32 ← Prog.lift (.load arg7 (Rect.unit (s := S1024x8x128) (k0_off42 d0) S32x1x128.size (k0_off42_inb d0)).toLoadRect (View.loadsAt_vmem h_S32x1x128))
    let o3 : Vec F S32x1x128 .f32 ← Prog.lift (.load arg7 (Rect.unit (s := S1024x8x128) (k0_off43 d0) S32x1x128.size (k0_off43_inb d0)).toLoadRect (View.loadsAt_vmem h_S32x1x128))
    let o4 : Vec F S32x1x128 .f32 ← Prog.lift (.load arg7 (Rect.unit (s := S1024x8x128) (k0_off44 d0) S32x1x128.size (k0_off44_inb d0)).toLoadRect (View.loadsAt_vmem h_S32x1x128))
    let o5 : Vec F S32x1x128 .f32 ← Prog.lift (.load arg7 (Rect.unit (s := S1024x8x128) (k0_off45 d0) S32x1x128.size (k0_off45_inb d0)).toLoadRect (View.loadsAt_vmem h_S32x1x128))
    let o6 : Vec F S32x1x128 .f32 ← Prog.lift (.load arg7 (Rect.unit (s := S1024x8x128) (k0_off46 d0) S32x1x128.size (k0_off46_inb d0)).toLoadRect (View.loadsAt_vmem h_S32x1x128))
    let o7 : Vec F S32x1x128 .f32 ← Prog.lift (.load arg7 (Rect.unit (s := S1024x8x128) (k0_off47 d0) S32x1x128.size (k0_off47_inb d0)).toLoadRect (View.loadsAt_vmem h_S32x1x128))
    let _ : Vec F S32x1024 .f32 ← Prog.lift (.load arg6 (Rect.unit (s := S32x1024) ![0, 0] S32x1024.size inb_S32x1024_S32x1024_0_0).toLoadRect (View.loadsAt_vmem h_S32x1024))
    Prog.lift (.store arg6 (Rect.unit (s := S32x1024) ![0, 0] S32x1024.size inb_S32x1024_S32x1024_0_0) (k0_pay28 (k0_pay20 v511 v513) (k0_pay23 (k0_pay21 r0) (k0_pay22 r1) r2 r3 r4 r5 r6 r7) (k0_pay24 o0) (k0_pay25 o1) (k0_pay26 o2) (k0_pay27 o3) o4 o5 o6 o7) Finset.univ (View.stores_vmem_bits_univ h_S32x1024 rfl) (.inl rfl))
    chain (endStep arg7 arg8 arg9 v508) (pure ⟨⟩) 32 0 (by omega)) 32 0 (by omega)

/-- The kernel body as steps. -/
def steps (arg0 : Memref sig .tc .vmem S1024x512 .bf16) (harg0 : arg0.IsWhole) (arg1 : Memref sig .tc .vmem S512x128 .bf16) (harg1 : arg1.IsWhole) (arg2 : Memref sig .tc .vmem S1024x1 .i32) (harg2 : arg2.IsWhole) (arg3 : Memref sig .tc .smem S1024x1 .i32) (harg3 : arg3.IsWhole) (arg4 : Memref sig .tc .vmem S4x512x1024 .bf16) (harg4 : arg4.IsWhole) (arg5 : Memref sig .tc .vmem S512x1024 .bf16) (harg5 : arg5.IsWhole) (arg6 : Memref sig .tc .vmem S32x1024 .f32) (harg6 : arg6.IsWhole) (arg7 : Memref sig .tc .vmem S1024x8x128 .f32) (harg7 : arg7.IsWhole) (arg8 : Memref sig .tc .vmem S32x8x128 .f32) (harg8 : arg8.IsWhole) (arg9 : DmaSems sig S32) (arg10 : DmaSems sig S32) :
    KProg F PUnit := do
  let d0 : Dev nD ← Prog.lift .deviceId
  let _ : Vec F S32x8x128 .f32 ← Prog.lift (.load arg8 (Rect.unit (s := S32x8x128) ![0, 0, 0] S32x8x128.size inb_S32x8x128_S32x8x128_0_0_0).toLoadRect (View.loadsAt_vmem h_S32x8x128))
  Prog.lift (.store arg8 (Rect.unit (s := S32x8x128) ![0, 0, 0] S32x8x128.size inb_S32x8x128_S32x8x128_0_0_0) (k0_pay1 (F := F)) Finset.univ (View.stores_vmem_bits_univ h_S32x8x128 rfl) (.inl rfl))
  chain (sigStep d0) (do
    semWaitWord (SemArray.scalar (sig.barrier 0 rfl) : Sems sig S_).sem 31#32
    afterBarrier arg0 harg0 arg1 harg1 arg2 harg2 arg3 harg3 arg4 harg4 arg5 harg5 arg6 harg6 arg7 harg7 arg8 harg8 arg9 arg10 d0) 31 0 (by omega)

set_option maxHeartbeats 4000000 in
set_option maxRecDepth 65536 in
/-- The printed body is the body written as steps. -/
theorem body_eq_steps (arg0 : Memref sig .tc .vmem S1024x512 .bf16) (harg0 : arg0.IsWhole) (arg1 : Memref sig .tc .vmem S512x128 .bf16) (harg1 : arg1.IsWhole) (arg2 : Memref sig .tc .vmem S1024x1 .i32) (harg2 : arg2.IsWhole) (arg3 : Memref sig .tc .smem S1024x1 .i32) (harg3 : arg3.IsWhole) (arg4 : Memref sig .tc .vmem S4x512x1024 .bf16) (harg4 : arg4.IsWhole) (arg5 : Memref sig .tc .vmem S512x1024 .bf16) (harg5 : arg5.IsWhole) (arg6 : Memref sig .tc .vmem S32x1024 .f32) (harg6 : arg6.IsWhole) (arg7 : Memref sig .tc .vmem S1024x8x128 .f32) (harg7 : arg7.IsWhole) (arg8 : Memref sig .tc .vmem S32x8x128 .f32) (harg8 : arg8.IsWhole) (arg9 : DmaSems sig S32) (arg10 : DmaSems sig S32) :
    cc0_body (F := F) arg0 harg0 arg1 harg1 arg2 harg2 arg3 harg3 arg4 harg4 arg5 harg5 arg6 harg6 arg7 harg7 arg8 harg8 arg9 arg10 = steps arg0 harg0 arg1 harg1 arg2 harg2 arg3 harg3 arg4 harg4 arg5 harg5 arg6 harg6 arg7 harg7 arg8 harg8 arg9 arg10 := by
  rw [cc0_body_eq_skeleton]
  unfold cc0_body_skel
  rw [k0_part41_eq_skeleton]
  unfold k0_part41_skel
  simp only [k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, bind_assoc, pure_bind, ite_whenBit]
  rfl

/-- The home of token `t`: its number divided by 32, rounded down, as the loop computes it. -/
def homeW (t : Fin k0_t1_loop.trips) : BitVec 32 :=
  let i : BitVec 32 := Scf.iv 0#32 1#32 t
  Scalar.select
    (Scalar.andi
      (Scalar.cmpi .ne
        (Scalar.subi (Scalar.extui (Scalar.cmpi .sgt i 0#32)) (Scalar.extui (Scalar.cmpi .slt i 0#32)) : BitVec 32)
        (Scalar.subi (Scalar.extui (Scalar.cmpi .sgt (32#32 : BitVec 32) 0#32))
          (Scalar.extui (Scalar.cmpi .slt (32#32 : BitVec 32) 0#32))))
      (Scalar.cmpi .ne (Scalar.remsi i 32#32) 0#32))
    (Scalar.subi (Scalar.divsi i 32#32) 1#32) (Scalar.divsi i 32#32)

/-- Set when the device owns token `t`'s expert `w` and the token's home is another device. -/
def sendBit (d0 : Dev nD) (t : Fin k0_t1_loop.trips) (w : BitVec 32) : BitVec 1 :=
  Scalar.andi (Scalar.cmpi .eq (ownW w) (meW d0)) (Scalar.cmpi .ne (homeW t) (meW d0))

theorem cond1_eq (d0 : Dev nD) (t : Fin k0_t1_loop.trips) (w : BitVec 32) :
    k0_cond1 d0 t w = Scalar.cmpi .ne (Scalar.extui (sendBit d0 t w) : BitVec 32) 0#32 := rfl

/-- The wait that frees send slot `c mod 32`, done once 32 rows have been sent. -/
def freeStep (arg7 : Memref sig .tc .vmem S1024x8x128 .f32) (arg8 : Memref sig .tc .vmem S32x8x128 .f32) (arg9 : DmaSems sig S32)
    (cnt : BitVec 32) (hb : k0_cond2 cnt = 1#1 → ∀ a, (k0_off2 cnt) a + S1.size a ≤ S32.size a) : KProg F PUnit :=
  if h2 : k0_cond2 cnt = 1#1 then do
    Prog.lift (.waitDma2
      ((arg9.slice (Rect.unit (s := S32) (k0_off2 cnt) S1.size (hb h2))).squeeze S_ squeezes_S1_S_).sem
      ((arg8.slice (Rect.unit (s := S32x8x128) ![0, 0, 0] S1x8x128.size inb_S32x8x128_S1x8x128_0_0_0)
        (fun _ => rfl)).squeeze S8x128 squeezes_S1x8x128_S8x128)
      ((arg7.slice (Rect.unit (s := S1024x8x128) ![0, 0, 0] S1x8x128.size inb_S1024x8x128_S1x8x128_0_0_0)
        (fun _ => rfl)).squeeze S8x128 squeezes_S1x8x128_S8x128)
      ((View.wordExact_bits rfl).reshape _ _) ((View.wordExact_bits rfl).reshape _ _))
    pure ⟨⟩
  else pure ⟨⟩

/-- One trip of the loop: the token's word is read; if the device owns its expert and another device is its
home, the slot is freed and the row is sent; the count goes up by the bit. -/
def loopStep (arg3 : Memref sig .tc .smem S1024x1 .i32) (arg7 : Memref sig .tc .vmem S1024x8x128 .f32)
    (arg8 : Memref sig .tc .vmem S32x8x128 .f32) (arg9 arg10 : DmaSems sig S32) (d0 : Dev nD)
    (t : Fin k0_t1_loop.trips) (cnt : BitVec 32) : KProg F (BitVec 32) := do
  let w : Elt F .i32 ← smemLoad arg3 (Rect.unit (s := S1024x1) (k0_off1 t) S1x1.size (k0_off1_inb t)) numel1_S1x1 rfl
  let hw ← Prog.lift (TpuEff.assume (k0_chk1 d0 t cnt w) (k0_chk1.dec d0 t cnt w))
  (if h1 : k0_cond1 d0 t w = 1#1 then do
    freeStep arg7 arg8 arg9 cnt (fun h2 => k0_off2_inb d0 t cnt w hw.down h1 h2)
    Prog.lift (.enqueueDma
      ((arg7.slice (Rect.unit (s := S1024x8x128) (k0_off6 t) S1x8x128.size (k0_off6_inb t))
        (fun _ => rfl)).squeeze S8x128 squeezes_S1x8x128_S8x128)
      (.remote (Dev.tc (⟨k0_dev32 t, k0_dev32_lt t⟩ : Dev nD))
        ((arg8.slice (Rect.unit (s := S32x8x128) (k0_off5 t) S1x8x128.size (k0_off5_inb t))
          (fun _ => rfl)).squeeze S8x128 squeezes_S1x8x128_S8x128)
        (.dma ((arg9.slice (Rect.unit (s := S32) (k0_off3 cnt) S1.size (k0_off3_inb d0 t cnt w hw.down h1))).squeeze
          S_ squeezes_S1_S_).sem))
      (.dma ((arg10.slice (Rect.unit (s := S32) (k0_off4 t) S1.size (k0_off4_inb t))).squeeze S_ squeezes_S1_S_).sem)
      ((View.wordExact_bits rfl).reshape _ _) ((View.wordExact_bits rfl).reshape _ _) ⟨⟨rfl, Or.inl rfl⟩, trivial⟩)
    pure ⟨⟩
  else pure ⟨⟩)
  pure (Scalar.addi cnt (Scalar.extui (sendBit d0 t w)))

set_option maxHeartbeats 1000000 in
/-- The printed trip of the loop is that step. -/
theorem loop_eq_step (arg0 : Memref sig .tc .vmem S1024x512 .bf16) (harg0 : arg0.IsWhole) (arg1 : Memref sig .tc .vmem S512x128 .bf16) (harg1 : arg1.IsWhole) (arg2 : Memref sig .tc .vmem S1024x1 .i32) (harg2 : arg2.IsWhole) (arg3 : Memref sig .tc .smem S1024x1 .i32) (harg3 : arg3.IsWhole) (arg4 : Memref sig .tc .vmem S4x512x1024 .bf16) (harg4 : arg4.IsWhole) (arg5 : Memref sig .tc .vmem S512x1024 .bf16) (harg5 : arg5.IsWhole) (arg6 : Memref sig .tc .vmem S32x1024 .f32) (harg6 : arg6.IsWhole) (arg7 : Memref sig .tc .vmem S1024x8x128 .f32) (harg7 : arg7.IsWhole) (arg8 : Memref sig .tc .vmem S32x8x128 .f32) (harg8 : arg8.IsWhole) (arg9 : DmaSems sig S32) (arg10 : DmaSems sig S32) (d0 : Dev nD) (v474 : FVec F S1024x1024 .f32) (v495 : FVec F S1024x128 .f32) (t : Fin k0_t1_loop.trips) (cnt : BitVec 32) :
    k0_t1_body (F := F) arg0 harg0 arg1 harg1 arg2 harg2 arg3 harg3 arg4 harg4 arg5 harg5 arg6 harg6 arg7 harg7 arg8 harg8 arg9 arg10 d0 (meW d0) v474 v495 t cnt = loopStep arg3 arg7 arg8 arg9 arg10 d0 t cnt := by
  unfold k0_t1_body loopStep freeStep
  simp only [k0_part1_eq_skeleton, k0_part1_skel, bind_assoc, pure_bind]
  refine bind_congr fun w => bind_congr fun hw => ?_
  by_cases h1 : k0_cond1 d0 t w = 1#1
  · simp only [dif_pos h1]
    by_cases h2 : k0_cond2 cnt = 1#1
    · simp only [dif_pos h2]; rfl
    · simp only [dif_neg h2]; rfl
  · simp only [dif_neg h1]; rfl

end Cert.KernelIdeal.Gen
-- ==== Proof.Words.lean ====
module

public import proofs.«01_k».proof.Proof.Steps

/-!
# The words of the body

What the word arithmetic of the body comes to: device numbers, row and slot offsets, the bits the conditions
look at. A token's owner enters as a device `o` with the word of its expert between `4 o` and `4 o + 3`.
-/

@[expose] public section

namespace Cert.KernelIdeal.Gen

open Idealize.ShloMosaic Idealize.SL.Sem

/-- The device's number is its own. -/
theorem meW_eq : ∀ d0 : Dev nD, meW d0 = BitVec.ofNat 32 d0.val := by decide +kernel

/-- The device `k + 1` places further on, around the ring of 32. -/
theorem toW_eq : ∀ k : Fin 31, ∀ d0 : Dev nD, (toW (k + 1) d0).toNat = (d0.val + k + 1) % 32 := by
  decide +kernel

/-- Row `r` of device `d0` in the table. -/
theorem rowOff_eq : ∀ r : Fin 32, ∀ d0 : Dev nD, rowOff r d0 = ![32 * d0.val + r.val, 0] := by decide +kernel

theorem trips_eq : k0_t1_loop.trips = 1024 := by decide +kernel

/-- The home of token `t`. -/
theorem homeW_eq : ∀ t : Fin k0_t1_loop.trips, homeW t = BitVec.ofNat 32 (t.val / 32) := by decide +kernel

/-- The owner of an expert below 128. -/
theorem ownW_small : ∀ e : Fin 128, ownW (BitVec.ofNat 32 e.val) = BitVec.ofNat 32 (e.val / 4) := by
  decide +kernel

/-- A word among the four of device `o` is owned by `o`. -/
theorem ownW_eq (w : BitVec 32) (o : Dev nD) (h1 : 4 * o.val ≤ w.toNat) (h2 : w.toNat < 4 * o.val + 4) :
    ownW w = BitVec.ofNat 32 o.val := by
  have ho : o.val < 32 := o.isLt
  have h := ownW_small ⟨w.toNat, by omega⟩
  simp only [BitVec.ofNat_toNat, BitVec.setWidth_eq] at h
  rw [h]
  congr 1
  omega

/-- Two device numbers agree as words only when they agree. -/
theorem ofNat_inj {a b : ℕ} (ha : a < 32) (hb : b < 32) : BitVec.ofNat 32 a = BitVec.ofNat 32 b ↔ a = b := by
  constructor
  · intro h
    have := congrArg BitVec.toNat h
    simp only [BitVec.toNat_ofNat] at this
    omega
  · rintro rfl; rfl

/-- The send bit is set exactly where the device owns the token's expert and is not the token's home. -/
theorem sendBit_eq (d0 o : Dev nD) (t : Fin k0_t1_loop.trips) (w : BitVec 32) (hw : ownW w = BitVec.ofNat 32 o.val) :
    sendBit d0 t w = if o = d0 ∧ t.val / 32 ≠ d0.val then 1#1 else 0#1 := by
  have ht : t.val < 1024 := trips_eq ▸ t.isLt
  have e1 : (BitVec.ofNat 32 o.val = BitVec.ofNat 32 d0.val) ↔ o = d0 := by
    rw [ofNat_inj o.isLt d0.isLt, Fin.ext_iff]
  have e2 : (BitVec.ofNat 32 (t.val / 32) = BitVec.ofNat 32 d0.val) ↔ t.val / 32 = d0.val :=
    ofNat_inj (by omega) d0.isLt
  have c1 : Scalar.cmpi .eq (BitVec.ofNat 32 o.val) (BitVec.ofNat 32 d0.val) = if o = d0 then 1#1 else 0#1 := by
    by_cases h : o = d0
    · subst h; simp [Scalar.cmpi, IntOp.cmpi]
    · have hb : (BitVec.ofNat 32 o.val == BitVec.ofNat 32 d0.val) = false := beq_false_of_ne fun e => h (e1.1 e)
      rw [if_neg h]; unfold Scalar.cmpi IntOp.cmpi; simp only [hb]; rfl
  have c2 : Scalar.cmpi .ne (BitVec.ofNat 32 (t.val / 32)) (BitVec.ofNat 32 d0.val)
      = if t.val / 32 = d0.val then 0#1 else 1#1 := by
    by_cases h : t.val / 32 = d0.val
    · rw [if_pos h, h]; simp [Scalar.cmpi, IntOp.cmpi]
    · have hb : (BitVec.ofNat 32 (t.val / 32) != BitVec.ofNat 32 d0.val) = true := bne_iff_ne.mpr fun e => h (e2.1 e)
      rw [if_neg h]; unfold Scalar.cmpi IntOp.cmpi; simp only [hb]; rfl
  unfold sendBit
  rw [hw, meW_eq, homeW_eq, c1, c2]
  by_cases h1 : o = d0 <;> by_cases h2 : t.val / 32 = d0.val <;> simp only [h1, h2, if_true, if_false, ne_eq, not_true, not_false_eq_true, and_true, and_false, true_and, false_and] <;> decide

/-- Whether the loop's condition holds. -/
theorem cond1_iff (d0 o : Dev nD) (t : Fin k0_t1_loop.trips) (w : BitVec 32) (hw : ownW w = BitVec.ofNat 32 o.val) :
    k0_cond1 d0 t w = 1#1 ↔ (o = d0 ∧ t.val / 32 ≠ d0.val) := by
  rw [cond1_eq, sendBit_eq d0 o t w hw]
  by_cases h : o = d0 ∧ t.val / 32 ≠ d0.val
  · rw [if_pos h]; exact ⟨fun _ => h, fun _ => by decide⟩
  · rw [if_neg h]; exact ⟨fun h' => absurd h' (by decide), fun h' => absurd h' h⟩

/-- A slot is freed once 32 rows have gone. -/
theorem cond2_iff : ∀ n : Fin 1025, k0_cond2 (BitVec.ofNat 32 n.val) = 1#1 ↔ 32 ≤ n.val := by decide +kernel

/-- The slot in use at a count. -/
theorem off2_eq : ∀ n : Fin 1025, k0_off2 (BitVec.ofNat 32 n.val) = ![n.val % 32] := by decide +kernel
theorem off3_eq : ∀ n : Fin 1025, k0_off3 (BitVec.ofNat 32 n.val) = ![n.val % 32] := by decide +kernel

/-- The row's place at home, its receive slot, and its home. -/
theorem off4_eq : ∀ t : Fin k0_t1_loop.trips, k0_off4 t = ![t.val % 32] := by decide +kernel
theorem off5_eq : ∀ t : Fin k0_t1_loop.trips, k0_off5 t = ![t.val % 32, 0, 0] := by decide +kernel
theorem off6_eq : ∀ t : Fin k0_t1_loop.trips, k0_off6 t = ![t.val, 0, 0] := by decide +kernel
theorem off1_eq : ∀ t : Fin k0_t1_loop.trips, k0_off1 t = ![t.val, 0] := by decide +kernel
theorem dev32_eq : ∀ t : Fin k0_t1_loop.trips, k0_dev32 t = t.val / 32 := by decide +kernel

/-- The check the loop assumes of its offsets holds at every count up to 1024. -/
theorem chk1_ofNat (d0 : Dev nD) (t : Fin k0_t1_loop.trips) (n : ℕ) (hn : n ≤ 1024) (w : BitVec 32) :
    k0_chk1 d0 t (BitVec.ofNat 32 n) w := by
  have h2 := off2_eq ⟨n, by omega⟩
  have h3 := off3_eq ⟨n, by omega⟩
  unfold k0_chk1
  simp only at h2 h3
  rw [h2, h3]
  have hb : ∀ a : Fin 1, (![n % 32] : Fin 1 → ℕ) a + S1.size a ≤ S32.size a := by
    have hlt : n % 32 < 32 := Nat.mod_lt _ (by decide)
    intro a
    fin_cases a
    show n % 32 + 1 ≤ 32
    omega
  exact ⟨fun _ _ => hb, fun _ => hb⟩

/-- The count after a trip. -/
theorem count_next (d0 o : Dev nD) (t : Fin k0_t1_loop.trips) (w : BitVec 32) (hw : ownW w = BitVec.ofNat 32 o.val) (n : ℕ) :
    Scalar.addi (BitVec.ofNat 32 n) (Scalar.extui (sendBit d0 t w))
      = BitVec.ofNat 32 (n + if o = d0 ∧ t.val / 32 ≠ d0.val then 1 else 0) := by
  rw [sendBit_eq d0 o t w hw]
  by_cases h : o = d0 ∧ t.val / 32 ≠ d0.val
  · rw [if_pos h, if_pos h, BitVec.ofNat_add]; rfl
  · rw [if_neg h, if_neg h, Nat.add_zero]; show BitVec.ofNat 32 n + 0#32 = _; rw [BitVec.add_zero]

/-- The receive's bit: another device owns the row's expert. -/
theorem recvBit_iff (d0 o : Dev nD) (w : BitVec 32) (hw : ownW w = BitVec.ofNat 32 o.val) :
    Scalar.cmpi .ne (Scalar.extui (Scalar.cmpi .ne (ownW w) (meW d0)) : BitVec 32) 0#32 = 1#1 ↔ o ≠ d0 := by
  have key : ∀ o d0 : Dev nD, Scalar.cmpi .ne (Scalar.extui (Scalar.cmpi .ne (BitVec.ofNat 32 o.val)
      (BitVec.ofNat 32 d0.val)) : BitVec 32) 0#32 = 1#1 ↔ o ≠ d0 := by decide +kernel
  rw [hw, meW_eq]
  exact key o d0

/-- The last waits' bit: slot `s` is in use. -/
theorem endBit_iff : ∀ n : Fin 1025, ∀ s : Fin 32,
    Scalar.cmpi .ne (Scalar.extui (Scalar.cmpi .sgt (BitVec.ofNat 32 n.val) (BitVec.ofNat 32 s.val)) : BitVec 32) 0#32 = 1#1
      ↔ s.val < n.val := by decide +kernel

end Cert.KernelIdeal.Gen
-- ==== Proof.Rows.lean ====
module

public import proofs.«01_k».proof.Proof.Words

/-!
# Rows of the two scratch buffers

The contribution buffer has a row of 8 by 128 words for each of the 1024 tokens, the receive buffer one for each
of the device's own 32 tokens. A copy moves one row. Here: the elements a row's view covers, what a read through
it reads and what a write through it leaves.
-/

@[expose] public section

namespace Cert.KernelIdeal.Gen

open Idealize.ShloMosaic TcCoe Idealize.SL.Sem

variable {F : FTy → Type} [FloatOps F]

/-- The contribution row at an offset. -/
abbrev cRow (off : Fin 3 → ℕ) (h : ∀ a, off a + S1x8x128.size a ≤ S1024x8x128.size a) : Memref sig .tc .vmem S8x128 .f32 :=
  ((Memref.whole cc0_scratch0).slice (Rect.unit (s := S1024x8x128) off S1x8x128.size h) (fun _ => rfl)).squeeze S8x128
    squeezes_S1x8x128_S8x128

/-- The receive row at an offset. -/
abbrev rRow (off : Fin 3 → ℕ) (h : ∀ a, off a + S1x8x128.size a ≤ S32x8x128.size a) : Memref sig .tc .vmem S8x128 .f32 :=
  ((Memref.whole cc0_scratch1).slice (Rect.unit (s := S32x8x128) off S1x8x128.size h) (fun _ => rfl)).squeeze S8x128
    squeezes_S1x8x128_S8x128

/-- The elements of the contribution buffer in row `i`. -/
def cSet (i : ℕ) : Finset S1024x8x128.Idx := Finset.univ.filter fun x => (x 0).val = i

/-- The elements of the receive buffer in row `r`. -/
def rSet (r : ℕ) : Finset S32x8x128.Idx := Finset.univ.filter fun x => (x 0).val = r

theorem mem_cSet {i : ℕ} {x : S1024x8x128.Idx} : x ∈ cSet i ↔ (x 0).val = i := by simp [cSet]
theorem mem_rSet {r : ℕ} {x : S32x8x128.Idx} : x ∈ rSet r ↔ (x 0).val = r := by simp [rSet]

/-- Different rows share no element. -/
theorem cSet_disjoint {i j : ℕ} (h : i ≠ j) : Disjoint (cSet i) (cSet j) :=
  Finset.disjoint_left.mpr fun x h1 h2 => h ((mem_cSet.1 h1).symm.trans (mem_cSet.1 h2))
theorem rSet_disjoint {i j : ℕ} (h : i ≠ j) : Disjoint (rSet i) (rSet j) :=
  Finset.disjoint_left.mpr fun x h1 h2 => h ((mem_rSet.1 h1).symm.trans (mem_rSet.1 h2))

/-- The index of one row with a leading zero. -/
def lead (x : S8x128.Idx) : S1x8x128.Idx := fun a => match a with
  | 0 => (0 : Fin 1)
  | 1 => (x 0 : Fin 8)
  | 2 => (x 1 : Fin 128)

/-- Reading a row's index as one of a one-row block puts a zero in front. -/
theorem reshape_lead (h : S8x128.numel = S1x8x128.numel) (x : S8x128.Idx) : Shape.reshapeEquiv h x = lead x :=
  Shape.reshapeEquiv_eq_of_rowMajor h (by
    rw [Shape.rowMajor_val_three, Shape.rowMajor_val_two]
    show ((0 : ℕ) * 8 + (x 0).val) * 128 + (x 1).val = (x 0).val * 128 + (x 1).val
    omega)

/-- Where a contribution row's element lies in the buffer. -/
theorem cRow_emb_val {i : ℕ} (h) (x : S8x128.Idx) (a : Fin 3) :
    ((show S1024x8x128.Idx from (cRow ![i, 0, 0] h).view.emb x) a).val = ![i, (x 0).val, (x 1).val] a := by
  show (((Rect.unit (s := S1024x8x128) ![i, 0, 0] S1x8x128.size h).emb (Shape.reshapeEquiv _ x)) a).val = _
  rw [reshape_lead]
  match a with
  | 0 => show i + 0 * 1 = i; omega
  | 1 => show 0 + 1 * (x 0).val = (x 0).val; omega
  | 2 => show 0 + 1 * (x 1).val = (x 1).val; omega

/-- Where a receive row's element lies in the buffer. -/
theorem rRow_emb_val {r : ℕ} (h) (x : S8x128.Idx) (a : Fin 3) :
    ((show S32x8x128.Idx from (rRow ![r, 0, 0] h).view.emb x) a).val = ![r, (x 0).val, (x 1).val] a := by
  show (((Rect.unit (s := S32x8x128) ![r, 0, 0] S1x8x128.size h).emb (Shape.reshapeEquiv _ x)) a).val = _
  rw [reshape_lead]
  match a with
  | 0 => show r + 0 * 1 = r; omega
  | 1 => show 0 + 1 * (x 0).val = (x 0).val; omega
  | 2 => show 0 + 1 * (x 1).val = (x 1).val; omega

/-- The last two coordinates of an element, as an index of a row. -/
def rowIx (s : Fin 8) (l : Fin 128) : S8x128.Idx := fun a => match a with
  | 0 => s
  | 1 => l

/-- An element of row `i` is the row's element at its last two coordinates. -/
theorem cRow_emb_of_mem {i : ℕ} (h) (x : S1024x8x128.Idx) (hx : (x 0).val = i) :
    (cRow ![i, 0, 0] h).view.emb (rowIx (x 1) (x 2)) = x := by
  refine funext fun a => Fin.ext ((cRow_emb_val h _ a).trans ?_)
  fin_cases a
  · exact hx.symm
  · rfl
  · rfl

theorem rRow_emb_of_mem {r : ℕ} (h) (x : S32x8x128.Idx) (hx : (x 0).val = r) :
    (rRow ![r, 0, 0] h).view.emb (rowIx (x 1) (x 2)) = x := by
  refine funext fun a => Fin.ext ((rRow_emb_val h _ a).trans ?_)
  fin_cases a
  · exact hx.symm
  · rfl
  · rfl

/-- A contribution row's view covers the row's elements. -/
theorem cRow_set {i : ℕ} (h) : (cRow ![i, 0, 0] h).view.set = cSet i := by
  ext x
  rw [mem_cSet]
  constructor
  · intro hx
    obtain ⟨y, -, rfl⟩ := Finset.mem_map.1 hx
    exact cRow_emb_val h y 0
  · intro hx
    rw [← cRow_emb_of_mem h x hx]
    exact View.emb_mem_set _ _

/-- A receive row's view covers the row's elements. -/
theorem rRow_set {r : ℕ} (h) : (rRow ![r, 0, 0] h).view.set = rSet r := by
  ext x
  rw [mem_rSet]
  constructor
  · intro hx
    obtain ⟨y, -, rfl⟩ := Finset.mem_map.1 hx
    exact rRow_emb_val h y 0
  · intro hx
    rw [← rRow_emb_of_mem h x hx]
    exact View.emb_mem_set _ _

/-- What lies in row `i` of the contribution buffer at a row index. -/
def cAt (i : ℕ) (hi : i < 1024) (s : Fin 8) (l : Fin 128) : S1024x8x128.Idx := fun a => match a with
  | 0 => (⟨i, hi⟩ : Fin 1024)
  | 1 => s
  | 2 => l

theorem cRow_emb {i : ℕ} (h) (hi : i < 1024) (s : Fin 8) (l : Fin 128) :
    (cRow ![i, 0, 0] h).view.emb (rowIx s l) = cAt i hi s l :=
  cRow_emb_of_mem h (cAt i hi s l) rfl

/-- A copy of contribution row `i` onto receive row `r` leaves, in that row, what row `i` held. -/
theorem copy_row {i r : ℕ} (hc) (hr) (hi : i < 1024) (f : S1024x8x128.Idx → Elt F .f32) (g : S32x8x128.Idx → Elt F .f32)
    (x : S32x8x128.Idx) (hx : (x 0).val = r) :
    (rRow ![r, 0, 0] hr).view.write (Elt F) g ((cRow ![i, 0, 0] hc).view.read (Elt F) f) Finset.univ x
      = f (cAt i hi (x 1) (x 2)) := by
  have e := rRow_emb_of_mem hr x hx
  have h1 := View.write_emb_of_mem (v := (rRow ![r, 0, 0] hr).view) (Val := Elt F) g ((cRow ![i, 0, 0] hc).view.read (Elt F) f)
    (Finset.mem_univ (rowIx (x 1) (x 2)))
  rw [e] at h1
  refine h1.trans ?_
  show (cRow ![i, 0, 0] hc).view.read (Elt F) f (rowIx (x 1) (x 2)) = _
  rw [View.read_apply]
  show f ((cRow ![i, 0, 0] hc).view.emb (rowIx (x 1) (x 2))) = _
  exact congrArg f (cRow_emb hc hi (x 1) (x 2))

/-- The semaphore of send slot `k`, and of receive row `r`. -/
def sendS (k : ℕ) : DmaSem sig := (⟨7 + k % 32, by omega⟩ : Fin 71)
def recvS (r : ℕ) : DmaSem sig := (⟨39 + r % 32, by omega⟩ : Fin 71)

theorem sendS_eq : ∀ k : Fin 32, ∀ h,
    ((cc0_scratch2.slice (Rect.unit (s := S32) ![k.val] S1.size h)).squeeze S_ squeezes_S1_S_).sem = sendS k.val := by
  decide +kernel
theorem recvS_eq : ∀ k : Fin 32, ∀ h,
    ((cc0_scratch3.slice (Rect.unit (s := S32) ![k.val] S1.size h)).squeeze S_ squeezes_S1_S_).sem = recvS k.val := by
  decide +kernel

theorem sendS_val (k : ℕ) : (show Fin 71 from sendS k).val = 7 + k % 32 := rfl
theorem recvS_val (k : ℕ) : (show Fin 71 from recvS k).val = 39 + k % 32 := rfl

end Cert.KernelIdeal.Gen
-- ==== Proof.Tokens.lean ====
module

public import proofs.«01_k».proof.Proof.Rows

/-!
# Tokens

Token `i` of the 1024 has a home, device `i / 32`, and an owner, `own i`. Device `c` sends the tokens it owns whose
home is another device, in order; here they are counted and listed.
-/

@[expose] public section

namespace Cert.KernelIdeal.Gen

open Idealize.ShloMosaic

/-- The home of token `i`. -/
def home (i : ℕ) : Dev nD := (⟨i / 32 % 32, by omega⟩ : Fin 32)

section Tokens
variable (own : ℕ → Dev nD) (c : Dev nD)

/-- Device `c` sends token `i`: it owns the token and is not its home. -/
def Sent (i : ℕ) : Prop := own i = c ∧ i / 32 ≠ c.val
instance : DecidablePred (Sent own c) := fun i => by unfold Sent; infer_instance

/-- How many of the tokens before `i` device `c` sends. -/
def cnt (i : ℕ) : ℕ := ((Finset.range i).filter (Sent own c)).card

/-- The tokens from `i` on that device `c` sends. -/
def pend (i : ℕ) : Finset ℕ := (Finset.Ico i 1024).filter (Sent own c)

/-- The `m`-th token device `c` sends. -/
noncomputable def nthTok (m : ℕ) : ℕ :=
  open Classical in if h : ∃ t, Sent own c t ∧ cnt own c t = m then h.choose else 0

theorem cnt_zero : cnt own c 0 = 0 := rfl
theorem cnt_succ (i : ℕ) : cnt own c (i + 1) = cnt own c i + if Sent own c i then 1 else 0 := by
  unfold cnt
  rw [Finset.range_add_one, Finset.filter_insert]
  by_cases h : Sent own c i
  · rw [if_pos h, if_pos h, Finset.card_insert_of_notMem]
    intro h'; exact absurd (Finset.mem_range.1 (Finset.mem_filter.1 h').1) (Nat.lt_irrefl i)
  · rw [if_neg h, if_neg h, Nat.add_zero]
theorem cnt_le (i : ℕ) : cnt own c i ≤ i := (Finset.card_filter_le _ _).trans (Finset.card_range i).le
theorem cnt_mono {i j : ℕ} (h : i ≤ j) : cnt own c i ≤ cnt own c j :=
  Finset.card_le_card (Finset.filter_subset_filter _ (Finset.range_mono h))
theorem cnt_lt_of {i j : ℕ} (h : Sent own c i) (hij : i < j) : cnt own c i < cnt own c j := by
  have h1 := cnt_succ own c i
  rw [if_pos h] at h1
  have h2 := cnt_mono own c (i := i + 1) (j := j) hij
  omega
theorem cnt_inj {i j : ℕ} (hi : Sent own c i) (hj : Sent own c j) (h : cnt own c i = cnt own c j) : i = j := by
  rcases Nat.lt_trichotomy i j with hlt | he | hlt
  · exact absurd (cnt_lt_of own c hi hlt) (by omega)
  · exact he
  · exact absurd (cnt_lt_of own c hj hlt) (by omega)
theorem nthTok_cnt {i : ℕ} (h : Sent own c i) : nthTok own c (cnt own c i) = i := by
  have hx : ∃ t, Sent own c t ∧ cnt own c t = cnt own c i := ⟨i, h, rfl⟩
  unfold nthTok
  rw [dif_pos hx]
  exact cnt_inj own c hx.choose_spec.1 h hx.choose_spec.2
theorem cnt_lt {i : ℕ} (h : Sent own c i) (hi : i < 1024) : cnt own c i < cnt own c 1024 := cnt_lt_of own c h hi

theorem mem_pend {i t : ℕ} : t ∈ pend own c i ↔ (i ≤ t ∧ t < 1024) ∧ Sent own c t := by
  rw [pend, Finset.mem_filter, Finset.mem_Ico]

theorem pend_succ_of_sent {i : ℕ} (hi : i < 1024) (h : Sent own c i) : pend own c i = insert i (pend own c (i + 1)) := by
  ext t
  rw [Finset.mem_insert, mem_pend, mem_pend]
  constructor
  · rintro ⟨⟨h1, h2⟩, h3⟩
    by_cases e : t = i
    · exact .inl e
    · exact .inr ⟨⟨by omega, h2⟩, h3⟩
  · rintro (rfl | ⟨⟨h1, h2⟩, h3⟩)
    · exact ⟨⟨le_refl _, hi⟩, h⟩
    · exact ⟨⟨by omega, h2⟩, h3⟩

theorem not_mem_pend_succ (i : ℕ) : i ∉ pend own c (i + 1) := fun h => by
  have := (mem_pend own c).1 h; omega

theorem pend_succ_of_not {i : ℕ} (h : ¬ Sent own c i) : pend own c i = pend own c (i + 1) := by
  ext t
  rw [mem_pend, mem_pend]
  constructor
  · rintro ⟨⟨h1, h2⟩, h3⟩
    have : t ≠ i := fun e => h (e ▸ h3)
    exact ⟨⟨by omega, h2⟩, h3⟩
  · rintro ⟨⟨h1, h2⟩, h3⟩
    exact ⟨⟨by omega, h2⟩, h3⟩

theorem pend_end : pend own c 1024 = ∅ := by
  ext t; rw [mem_pend]; constructor
  · rintro ⟨⟨h1, h2⟩, -⟩; omega
  · intro h; exact absurd h (Finset.notMem_empty _)

theorem home_val {i : ℕ} (hi : i < 1024) : (home i).val = i / 32 := by
  show i / 32 % 32 = i / 32; omega

/-- A token sent is home on another device. -/
theorem home_ne {i : ℕ} (hi : i < 1024) (h : Sent own c i) : home i ≠ c := fun e => h.2 (by rw [← home_val hi, e])

end Tokens

end Cert.KernelIdeal.Gen
-- ==== Proof.Protocol.lean ====
module

public import proofs.«01_k».proof.Proof.Tokens
public import proofs.«01_k».proof.Proof.Gen.KernelIdeal.Launch
public import Idealize.ShloMosaic.Lib.Pipeline.Launch
public import Idealize.ShloMosaic.Lib.Pipeline.Kit
public import Idealize.ShloMosaic.Lib.Pipeline.Regions
public import Idealize.ShloMosaic.Lib.Tactic

/-!
# The protocol between the devices

Every token `i` of the 1024 has a home, device `i / 32`, and an owner `own i`, the device holding its expert. The
owner sends the token's contribution row to its home unless it is the home itself.

* The barrier cell of device `c` has one round. Every other device pays one unit onto it and hands over those of its
  receive rows that `c` will write: the rows of the tokens it is home of and `c` owns.
* The receive cell of token `i`, on its home, has one round with one payer, the owner, if that is another device. The
  landing hands over the receive row holding the contribution.
* Send slot `k` of device `c` has one round for each row sent through it; the row sent is handed back.

The owner function and the contributions are arbitrary here.
-/

@[expose] public section

noncomputable section

namespace Cert.KernelIdeal.Gen

open Idealize.ShloMosaic TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds' resources, payers named by device, beside the pipeline's. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- The barrier semaphore. -/
abbrev barS : Sem sig := (SemArray.scalar (sig.barrier 0 rfl) : Sems sig S_).sem

abbrev barCell (c : Dev nD) : GSem nD τ sig := ((c : Thread nD τ), .reg barS)
abbrev sendCell (c : Dev nD) (k : ℕ) : GSem nD τ sig := ((c : Thread nD τ), .dma (sendS k))
/-- The receive cell of token `i`, on its home. -/
abbrev recvCell (i : ℕ) : GSem nD τ sig := ((home i : Thread nD τ), .dma (recvS i))

/-- What one row's transfer credits. -/
def N : ℕ := (rRow ![0, 0, 0] inb_S32x8x128_S1x8x128_0_0_0).view.dmaCredit
theorem N_pos : 0 < N := View.dmaCredit_pos _ (by decide)

/-! ## Contents -/

section Contents
variable (own : ℕ → Dev nD) (A : Dev nD → S1024x8x128.Idx → Elt F .f32)

/-- Row `i` of device `c`'s contribution buffer holding `f`'s. -/
def cPts (c : Dev nD) (i : ℕ) (f : Buf (Elt F) ((c : Thread nD τ).loc cc0_scratch0)) : sProp 𝕄 :=
  ((c : Thread nD τ).loc cc0_scratch0) ↦[cSet i]{fullShare} f

/-- Row `r` of device `c`'s receive buffer holding `f`'s. -/
def rPts (c : Dev nD) (r : ℕ) (f : Buf (Elt F) ((c : Thread nD τ).loc cc0_scratch1)) : sProp 𝕄 :=
  ((c : Thread nD τ).loc cc0_scratch1) ↦[rSet r]{fullShare} f

instance cPts_storable (c : Dev nD) (i : ℕ) (f) : BI.Storable (upEmb : UEmb _ 𝕄) (cPts (F := F) c i f) := by
  unfold cPts; infer_instance
instance rPts_storable (c : Dev nD) (i : ℕ) (f) : BI.Storable (upEmb : UEmb _ 𝕄) (rPts (F := F) c i f) := by
  unfold rPts; infer_instance

/-- The token whose row lies at `x` of device `d`'s receive buffer. -/
def tokAt (d : Dev nD) (x : S32x8x128.Idx) : ℕ := 32 * d.val + (x 0).val
theorem tokAt_lt (d : Dev nD) (x : S32x8x128.Idx) : tokAt d x < 1024 := by
  have h1 : d.val < 32 := d.isLt
  have h2 : (x 0).val < 32 := (x 0).isLt
  unfold tokAt; omega

/-- What device `d`'s receive buffer holds at the end: the owner's contribution in the rows of tokens other devices
own, the zeros it began with in the rest. -/
def recvd (d : Dev nD) (x : S32x8x128.Idx) : Elt F .f32 :=
  if own (tokAt d x) = d then k0_pay1 (F := F) x
  else A (own (tokAt d x)) (cAt (tokAt d x) (tokAt_lt d x) (x 1) (x 2))

/-! ## The schedule -/

/-- What device `d` hands device `c` with its barrier unit: the receive rows of the tokens `d` is home of and `c`
owns, and that their receive cells have begun. -/
def barPay (c d : Dev nD) : sProp 𝕄 :=
  bigSep ((pend own c 0).filter fun i => home i = d) fun i =>
    iprop((∃ f, rPts (home i) (i % 32) f) ∗ reached ER (recvCell i) 0)

/-- The schedule: duties, amounts and payloads of every cell's rounds. -/
def sched : Rounds.Schedule (GSem nD τ sig) (Dev nD) 𝕄 where
  duties g n := match g.2 with
    | .reg s => if s = barS ∧ n = 0 then Finset.univ.erase g.1.1 else ∅
    | .dma s =>
      if 39 ≤ (show Fin 71 from s).val then
        if n = 0 ∧ own (32 * g.1.1.val + ((show Fin 71 from s).val - 39)) ≠ g.1.1
        then {own (32 * g.1.1.val + ((show Fin 71 from s).val - 39))} else ∅
      else if 7 ≤ (show Fin 71 from s).val then
        if 32 * n + ((show Fin 71 from s).val - 7) < cnt own g.1.1 1024 then {g.1.1} else ∅
      else ∅
  unitless _ := False
  amount g _ _ := match g.2 with
    | .reg _ => 1
    | .dma _ => N
  payload g n d := match g.2 with
    | .reg _ => barPay own g.1.1 d
    | .dma s =>
      if 39 ≤ (show Fin 71 from s).val then
        rPts g.1.1 ((show Fin 71 from s).val - 39) (recvd own A g.1.1)
      else cPts g.1.1 (nthTok own g.1.1 (32 * n + ((show Fin 71 from s).val - 7))) (A g.1.1)
  amount_pos g _ _ _ := by
    obtain ⟨t, s⟩ := g
    cases s
    · exact Nat.one_pos
    · exact N_pos

instance sched_storable (g : GSem nD τ sig) (r : ℕ) (d : Dev nD) :
    BI.Storable (upEmb : UEmb _ 𝕄) ((sched (F := F) own A).payload g r d) := by
  obtain ⟨t, s⟩ := g
  cases s with
  | reg s =>
    show BI.Storable upEmb (barPay own t.1 d)
    unfold barPay; infer_instance
  | dma s =>
    show BI.Storable upEmb (if 39 ≤ (show Fin 71 from s).val then rPts t.1 ((show Fin 71 from s).val - 39) (recvd own A t.1)
      else cPts t.1 (nthTok own t.1 (32 * r + ((show Fin 71 from s).val - 7))) (A t.1))
    split <;> infer_instance

theorem duties_bar (c : Dev nD) : (sched (F := F) own A).duties (barCell c) 0 = Finset.univ.erase c := by
  show (if barS = barS ∧ 0 = 0 then Finset.univ.erase c else ∅) = _
  exact if_pos ⟨rfl, rfl⟩
theorem duties_bar_later (c : Dev nD) : ∀ n ≥ 1, (sched (F := F) own A).duties (barCell c) n = ∅ :=
  fun n hn => by
  show (if barS = barS ∧ n = 0 then Finset.univ.erase c else ∅) = _
  exact if_neg fun h => by omega

theorem tok_split {i : ℕ} (hi : i < 1024) : 32 * (home i).val + (39 + i % 32 - 39) = i := by
  rw [home_val hi]; omega

theorem duties_recv {i : ℕ} (hi : i < 1024) (h : own i ≠ home i) :
    (sched (F := F) own A).duties (recvCell i) 0 = {own i} := by
  show (if 39 ≤ 39 + i % 32 then (if 0 = 0 ∧ own (32 * (home i).val + (39 + i % 32 - 39)) ≠ home i
    then {own (32 * (home i).val + (39 + i % 32 - 39))} else ∅) else _) = _
  refine (if_pos (by omega)).trans ((if_pos ⟨rfl, ?_⟩).trans (congrArg (fun t => ({own t} : Finset (Dev nD))) (tok_split hi)))
  exact fun h' => h ((congrArg own (tok_split hi)).symm.trans h')
theorem duties_recv_later {i : ℕ} (hi : i < 1024) : ∀ n ≥ 1, (sched (F := F) own A).duties (recvCell i) n = ∅ := fun n hn => by
  show (if 39 ≤ 39 + i % 32 then (if n = 0 ∧ own (32 * (home i).val + (39 + i % 32 - 39)) ≠ home i
    then {own (32 * (home i).val + (39 + i % 32 - 39))} else ∅) else _) = _
  exact (if_pos (by omega)).trans (if_neg (by omega))
theorem duties_recv_own {i : ℕ} (hi : i < 1024) (h : own i = home i) :
    ∀ n ≥ 0, (sched (F := F) own A).duties (recvCell i) n = ∅ := fun n _ => by
  show (if 39 ≤ 39 + i % 32 then (if n = 0 ∧ own (32 * (home i).val + (39 + i % 32 - 39)) ≠ home i
    then {own (32 * (home i).val + (39 + i % 32 - 39))} else ∅) else _) = _
  exact (if_pos (by omega)).trans (if_neg fun h' => h'.2 ((congrArg own (tok_split hi)).trans h))

theorem duties_send (c : Dev nD) {k n : ℕ} (hk : k < 32) (h : 32 * n + k < cnt own c 1024) :
    (sched (F := F) own A).duties (sendCell c k) n = {c} := by
  show (if 39 ≤ 7 + k % 32 then _ else if 7 ≤ 7 + k % 32 then (if 32 * n + (7 + k % 32 - 7) < cnt own c 1024 then {c} else ∅) else ∅) = _
  exact (if_neg (by omega)).trans ((if_pos (by omega)).trans (if_pos (by omega)))
theorem duties_send_later (c : Dev nD) {k R : ℕ} (hk : k < 32) (h : cnt own c 1024 ≤ 32 * R + k) :
    ∀ n ≥ R, (sched (F := F) own A).duties (sendCell c k) n = ∅ := fun n hn => by
  show (if 39 ≤ 7 + k % 32 then _ else if 7 ≤ 7 + k % 32 then (if 32 * n + (7 + k % 32 - 7) < cnt own c 1024 then {c} else ∅) else ∅) = _
  exact (if_neg (by omega)).trans ((if_pos (by omega)).trans (if_neg (by omega)))

theorem amount_bar (c : Dev nD) (n : ℕ) (d : Dev nD) : (sched (F := F) own A).amount (barCell c) n d = 1 := rfl
theorem amount_recv (i n : ℕ) (d : Dev nD) : (sched (F := F) own A).amount (recvCell i) n d = N := rfl
theorem amount_send (c : Dev nD) (k n : ℕ) (d : Dev nD) : (sched (F := F) own A).amount (sendCell c k) n d = N := rfl

theorem expect_bar (c : Dev nD) : (sched (F := F) own A).expect (barCell c) 0 = 31 := by
  unfold Schedule.expect Schedule.amountOf
  rw [duties_bar, Finset.sum_congr rfl fun d _ => amount_bar own A c 0 d, Finset.sum_const, smul_eq_mul, Nat.mul_one,
    Finset.card_erase_of_mem (Finset.mem_univ _)]
  rfl
theorem expect_recv {i : ℕ} (hi : i < 1024) (h : own i ≠ home i) : (sched (F := F) own A).expect (recvCell i) 0 = N := by
  unfold Schedule.expect Schedule.amountOf
  rw [duties_recv own A hi h, Finset.sum_singleton, amount_recv]
theorem expect_send (c : Dev nD) {k n : ℕ} (hk : k < 32) (h : 32 * n + k < cnt own c 1024) :
    (sched (F := F) own A).expect (sendCell c k) n = N := by
  unfold Schedule.expect Schedule.amountOf
  rw [duties_send own A c hk h, Finset.sum_singleton, amount_send]

theorem payload_bar (c d : Dev nD) : (sched (F := F) own A).payload (barCell c) 0 d = barPay own c d := rfl
theorem payload_recv (i : ℕ) (d : Dev nD) :
    (sched (F := F) own A).payload (recvCell i) 0 d = rPts (home i) (i % 32) (recvd own A (home i)) := by
  show (if 39 ≤ 39 + i % 32 then rPts (home i) (39 + i % 32 - 39) (recvd own A (home i)) else _) = _
  refine (if_pos (by omega)).trans (congrArg (fun r => rPts (home i) r (recvd own A (home i))) ?_)
  omega
theorem payload_send (c : Dev nD) {k : ℕ} (n : ℕ) (hk : k < 32) (d : Dev nD) :
    (sched (F := F) own A).payload (sendCell c k) n d = cPts c (nthTok own c (32 * n + k)) (A c) := by
  show (if 39 ≤ 7 + k % 32 then _ else cPts c (nthTok own c (32 * n + (7 + k % 32 - 7))) (A c)) = _
  refine (if_neg (by omega)).trans (congrArg (fun r => cPts c (nthTok own c (32 * n + r)) (A c)) ?_)
  omega

/-- The rest of a cell's round when nothing of it was taken. -/
theorem rest_recv {i : ℕ} (hi : i < 1024) (h : own i ≠ home i) :
    bigSep ((sched (F := F) own A).duties (recvCell i) 0 \ ∅) (fun d => (sched (F := F) own A).payload (recvCell i) 0 d)
      = rPts (home i) (i % 32) (recvd own A (home i)) := by
  rw [Finset.sdiff_empty, duties_recv own A hi h, bigSep_singleton, payload_recv]
theorem rest_send (c : Dev nD) {k n : ℕ} (hk : k < 32) (h : 32 * n + k < cnt own c 1024) :
    bigSep ((sched (F := F) own A).duties (sendCell c k) n \ ∅) (fun d => (sched (F := F) own A).payload (sendCell c k) n d)
      = cPts c (nthTok own c (32 * n + k)) (A c) := by
  rw [Finset.sdiff_empty, duties_send own A c hk h, bigSep_singleton, payload_send own A c n hk]

/-- What a device holds after its barrier: the receive row of every token it will send, and that its receive cell has
begun. -/
theorem rest_bar (c : Dev nD) :
    bigSep ((sched (F := F) own A).duties (barCell c) 0 \ ∅) (fun d => (sched (F := F) own A).payload (barCell c) 0 d)
      = bigSep (pend own c 0) fun i => iprop((∃ f, rPts (F := F) (home i) (i % 32) f) ∗ reached ER (recvCell i) 0) := by
  have hu : (Finset.univ.erase c).biUnion (fun d => (pend own c 0).filter fun i => home i = d) = pend own c 0 := by
    ext i
    rw [Finset.mem_biUnion]
    constructor
    · rintro ⟨d, -, h⟩; exact (Finset.mem_filter.1 h).1
    · intro h
      have h' := (mem_pend own c).1 h
      exact ⟨home i, Finset.mem_erase.2 ⟨home_ne own c h'.1.2 h'.2, Finset.mem_univ _⟩, Finset.mem_filter.2 ⟨h, rfl⟩⟩
  rw [Finset.sdiff_empty, duties_bar]
  conv_rhs => rw [← hu]
  rw [bigSep_biUnion_eq]
  · rfl
  · intro d _ d' _ hne
    exact Finset.disjoint_left.2 fun i h1 h2 => hne ((Finset.mem_filter.1 h1).2.symm.trans (Finset.mem_filter.1 h2).2)

end Contents

/-! ## What each device owes at launch, and the levels -/

section Owed
variable (own : ℕ → Dev nD) (c : Dev nD)

/-- The receive credits of the tokens from `i` on that the device sends. -/
def owedFrom (i : ℕ) : CellTallies nD τ sig Unit := ∑ t ∈ pend own c i, tallyAt (recvCell t) () N

/-- The device `k + 1` places further on. -/
def fwd (k : ℕ) (c : Dev nD) : Dev nD := (⟨(c.val + k + 1) % 32, by omega⟩ : Fin 32)

/-- What a device owes: one unit to each of the devices from place `k` on, and the receive credits. -/
def owedBar (k : ℕ) : CellTallies nD τ sig Unit :=
  owedFrom own c 0 + ∑ j ∈ Finset.Ico k 31, tallyAt (barCell (fwd j c)) () 1

theorem owedFrom_sent {i : ℕ} (hi : i < 1024) (h : Sent own c i) :
    owedFrom own c i = owedFrom own c (i + 1) + tallyAt (recvCell i) () N := by
  unfold owedFrom
  rw [pend_succ_of_sent own c hi h, Finset.sum_insert (not_mem_pend_succ own c i), add_comm]
theorem owedFrom_not {i : ℕ} (h : ¬ Sent own c i) : owedFrom own c i = owedFrom own c (i + 1) := by
  unfold owedFrom; rw [pend_succ_of_not own c h]
theorem owedFrom_end : owedFrom own c 1024 = 0 := by unfold owedFrom; rw [pend_end, Finset.sum_empty]
theorem owedBar_succ {k : ℕ} (hk : k < 31) :
    owedBar own c k = owedBar own c (k + 1) + tallyAt (barCell (fwd k c)) () 1 := by
  unfold owedBar
  have e : Finset.Ico k 31 = insert k (Finset.Ico (k + 1) 31) := by
    ext j; rw [Finset.mem_insert, Finset.mem_Ico, Finset.mem_Ico]; omega
  rw [e, Finset.sum_insert (by rw [Finset.mem_Ico]; omega), add_comm (tallyAt _ _ _), add_assoc]
theorem owedBar_end : owedBar own c 31 = owedFrom own c 0 := by
  unfold owedBar; rw [Finset.Ico_self, Finset.sum_empty, add_zero]

/-- Every core of the tensor kind has the one credit index. -/
def L (g : GSem nD τ sig) : Finset Unit := if g.1.2 = .tc then {()} else ∅
/-- Barrier cells at 1, receive cells at 2, all others at 0. -/
def lv (g : GSem nD τ sig) (_ : Unit) : ℕ := match g.2 with
  | .reg _ => 1
  | .dma s => if 39 ≤ (show Fin 71 from s).val then 2 else 0

theorem L_of_ne (g : GSem nD τ sig) (h : g.1.2 ≠ .tc) : L g = ∅ := if_neg h
theorem L_tc (d : Dev nD) (sm : SemLoc sig) : L ((d : Thread nD τ), sm) = {()} := if_pos rfl
theorem lv_recv (i : ℕ) (u : Unit) : lv (recvCell i) u = 2 := by
  show (if 39 ≤ 39 + i % 32 then 2 else 0) = 2
  exact if_pos (by omega)

theorem owedFrom_pos {i : ℕ} {g : GSem nD τ sig} {u : Unit} (h : 0 < owedFrom own c i g u) :
    ∃ t ∈ pend own c i, g = recvCell t := by
  unfold owedFrom at h
  rw [Finset.sum_apply, Finsupp.finset_sum_apply] at h
  obtain ⟨t, ht, hp⟩ := Finset.exists_ne_zero_of_sum_ne_zero (Nat.pos_iff_ne_zero.1 h)
  refine ⟨t, ht, ?_⟩
  rw [tallyAt_apply] at hp
  by_contra hn
  exact hp (if_neg fun h' => hn h'.1)

theorem owedBar_pos {k : ℕ} {g : GSem nD τ sig} {u : Unit} (h : 0 < owedBar own c k g u) :
    (∃ t ∈ pend own c 0, g = recvCell t) ∨ ∃ j, g = barCell (fwd j c) := by
  unfold owedBar at h
  rw [Pi.add_apply, Finsupp.add_apply] at h
  by_cases h1 : 0 < owedFrom own c 0 g u
  · exact .inl (owedFrom_pos own c h1)
  · have h2 : 0 < (∑ j ∈ Finset.Ico k 31, tallyAt (barCell (fwd j c)) () 1 : CellTallies nD τ sig Unit) g u := by omega
    rw [Finset.sum_apply, Finsupp.finset_sum_apply] at h2
    obtain ⟨t, ht, hp⟩ := Finset.exists_ne_zero_of_sum_ne_zero (Nat.pos_iff_ne_zero.1 h2)
    refine .inr ⟨t, ?_⟩
    rw [tallyAt_apply] at hp
    by_contra hn
    exact hp (if_neg fun h' => hn h'.1)

/-- A wait below level 2 is allowed while only receive credits are owed. -/
theorem mayWait_low (sm : SemLoc sig) (l : ℕ) (hl : l < 2) (hsm : lv ((c : Thread nD τ), sm) () ≤ l) (i : ℕ) :
    (levAts L lv : sProp 𝕄) ⊢ MayWait (c : Thread nD τ) sm () (owedFrom own c i) :=
  MayOwe.of_cut (L := L) (lev := lv) l
    (fun p hp => by rw [Finset.mem_singleton.mp hp, L_tc]; exact Finset.mem_singleton_self _)
    (fun g u hg => by obtain ⟨t, -, rfl⟩ := owedFrom_pos own c hg; exact Finset.mem_singleton_self _)
    (fun p hp => by rw [Finset.mem_singleton.mp hp]; exact hsm)
    (fun g u hg => by obtain ⟨t, -, rfl⟩ := owedFrom_pos own c hg; rw [lv_recv]; exact hl)

/-- A wait at level 0 is allowed whatever is owed at launch. -/
theorem mayWait_zero (sm : SemLoc sig) (hsm : lv ((c : Thread nD τ), sm) () ≤ 0) :
    (levAts L lv : sProp 𝕄) ⊢ MayWait (c : Thread nD τ) sm () (owedBar own c 0) :=
  MayOwe.of_cut (L := L) (lev := lv) 0
    (fun p hp => by rw [Finset.mem_singleton.mp hp, L_tc]; exact Finset.mem_singleton_self _)
    (fun g u hg => by rcases owedBar_pos own c hg with ⟨t, -, rfl⟩ | ⟨j, rfl⟩ <;> exact Finset.mem_singleton_self _)
    (fun p hp => by rw [Finset.mem_singleton.mp hp]; exact hsm)
    (fun g u hg => by
      rcases owedBar_pos own c hg with ⟨t, -, rfl⟩ | ⟨j, rfl⟩
      · rw [lv_recv]; decide
      · exact Nat.one_pos)

end Owed

end Cert.KernelIdeal.Gen
-- ==== Proof.Slots.lean ====
module

public import proofs.«01_k».proof.Proof.Protocol

/-!
# The state a device carries through its sends

A device's send slots, the rows it has yet to send, and the rows it has back and the cells' invariants.
-/

@[expose] public section

noncomputable section

namespace Cert.KernelIdeal.Gen

open Idealize.ShloMosaic TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program of device `c`. -/
abbrev WP {α : Type} (c : Dev nD) (p : KProg F α) (Q : α → sProp 𝕄) : sProp 𝕄 :=
  wp frame (wpE (defs₀ (F := F)) 𝒱₀ (c : Thread nD τ) none) Set.univ p Q

/-- A chain of steps by an invariant. -/
theorem wp_chain {n₀ : ℕ} {β : Type} (c : Dev nD) (f : (r : ℕ) → r < n₀ → KProg F PUnit) (q : KProg F β)
    (I : ℕ → sProp 𝕄) (Q : β → sProp 𝕄) (hstep : ∀ r hr, I r ⊢ WP c (f r hr) fun _ => I (r + 1)) :
    ∀ n k h, iprop(I k ∗ (I (k + n) -∗ WP c q Q)) ⊢ WP c (chain f q n k h) Q := by
  intro n
  induction n with
  | zero =>
    intro k h
    iintro ⟨HI, HQ⟩
    iapply HQ; iexact HI
  | succ n ih =>
    intro k h
    show _ ⊢ WP c (f k (by omega) >>= fun _ => chain f q n (k + 1) (by omega)) Q
    unfold WP
    rw [wp_bind]
    iintro ⟨HI, HQ⟩
    iapply (wp_wand_r frame (wpE (defs₀ (F := F)) 𝒱₀ (c : Thread nD τ) none) Set.univ)
    isplitl [HI]
    · iapply (hstep k _); iexact HI
    · iintro %u HI
      iapply (ih (k + 1) _)
      isplitl [HI]
      · iexact HI
      · rw [show k + 1 + n = k + (n + 1) by omega]; iexact HQ

section Cells
variable (own : ℕ → Dev nD) (A : Dev nD → S1024x8x128.Idx → Elt F .f32) (κ : GSem nD τ sig → ℕ)

/-- The barrier cells, and the send and receive cells. -/
def barCells : Finset (GSem nD τ sig) := Finset.univ.image barCell
def dmaCells : Finset (GSem nD τ sig) :=
  (Finset.univ : Finset (Dev nD × Fin 64)).image fun p => ((p.1 : Thread nD τ), .dma (⟨7 + p.2.val, by omega⟩ : Fin 71))

/-- All of the protocol's cells, as a set known only by its equation. -/
def cells : Finset (GSem nD τ sig) := Classical.choose (⟨barCells ∪ dmaCells, rfl⟩ : ∃ S, S = barCells ∪ dmaCells)
theorem cells_eq : cells = barCells ∪ dmaCells :=
  Classical.choose_spec (⟨barCells ∪ dmaCells, rfl⟩ : ∃ S, S = barCells ∪ dmaCells)

theorem mem_bar (c : Dev nD) : barCell c ∈ cells :=
  cells_eq ▸ Finset.mem_union_left _ (Finset.mem_image_of_mem _ (Finset.mem_univ _))
theorem mem_send (c : Dev nD) (k : ℕ) : sendCell c k ∈ cells :=
  cells_eq ▸ Finset.mem_union_right _ (Finset.mem_image.2 ⟨(c, ⟨k % 32, by omega⟩), Finset.mem_univ _, rfl⟩)
theorem mem_recv (i : ℕ) : recvCell i ∈ cells := by
  rw [cells_eq]
  refine Finset.mem_union_right _ (Finset.mem_image.2 ⟨(home i, ⟨32 + i % 32, by omega⟩), Finset.mem_univ _, ?_⟩)
  have e : (⟨7 + (32 + i % 32), by omega⟩ : Fin 71) = ⟨39 + i % 32, by omega⟩ := Fin.ext (by show 7 + (32 + i % 32) = 39 + i % 32; omega)
  exact congrArg (fun s : Fin 71 => ((home i : Thread nD τ), (SemLoc.dma (show DmaSem sig from s) : SemLoc sig))) e

/-- Every cell's invariant. -/
def invs : sProp 𝕄 := bigSep cells fun g => cellInv ER (sched own A) (κ g) g

instance : BI.Persistent (invs own A κ) := by unfold invs; infer_instance

theorem invs_get {g : GSem nD τ sig} (hg : g ∈ cells) :
    invs own A κ ⊢ cellInv ER (sched own A) (κ g) g := by
  unfold invs
  exact bigSep_elim hg

end Cells

section Slots
variable (own : ℕ → Dev nD) (A : Dev nD → S1024x8x128.Idx → Elt F .f32) (c : Dev nD)

/-- Send slot `k` when `n` rows have been sent: untouched, or the last send through it not yet waited for. -/
def slotSt (n k : ℕ) : sProp 𝕄 :=
  if n ≤ k then iprop(atPos ER (sendCell c k) 0 ∅ 0 ∗ reached ER (sendCell c k) 0)
  else iprop(atPos ER (sendCell c k) ((n - 1 - k) / 32) ∅ 0 ∗ cred (tallyAt (sendCell c k) () N))

/-- Send slot `k` when it is free for the row numbered `n`. -/
def slotFree (n : ℕ) : sProp 𝕄 :=
  iprop(atPos ER (sendCell c (n % 32)) (n / 32) ∅ 0 ∗ reached ER (sendCell c (n % 32)) (n / 32))

/-- What the device needs of token `t` to send it. -/
def sendRes (t : ℕ) : sProp 𝕄 :=
  iprop(cPts c t (A c) ∗ (∃ f, rPts (home t) (t % 32) f) ∗ reached ER (recvCell t) 0
    ∗ dutyTok ER (sendCell c (cnt own c t % 32)) (cnt own c t / 32) c ∗ dutyTok ER (recvCell t) 0 c)

/-- The row waited for when row `n` takes its slot. -/
def backOf (n : ℕ) : sProp 𝕄 := if 32 ≤ n then cPts c (nthTok own c (n - 32)) (A c) else iprop(emp)

theorem slotSt_free (n : ℕ) (h : n < 32) : slotSt (F := F) c n (n % 32) = slotFree c n := by
  unfold slotSt slotFree
  rw [Nat.mod_eq_of_lt h, if_pos le_rfl, Nat.div_eq_of_lt h]

theorem slotSt_used (n : ℕ) :
    slotSt (F := F) c (n + 1) (n % 32)
      = iprop(atPos ER (sendCell c (n % 32)) (n / 32) ∅ 0 ∗ cred (tallyAt (sendCell c (n % 32)) () N)) := by
  unfold slotSt
  rw [if_neg (by have := Nat.mod_le n 32; omega), show (n + 1 - 1 - n % 32) / 32 = n / 32 by omega]

theorem slotSt_other (n k : ℕ) (hk : k < 32) (h : k ≠ n % 32) : slotSt (F := F) c (n + 1) k = slotSt c n k := by
  unfold slotSt
  by_cases hn : n ≤ k
  · rw [if_pos hn, if_pos (by omega)]
  · rw [if_neg hn, if_neg (by omega), show (n + 1 - 1 - k) / 32 = (n - 1 - k) / 32 by omega]

end Slots

end Cert.KernelIdeal.Gen
-- ==== Proof.Rules.lean ====
module

public import proofs.«01_k».proof.Proof.Slots

/-!
# The waits and the send at the protocol's cells
-/

@[expose] public section

noncomputable section

namespace Cert.KernelIdeal.Gen

open Idealize.ShloMosaic TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The rules at the protocol's cells -/

section Rules
variable (own : ℕ → Dev nD) (A : Dev nD → S1024x8x128.Idx → Elt F .f32) (κ : GSem nD τ sig → ℕ) (c : Dev nD)

theorem sendS_at (off : Fin 1 → ℕ) (h) (k : ℕ) (hk : k < 32) (e : off = ![k]) :
    ((cc0_scratch2.slice (Rect.unit (s := S32) off S1.size h)).squeeze S_ squeezes_S1_S_).sem = sendS k := by
  subst e; exact sendS_eq ⟨k, hk⟩ h
theorem recvS_at (off : Fin 1 → ℕ) (h) (k : ℕ) (hk : k < 32) (e : off = ![k]) :
    ((cc0_scratch3.slice (Rect.unit (s := S32) off S1.size h)).squeeze S_ squeezes_S1_S_).sem = recvS k := by
  subst e; exact recvS_eq ⟨k, hk⟩ h

/-- A wait on a DMA cell for the whole of its round, under any schedule. -/
theorem wait_gen {sp sp' : Space} {s s' : Shape} {e e' : EltTy} (Rd : Rounds.Schedule (GSem nD τ sig) (Dev nD) 𝕄)
    [∀ g r d, BI.Storable (upEmb : UEmb _ 𝕄) (Rd.payload g r d)] (sem : DmaSem sig)
    {src : Memref sig .tc sp' s' e'} {dst : Memref sig .tc sp s e}
    {hsrc : src.view.WordExact} {hdst : dst.view.WordExact} {k' R : ℕ} (hd : dst.view.dmaCredit = k') (κ : ℕ) (O W)
    (hk : 0 + k' = Rd.expect ((c : Thread nD τ), .dma sem) R) {α : Type} {kk : PUnit → KProg F α}
    {Q : α → sProp 𝕄} :
    iprop(cellInv ER Rd κ ((c : Thread nD τ), .dma sem) ∗ cred (tallyAt ((c : Thread nD τ), .dma sem) () k') ∗ owes (c : Thread nD τ) O W
       ∗ MayWait (c : Thread nD τ) (.dma sem) () O ∗ atPos ER ((c : Thread nD τ), .dma sem) R ∅ 0)
      ⊢ iprop(((owes (c : Thread nD τ) O (insert (.dma sem, ()) W) ∗ atPos ER ((c : Thread nD τ), .dma sem) (R + 1) ∅ 0
           ∗ reached ER ((c : Thread nD τ), .dma sem) (R + 1)
            ∗ bigSep (Rd.duties ((c : Thread nD τ), .dma sem) R \ ∅) (fun d => Rd.payload ((c : Thread nD τ), .dma sem) R d)) -∗ WP c (kk ⟨⟩) Q)
          -∗ WP c (.op (.waitDma2 sem src dst hsrc hdst) kk) Q) := by
  subst hd
  exact Rounds.wp_wait_rest_token 𝒱₀ ER Rd (c : Thread nD τ) none (κ := κ)
    (wpE_waitDma2_eq 𝒱₀ (c : Thread nD τ) none Set.univ) (Set.mem_univ _) () hk

/-- A wait for a row sent through slot `k` in its round `n`: the row comes back. -/
theorem wp_wait_send {sp sp' : Space} {s s' : Shape} {e e' : EltTy} (sem : DmaSem sig) (k n : ℕ) (hk : k < 32) (hsem : sem = sendS k)
    (hn : 32 * n + k < cnt own c 1024) {src : Memref sig .tc sp' s' e'} {dst : Memref sig .tc sp s e} {hsrc : src.view.WordExact}
    {hdst : dst.view.WordExact} (hd : dst.view.dmaCredit = N) (i : ℕ) {α : Type} {kk : PUnit → KProg F α} {Q : α → sProp 𝕄} :
    iprop(invs own A κ ∗ levAts L lv ∗ atPos ER (sendCell c k) n ∅ 0 ∗ cred (tallyAt (sendCell c k) () N)
        ∗ (∃ W, owes (c : Thread nD τ) (owedFrom own c i) W))
      ⊢ iprop(((atPos ER (sendCell c k) (n + 1) ∅ 0 ∗ reached ER (sendCell c k) (n + 1) ∗ cPts c (nthTok own c (32 * n + k)) (A c)
            ∗ (∃ W, owes (c : Thread nD τ) (owedFrom own c i) W)) -∗ WP c (kk ⟨⟩) Q)
          -∗ WP c (.op (.waitDma2 sem src dst hsrc hdst) kk) Q) := by
  subst hsem
  iintro ⟨#Hinv, #Hlev, Hat, Hcr, %W, HO⟩ HK
  iapply (wait_gen c (sched own A) (sendS k) hd (κ (sendCell c k)) (owedFrom own c i) W
    ((Nat.zero_add _).trans (expect_send own A c hk hn).symm)) $$ [Hat Hcr HO]
  · isplitr; · iapply (invs_get own A κ (mem_send c k)); iexact Hinv
    isplitl [Hcr]; · iexact Hcr
    isplitl [HO]; · iexact HO
    isplitr
    · iapply (mayWait_low own c (.dma (sendS k)) 0 (by decide) (by
        show (if 39 ≤ 7 + k % 32 then 2 else 0) ≤ 0
        rw [if_neg (by omega)]) i)
      iexact Hlev
    iexact Hat
  iintro ⟨HO, Hat, Hr, Hpay⟩
  ihave Hp := (Entails.of_eq (rest_send own A c hk hn)) $$ Hpay
  iapply HK
  isplitl [Hat]; · iexact Hat
  isplitl [Hr]; · iexact Hr
  isplitl [Hp]; · iexact Hp
  iexists (insert (SemLoc.dma (sendS k), ()) W); iexact HO

/-- Receive cell `r` of device `c`: that of token `32 c + r`. -/
abbrev rCell (c : Dev nD) (r : ℕ) : GSem nD τ sig := ((c : Thread nD τ), .dma (recvS r))

theorem recvCell_eq {r : ℕ} (hr : r < 32) : recvCell (32 * c.val + r) = rCell c r := by
  have hc : c.val < 32 := c.isLt
  have e1 : home (32 * c.val + r) = c := Fin.ext (by show (32 * c.val + r) / 32 % 32 = c.val; omega)
  have e2 : recvS (32 * c.val + r) = recvS r := Fin.ext (by show 39 + (32 * c.val + r) % 32 = 39 + r % 32; omega)
  unfold recvCell rCell
  rw [e1, e2]

theorem home_mul {r : ℕ} (hr : r < 32) : home (32 * c.val + r) = c := by
  have hc : c.val < 32 := c.isLt
  exact Fin.ext (by show (32 * c.val + r) / 32 % 32 = c.val; omega)

theorem expect_rCell {r : ℕ} (hr : r < 32) (ho : own (32 * c.val + r) ≠ c) : (sched (F := F) own A).expect (rCell c r) 0 = N := by
  have hc : c.val < 32 := c.isLt
  rw [← recvCell_eq c hr]
  exact expect_recv own A (by omega) (by rw [home_mul c hr]; exact ho)

theorem rest_rCell {r : ℕ} (hr : r < 32) (ho : own (32 * c.val + r) ≠ c) :
    bigSep ((sched (F := F) own A).duties (rCell c r) 0 \ ∅) (fun d => (sched (F := F) own A).payload (rCell c r) 0 d)
      = rPts c r (recvd own A c) := by
  have hc : c.val < 32 := c.isLt
  rw [← recvCell_eq c hr, rest_recv own A (by omega) (by rw [home_mul c hr]; exact ho), home_mul c hr,
    show (32 * c.val + r) % 32 = r by omega]

theorem mem_rCell (r : ℕ) (hr : r < 32) : rCell c r ∈ cells := by
  rw [← recvCell_eq c hr]; exact mem_recv _

/-- A wait for the arriving row `r`, the row of a token another device owns. -/
theorem wp_wait_recv {sp sp' : Space} {s s' : Shape} {e e' : EltTy} (sem : DmaSem sig) (r : ℕ) (hr : r < 32)
    (hsem : sem = recvS r) (ho : own (32 * c.val + r) ≠ c) {src : Memref sig .tc sp' s' e'} {dst : Memref sig .tc sp s e}
    {hsrc : src.view.WordExact} {hdst : dst.view.WordExact} (hd : dst.view.dmaCredit = N) {α : Type} {kk : PUnit → KProg F α}
    {Q : α → sProp 𝕄} :
    iprop(invs own A κ ∗ atPos ER (rCell c r) 0 ∅ 0 ∗ cred (tallyAt (rCell c r) () N)
        ∗ (∃ W, owes (c : Thread nD τ) 0 W))
      ⊢ iprop(((atPos ER (rCell c r) 1 ∅ 0 ∗ rPts c r (recvd own A c)
            ∗ (∃ W, owes (c : Thread nD τ) 0 W)) -∗ WP c (kk ⟨⟩) Q)
          -∗ WP c (.op (.waitDma2 sem src dst hsrc hdst) kk) Q) := by
  subst hsem
  iintro ⟨#Hinv, Hat, Hcr, %W, HO⟩ HK
  iapply (wait_gen c (sched own A) (recvS r) hd (κ (rCell c r)) 0 W
    ((Nat.zero_add _).trans (expect_rCell own A c hr ho).symm)) $$ [Hat Hcr HO]
  · isplitr; · iapply (invs_get own A κ (mem_rCell c r hr)); iexact Hinv
    isplitl [Hcr]; · iexact Hcr
    isplitl [HO]; · iexact HO
    isplitr; · rw [MayWait_zero]; iempintro
    iexact Hat
  iintro ⟨HO, Hat, -, Hpay⟩
  ihave Hp := (Entails.of_eq (rest_rCell own A c hr ho)) $$ Hpay
  iapply HK
  isplitl [Hat]; · iexact Hat
  isplitl [Hp]; · iexact Hp
  iexists (insert (SemLoc.dma (recvS r), ()) W); iexact HO

theorem cAt_congr {i j : ℕ} (e : i = j) (hi hj) (s : Fin 8) (l : Fin 128) : cAt i hi s l = cAt j hj s l := by subst e; rfl

/-- What lands in the receive row of token `i` is what the receive buffer ends with there. -/
theorem landed_row {i : ℕ} (hi : i < 1024) (h : Sent own c i)
    (hc : ∀ a, (![i, 0, 0] : Fin 3 → ℕ) a + S1x8x128.size a ≤ S1024x8x128.size a)
    (hr : ∀ a, (![i % 32, 0, 0] : Fin 3 → ℕ) a + S1x8x128.size a ≤ S32x8x128.size a) (g : S32x8x128.Idx → Elt F .f32)
    (x : S32x8x128.Idx) (hx : x ∈ rSet (i % 32)) :
    (rRow ![i % 32, 0, 0] hr).view.write (Elt F) g ((cRow ![i, 0, 0] hc).view.read (Elt F) (A c)) Finset.univ x
      = recvd own A (home i) x := by
  have hx' := mem_rSet.1 hx
  refine (copy_row hc hr hi (A c) g x hx').trans ?_
  have ht : tokAt (home i) x = i := by unfold tokAt; rw [home_val hi]; omega
  have hne : own i ≠ home i := fun e => home_ne own c hi h (e.symm.trans h.1)
  unfold recvd
  rw [if_neg (by rw [ht]; exact hne), show own (tokAt (home i) x) = c by rw [ht]; exact h.1]
  exact congrArg (A c) (cAt_congr ht.symm _ _ _ _)

/-- A transfer of a row to another device, under any schedule. -/
theorem send_gen (Rd : Rounds.Schedule (GSem nD τ sig) (Dev nD) 𝕄)
    [∀ g r d, BI.Storable (upEmb : UEmb _ 𝕄) (Rd.payload g r d)] (n : Dev nD) (sS sR : DmaSem sig)
    (src dst : Memref sig .tc .vmem S8x128 .f32)
    {hsc : (dst : Memref sig (Dev.tc n : Thread nD τ).2.kind .vmem S8x128 .f32).view.ref.isScScratch = false}
    {hsrc : src.view.WordExact} {hdst : dst.view.WordExact}
    {hsem : DmaTarget.Typed .vmem (.dma sR) (.remote (Dev.tc n : Thread nD τ) dst (.dma sS) hsc)}
    {r₁ r₂ : ℕ} {d₁ d₂ : Dev nD} (κ₁ κ₂ M : ℕ) (O₀ O : CellTallies nD τ sig Unit) (W : Waits sig Unit)
    (fs : Buf (Elt F) (src.view.loc (c : Thread nD τ))) (fd : Buf (Elt F) (dst.view.loc (n : Thread nD τ)))
    (hd₁ : d₁ ∈ Rd.duties ((c : Thread nD τ), .dma sS) r₁) (hd₂ : d₂ ∈ Rd.duties ((n : Thread nD τ), .dma sR) r₂)
    (hN : dst.view.dmaCredit = M)
    (hk₁ : Rd.amount ((c : Thread nD τ), .dma sS) r₁ d₁ = M) (hk₂ : Rd.amount ((n : Thread nD τ), .dma sR) r₂ d₂ = M)
    (hO : O₀ = O + tallyAt ((n : Thread nD τ), .dma sR) () M)
    (hpay₁ : (src.view.loc (c : Thread nD τ) ↦[src.view.set]{fullShare} fs) ⊢ Rd.payload ((c : Thread nD τ), .dma sS) r₁ d₁)
    (hpay₂ : (dst.view.loc (n : Thread nD τ) ↦[dst.view.set]{fullShare}
        (dst.view.write (Elt F) fd (src.view.read (Elt F) fs) Finset.univ)) ⊢ Rd.payload ((n : Thread nD τ), .dma sR) r₂ d₂)
    {α : Type} {kk : PUnit → KProg F α} {Q : α → sProp 𝕄} :
    iprop(cellInv ER Rd κ₁ ((c : Thread nD τ), .dma sS) ∗ cellInv ER Rd κ₂ ((n : Thread nD τ), .dma sR)
        ∗ (src.view.loc (c : Thread nD τ) ↦[src.view.set]{fullShare} fs) ∗ (dst.view.loc (n : Thread nD τ) ↦[dst.view.set]{fullShare} fd)
        ∗ owes (c : Thread nD τ) O₀ W
        ∗ dutyTok ER ((c : Thread nD τ), .dma sS) r₁ d₁ ∗ reached ER ((c : Thread nD τ), .dma sS) r₁
        ∗ dutyTok ER ((n : Thread nD τ), .dma sR) r₂ d₂ ∗ reached ER ((n : Thread nD τ), .dma sR) r₂)
      ⊢ iprop(((cred (tallyAt ((c : Thread nD τ), .dma sS) () M) ∗ owes (c : Thread nD τ) O W) -∗ WP c (kk ⟨⟩) Q)
          -∗ WP c (.op (.enqueueDma src (.remote (Dev.tc n : Thread nD τ) dst (.dma sS) hsc) (.dma sR) hsrc hdst hsem) kk) Q) :=
  Rounds.wp_send_pointsTo 𝒱₀ ER Rd (c : Thread nD τ) none (κ₁ := κ₁) (κ₂ := κ₂) hd₁ hd₂ () () M hN hk₁ hk₂ O hO (W := W) hpay₁ hpay₂

/-- Row `i` of device `c`'s contributions through its row view, and receive row `r` likewise. -/
theorem cPts_view {i : ℕ} (h) (f) :
    cPts (F := F) c i f = ((cRow ![i, 0, 0] h).view.loc (c : Thread nD τ) ↦[(cRow ![i, 0, 0] h).view.set]{fullShare} f) := by
  unfold cPts; rw [cRow_set]
theorem rPts_view {r : ℕ} (h) (f) :
    rPts (F := F) c r f = ((rRow ![r, 0, 0] h).view.loc (c : Thread nD τ) ↦[(rRow ![r, 0, 0] h).view.set]{fullShare} f) := by
  unfold rPts; rw [rRow_set]

theorem landed_pts {i : ℕ} (hi : i < 1024) (h : Sent own c i) (hc) (hr) (g : S32x8x128.Idx → Elt F .f32) :
    ((rRow ![i % 32, 0, 0] hr).view.loc (home i : Thread nD τ) ↦[(rRow ![i % 32, 0, 0] hr).view.set]{fullShare}
        ((rRow ![i % 32, 0, 0] hr).view.write (Elt F) g ((cRow ![i, 0, 0] hc).view.read (Elt F) (A c)) Finset.univ) : sProp 𝕄)
      ⊢ rPts (home i) (i % 32) (recvd own A (home i)) := by
  rw [← rPts_view (home i) hr]
  unfold rPts
  exact Entails.of_eq (pointsTo_congr (landed_row own A c hi h _ _ g))

/-- The send of token `i`'s row, from its owner through slot `cnt i mod 32`. -/
theorem wp_send_row {i : ℕ} (hi : i < 1024) (h : Sent own c i) (oc : Fin 3 → ℕ) (hoc) (eoc : oc = ![i, 0, 0])
    (orr : Fin 3 → ℕ) (hor) (eor : orr = ![i % 32, 0, 0]) (n : Dev nD) (hn : n = home i)
    (sS : DmaSem sig) (hS : sS = sendS (cnt own c i % 32)) (sR : DmaSem sig) (hR : sR = recvS i)
    {hsc : (rRow orr hor : Memref sig (Dev.tc n : Thread nD τ).2.kind .vmem S8x128 .f32).view.ref.isScScratch = false}
    {hsrc : (cRow oc hoc).view.WordExact} {hdst : (rRow orr hor).view.WordExact}
    {hsem : DmaTarget.Typed .vmem (.dma sR) (.remote (Dev.tc n : Thread nD τ) (rRow orr hor) (.dma sS) hsc)}
    {α : Type} {kk : PUnit → KProg F α} {Q : α → sProp 𝕄} :
    iprop(invs own A κ ∗ sendRes own A c i ∗ reached ER (sendCell c (cnt own c i % 32)) (cnt own c i / 32)
        ∗ (∃ W, owes (c : Thread nD τ) (owedFrom own c i) W))
      ⊢ iprop(((cred (tallyAt (sendCell c (cnt own c i % 32)) () N)
            ∗ (∃ W, owes (c : Thread nD τ) (owedFrom own c (i + 1)) W)) -∗ WP c (kk ⟨⟩) Q)
          -∗ WP c (.op (.enqueueDma (cRow oc hoc) (.remote (Dev.tc n : Thread nD τ) (rRow orr hor) (.dma sS) hsc) (.dma sR)
              hsrc hdst hsem) kk) Q) := by
  subst eoc; subst eor; subst hn; subst hS; subst hR
  have hne : own i ≠ home i := fun e => home_ne own c hi h (e.symm.trans h.1)
  have hlt : 32 * (cnt own c i / 32) + cnt own c i % 32 < cnt own c 1024 := by
    rw [Nat.div_add_mod]; exact cnt_lt own c h hi
  have hd₁ : c ∈ (sched (F := F) own A).duties (sendCell c (cnt own c i % 32)) (cnt own c i / 32) := by
    rw [duties_send own A c (Nat.mod_lt _ (by decide)) hlt]; exact Finset.mem_singleton_self _
  have hd₂ : c ∈ (sched (F := F) own A).duties (recvCell i) 0 := by
    rw [duties_recv own A hi hne, h.1]; exact Finset.mem_singleton_self _
  have hp₁ : cPts c i (A c) ⊢ (sched (F := F) own A).payload (sendCell c (cnt own c i % 32)) (cnt own c i / 32) c := by
    rw [payload_send own A c _ (Nat.mod_lt _ (by decide)), Nat.div_add_mod, nthTok_cnt own c h]
  unfold sendRes
  iintro ⟨#Hinv, ⟨Hc, ⟨%g, Hr⟩, #Hrr, HtS, HtR⟩, #HrS, %W, HO⟩ HK
  iapply (send_gen c (sched own A) (home i) (sendS (cnt own c i % 32)) (recvS i) (cRow ![i, 0, 0] hoc) (rRow ![i % 32, 0, 0] hor)
    (κ (sendCell c (cnt own c i % 32))) (κ (recvCell i)) N (owedFrom own c i) (owedFrom own c (i + 1)) W (A c) g hd₁ hd₂ rfl
    (amount_send own A c _ _ c) (amount_recv own A i 0 c) (owedFrom_sent own c hi h)
    ((Entails.of_eq (cPts_view c hoc (A c)).symm).trans hp₁)
    ((landed_pts own A c hi h hoc hor g).trans (Entails.of_eq (payload_recv own A i c).symm))) $$ [Hc Hr HO HtS HtR]
  · isplitr; · iapply (invs_get own A κ (mem_send c _)); iexact Hinv
    isplitr; · iapply (invs_get own A κ (mem_recv i)); iexact Hinv
    isplitl [Hc]; · iapply (Entails.of_eq (cPts_view c hoc (A c))); iexact Hc
    isplitl [Hr]; · iapply (Entails.of_eq (rPts_view (home i) hor g)); iexact Hr
    isplitl [HO]; · iexact HO
    isplitl [HtS]; · iexact HtS
    isplitr; · iexact HrS
    isplitl [HtR]; · iexact HtR
    iexact Hrr
  iintro ⟨Hcr, HO⟩
  iapply HK
  isplitl [Hcr]; · iexact Hcr
  iexists W; iexact HO

end Rules

end Cert.KernelIdeal.Gen
-- ==== Proof.Loop.lean ====
module

public import proofs.«01_k».proof.Proof.Rules

/-!
# The loop of the sends

One trip of the loop by an invariant: what the device has yet to send, the state of its slots, and the rows it has back.
-/

@[expose] public section

noncomputable section

namespace Cert.KernelIdeal.Gen

open Idealize.ShloMosaic TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Weakest preconditions at one device -/

theorem WP_ret {α : Type} (c : Dev nD) (a : α) (Q : α → sProp 𝕄) : Q a ⊢ WP c (.ret a) Q := by
  unfold WP
  rw [wp_ret]
  exact fupd_intro

theorem WP_bind {α β : Type} (c : Dev nD) (p : KProg F α) (k : α → KProg F β) (Q : β → sProp 𝕄) :
    WP c p (fun a => WP c (k a) Q) ⊢ WP c (p >>= k) Q := by
  unfold WP
  rw [wp_bind]

theorem WP_wand {α : Type} (c : Dev nD) (p : KProg F α) (Q Q' : α → sProp 𝕄) :
    iprop(WP c p Q ∗ (∀ a, Q a -∗ Q' a)) ⊢ WP c p Q' :=
  wp_wand_r frame (wpE (defs₀ (F := F)) 𝒱₀ (c : Thread nD τ) none) Set.univ

/-- An operation at the head of a program. -/
theorem WP_lift {α β : Type} (c : Dev nD) (e : TpuEff nD τ sig (Elt F) Λ₀ (c : Thread nD τ).2 α) (k : α → KProg F β) (Q : β → sProp 𝕄) :
    WP c (.op e k) Q ⊢ WP c (Prog.lift e >>= k) Q := .rfl

theorem WP_assume {β : Type} (c : Dev nD) {P : Prop} {d : Decidable P} (h : P) (k : PLift P → KProg F β) (Q : β → sProp 𝕄) :
    WP c (k ⟨h⟩) Q ⊢ WP c (Prog.lift (TpuEff.assume P d) >>= k) Q :=
  wp_assume 𝒱₀ (c : Thread nD τ) none Set.univ h

/-- Two entailments' programs in sequence. -/
theorem WP_seq {α β : Type} (c : Dev nD) (p : KProg F α) (k : α → KProg F β) (R : α → sProp 𝕄) (Q : β → sProp 𝕄) {P : sProp 𝕄}
    (h : P ⊢ WP c p R) : iprop(P ∗ (∀ a, R a -∗ WP c (k a) Q)) ⊢ WP c (p >>= k) Q := by
  iintro ⟨HP, HK⟩
  iapply (WP_bind c p k Q)
  iapply (WP_wand c p R _)
  isplitl [HP]
  · iapply h; iexact HP
  · iexact HK

/-! ## The table -/

section Table
variable (tab : S1024x1.Idx → Elt F .i32) (c : Dev nD)

/-- Token `t`'s place in the routing table. -/
def tabIx (t : ℕ) (ht : t < 1024) : S1024x1.Idx := fun a => match a with
  | 0 => (⟨t, ht⟩ : Fin 1024)
  | 1 => (0 : Fin 1)

/-- The routing table in scalar memory. -/
def tabPts : sProp 𝕄 := ((c : Thread nD τ).loc cc0_stg3_0) ↦{fullShare} tab

theorem tab_read (t : ℕ) (ht : t < 1024) (h) (x) :
    ((Memref.whole cc0_stg3_0 : Memref sig .tc .smem S1024x1 .i32).access (Rect.unit (s := S1024x1) ![t, 0] S1x1.size h)).read (Elt F) tab x
      = tab (tabIx t ht) := by
  show tab ((Rect.unit (s := S1024x1) ![t, 0] S1x1.size h).emb x) = _
  refine congrArg tab (funext fun a => Fin.ext ?_)
  match a with
  | 0 =>
    have : (x 0).val < 1 := (x 0).isLt
    show t + 1 * (x 0).val = t; omega
  | 1 =>
    have : (x 1).val < 1 := (x 1).isLt
    show 0 + 1 * (x 1).val = 0; omega

/-- A read of token `t`'s word. -/
theorem WP_smemLoad {α : Type} (off : Fin 2 → ℕ) (h) (t : ℕ) (ht : t < 1024) (e : off = ![t, 0]) (h1) (hp)
    (kk : Elt F .i32 → KProg F α) (Q : α → sProp 𝕄) :
    iprop(tabPts tab c ∗ (tabPts tab c -∗ WP c (kk (tab (tabIx t ht))) Q))
      ⊢ WP c (smemLoad (Memref.whole cc0_stg3_0 : Memref sig .tc .smem S1024x1 .i32)
          (Rect.unit (s := S1024x1) off S1x1.size h) h1 hp >>= kk) Q := by
  subst e
  have key := wp_smemLoadElt (defs := defs₀ (F := F)) 𝒱₀ (c : Thread nD τ) none Set.univ
    (m := (Memref.whole cc0_stg3_0 : Memref sig .tc .smem S1024x1 .i32))
    (r := Rect.unit (s := S1024x1) ![t, 0] S1x1.size h) (hw := View.loads_smem_one hp h1) (x := Shape.Idx.first (h1.symm ▸ Nat.one_pos))
    (k := kk) (Γ := PendingWaitsCtx.empty) (S := Finset.univ) (q := fullShare) (f := tab) (Q := Q) (Finset.subset_univ _)
  rw [tab_read tab t ht h] at key
  exact BI.wand_elim key

end Table

/-! ## The loop -/

section Loop
variable (own : ℕ → Dev nD) (A : Dev nD → S1024x8x128.Idx → Elt F .f32) (κ : GSem nD τ sig → ℕ) (c : Dev nD)
variable (tab : S1024x1.Idx → Elt F .i32)

abbrev aM : Memref sig .tc .vmem S1024x8x128 .f32 := Memref.whole cc0_scratch0
abbrev bM : Memref sig .tc .vmem S32x8x128 .f32 := Memref.whole cc0_scratch1
abbrev tM : Memref sig .tc .smem S1024x1 .i32 := Memref.whole cc0_stg3_0

theorem cRow_credit (off : Fin 3 → ℕ) (h) : (cRow off h).view.dmaCredit = N := rfl
theorem rRow_credit (off : Fin 3 → ℕ) (h) : (rRow off h).view.dmaCredit = N := rfl

/-- The wait that frees the slot row `n` goes through. -/
theorem wp_free {i : ℕ} (hi : i < 1024) (h : Sent own c i) (hb) :
    iprop(invs own A κ ∗ levAts L lv ∗ slotSt c (cnt own c i) (cnt own c i % 32) ∗ (∃ W, owes (c : Thread nD τ) (owedFrom own c i) W))
      ⊢ WP c (freeStep aM bM cc0_scratch2 (BitVec.ofNat 32 (cnt own c i)) hb) fun _ =>
        iprop(slotFree c (cnt own c i) ∗ backOf own A c (cnt own c i) ∗ (∃ W, owes (c : Thread nD τ) (owedFrom own c i) W)) := by
  have hle : cnt own c i ≤ i := cnt_le own c i
  have hlt : cnt own c i < cnt own c 1024 := cnt_lt own c h hi
  generalize cnt own c i = n at hle hlt hb ⊢
  unfold freeStep
  by_cases hn : 32 ≤ n
  · have hc2 : k0_cond2 (BitVec.ofNat 32 n) = 1#1 := (cond2_iff ⟨n, by omega⟩).2 hn
    have hsem := sendS_at (k0_off2 (BitVec.ofNat 32 n)) (hb hc2) (n % 32) (Nat.mod_lt _ (by decide)) (off2_eq ⟨n, by omega⟩)
    rw [dif_pos hc2]
    simp only [Prog.lift, Prog.bind_op, Prog.bind_ret, Prog.pure_eq_ret]
    have e : slotSt (F := F) c n (n % 32) = iprop(atPos ER (sendCell c (n % 32)) (n / 32 - 1) ∅ 0 ∗ cred (tallyAt (sendCell c (n % 32)) () N)) := by
      unfold slotSt
      rw [if_neg (by omega), show (n - 1 - n % 32) / 32 = n / 32 - 1 by omega]
    rw [e]
    unfold slotFree backOf
    rw [if_pos hn]
    iintro ⟨#Hinv, #Hlev, ⟨Hat, Hcr⟩, HO⟩
    iapply (wp_wait_send own A κ c _ (n % 32) (n / 32 - 1) (Nat.mod_lt _ (by decide))
      hsem (by omega) (cRow_credit _ _) i) $$ [Hat Hcr HO]
    · isplitr; · iexact Hinv
      isplitr; · iexact Hlev
      isplitl [Hat]; · iexact Hat
      isplitl [Hcr]; · iexact Hcr
      iexact HO
    rw [show n / 32 - 1 + 1 = n / 32 by omega, show 32 * (n / 32 - 1) + n % 32 = n - 32 by omega]
    iintro ⟨Hat, Hr, Hp, HO⟩
    iapply (WP_ret c)
    isplitl [Hat Hr]
    · isplitl [Hat]; · iexact Hat
      iexact Hr
    isplitl [Hp]; · iexact Hp
    iexact HO
  · have hc2 : ¬ k0_cond2 (BitVec.ofNat 32 n) = 1#1 := fun h' => hn ((cond2_iff ⟨n, by omega⟩).1 h')
    rw [dif_neg hc2, slotSt_free c n (by omega)]
    unfold backOf
    rw [if_neg hn]
    simp only [Prog.pure_eq_ret]
    iintro ⟨#Hinv, #Hlev, Hf, HO⟩
    iapply (WP_ret c)
    isplitl [Hf]; · iexact Hf
    isplitr; · iempintro
    iexact HO

/-- The rows back after `n` sends. -/
def returned (n : ℕ) : sProp 𝕄 := bigSep (Finset.range (n - 32)) fun m => cPts c (nthTok own c m) (A c)

theorem returned_succ (n : ℕ) : returned own A c (n + 1) = iprop(backOf own A c n ∗ returned own A c n) := by
  unfold returned backOf
  by_cases h : 32 ≤ n
  · rw [if_pos h, show n + 1 - 32 = (n - 32) + 1 by omega, Finset.range_add_one, bigSep_insert Finset.notMem_range_self]
    rfl
  · rw [if_neg h, show n + 1 - 32 = n - 32 by omega]
    exact (equiv_iff.mp (Idealize.SL.BI.emp_sep (M := 𝕄))).symm

/-- The slots after `n` sends. -/
def slots (n : ℕ) : sProp 𝕄 := bigSep (Finset.range 32) fun k => slotSt c n k
/-- All the slots but the one row `n` goes through. -/
def slotsBut (n : ℕ) : sProp 𝕄 := bigSep ((Finset.range 32).erase (n % 32)) fun k => slotSt c n k

theorem slots_take (n : ℕ) : slots (F := F) c n = iprop(slotSt c n (n % 32) ∗ slotsBut c n) :=
  bigSep_erase (Finset.mem_range.2 (Nat.mod_lt _ (by decide)))
theorem slots_put (n : ℕ) : slots (F := F) c (n + 1) = iprop(slotSt c (n + 1) (n % 32) ∗ slotsBut c n) := by
  refine (bigSep_erase (Finset.mem_range.2 (Nat.mod_lt n (by decide : 32 > 0)))).trans ?_
  have e : bigSep ((Finset.range 32).erase (n % 32)) (fun k => slotSt (F := F) c (n + 1) k) = slotsBut c n :=
    bigSep_congr fun k hk => slotSt_other c n k (Finset.mem_range.1 (Finset.mem_erase.1 hk).2) (Finset.mem_erase.1 hk).1
  rw [e]
  rfl

/-- Before trip `i`, the loop's value being `acc`. -/
def loopI (i : ℕ) (acc : BitVec 32) : sProp 𝕄 :=
  iprop(⌜acc = BitVec.ofNat 32 (cnt own c i)⌝ ∗ tabPts tab c ∗ bigSep (pend own c i) (sendRes own A c) ∗ slots c (cnt own c i)
    ∗ returned own A c (cnt own c i) ∗ (∃ W, owes (c : Thread nD τ) (owedFrom own c i) W))

theorem pend_take {i : ℕ} (hi : i < 1024) (h : Sent own c i) :
    bigSep (pend own c i) (sendRes own A c) = iprop(sendRes own A c i ∗ bigSep (pend own c (i + 1)) (sendRes own A c)) := by
  rw [pend_succ_of_sent own c hi h, bigSep_insert (not_mem_pend_succ own c i)]
  rfl

set_option maxHeartbeats 1000000 in
/-- One trip. -/
theorem wp_trip (hown : ∀ t (ht : t < 1024), ownW (tab (tabIx t ht)) = BitVec.ofNat 32 (own t).val)
    (t : Fin k0_t1_loop.trips) (acc : BitVec 32) :
    iprop((invs own A κ ∗ levAts L lv) ∗ loopI own A c tab t.val acc)
      ⊢ WP c (loopStep tM aM bM cc0_scratch2 cc0_scratch3 c t acc) fun acc' =>
        iprop((invs own A κ ∗ levAts L lv) ∗ loopI own A c tab (t.val + 1) acc') := by
  have ht : t.val < 1024 := trips_eq ▸ t.isLt
  have hw := hown t.val ht
  have hle : cnt own c t.val ≤ 1024 := (cnt_le own c t.val).trans ht.le
  have hnext := count_next c (own t.val) t _ hw (cnt own c t.val)
  have hs : cnt own c (t.val + 1) = cnt own c t.val + if own t.val = c ∧ t.val / 32 ≠ c.val then 1 else 0 := cnt_succ own c t.val
  have hiff := cond1_iff c (own t.val) t _ hw
  rw [← hs] at hnext
  have h3 : k0_off3 (BitVec.ofNat 32 (cnt own c t.val)) = ![cnt own c t.val % 32] := off3_eq ⟨cnt own c t.val, by omega⟩
  have hdev : (⟨k0_dev32 t, k0_dev32_lt t⟩ : Dev nD) = home t.val := Fin.ext ((dev32_eq t).trans (home_val ht).symm)
  have hmod : recvS (t.val % 32) = recvS t.val := Fin.ext (by show 39 + t.val % 32 % 32 = 39 + t.val % 32; omega)
  unfold loopI loopStep
  by_cases h : Sent own c t.val
  · rw [pend_take own A c ht h, slots_take]
    iintro ⟨⟨#Hinv, #Hlev⟩, %hacc, HT, HP, HS, HB, HO⟩
    subst hacc
    iapply (WP_smemLoad tab c _ _ t.val ht (off1_eq t))
    isplitl [HT]; · iexact HT
    iintro HT
    iapply (WP_assume c (chk1_ofNat c t _ hle _) _ _)
    rw [dif_pos (hiff.2 h)]
    icases HP with ⟨Hres, HP⟩
    icases HS with ⟨Hslot, HS⟩
    iapply (WP_bind c _ _ _)
    iapply (WP_bind c _ _ _)
    iapply (WP_wand c _ _ _)
    isplitl [Hslot HO]
    · iapply (wp_free own A κ c ht h _)
      isplitr; · iexact Hinv
      isplitr; · iexact Hlev
      isplitl [Hslot]; · iexact Hslot
      iexact HO
    iintro %u ⟨Hfree, Hback, HO⟩
    unfold slotFree
    icases Hfree with ⟨Hat, #Hrch⟩
    iapply (WP_lift c _ _ _)
    iapply (wp_send_row own A κ c ht h _ _ (off6_eq t) _ _ (off5_eq t) _ hdev _
      (sendS_at _ _ _ (Nat.mod_lt _ (by decide)) h3) _ ((recvS_at _ _ _ (Nat.mod_lt _ (by decide)) (off4_eq t)).trans hmod)) $$ [Hres HO]
    · isplitr; · iexact Hinv
      isplitl [Hres]; · iexact Hres
      isplitr; · iexact Hrch
      iexact HO
    iintro ⟨Hcr, HO⟩
    iapply (WP_ret c)
    iapply (WP_ret c)
    have hs1 : cnt own c (t.val + 1) = cnt own c t.val + 1 := hs.trans (congrArg _ (if_pos h))
    isplitr
    · isplitr; · iexact Hinv
      iexact Hlev
    isplitr; · ipureintro; exact hnext
    isplitl [HT]; · iexact HT
    isplitl [HP]; · iexact HP
    rw [hs1, slots_put, slotSt_used, returned_succ]
    isplitl [Hat Hcr HS]
    · isplitl [Hat Hcr]
      · isplitl [Hat]; · iexact Hat
        iexact Hcr
      iexact HS
    isplitl [Hback HB]
    · isplitl [Hback]; · iexact Hback
      iexact HB
    iexact HO
  · have hs1 : cnt own c (t.val + 1) = cnt own c t.val := hs.trans (congrArg _ (if_neg h))
    rw [pend_succ_of_not own c h]
    iintro ⟨⟨#Hinv, #Hlev⟩, %hacc, HT, HP, HS, HB, HO⟩
    subst hacc
    iapply (WP_smemLoad tab c _ _ t.val ht (off1_eq t))
    isplitl [HT]; · iexact HT
    iintro HT
    iapply (WP_assume c (chk1_ofNat c t _ hle _) _ _)
    rw [dif_neg fun h' => h (hiff.1 h')]
    iapply (WP_ret c)
    isplitr
    · isplitr; · iexact Hinv
      iexact Hlev
    isplitr; · ipureintro; exact hnext
    isplitl [HT]; · iexact HT
    rw [hs1, ← owedFrom_not own c h]
    isplitl [HP]; · iexact HP
    isplitl [HS]; · iexact HS
    isplitl [HB]; · iexact HB
    iexact HO

end Loop

end Cert.KernelIdeal.Gen
-- ==== Proof.Chains.lean ====
module

public import proofs.«01_k».proof.Proof.Loop
public import Idealize.ShloMosaic.Lib.SparseCore.Launch

/-!
# The signals, the receives and the last waits

The chains around the loop of the sends. Each step of a chain turns one member's resources into another's; a cell whose
last round is past is closed at once, and its counter at zero is the device's again.
-/

@[expose] public section

noncomputable section

namespace Cert.KernelIdeal.Gen

open Idealize.ShloMosaic TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Members done and members to do -/

section Mix
variable (n : ℕ) (P Q : ℕ → sProp (MT nD τ sig Unit (Elt F) ℕ UU ℕ))

/-- Of `n` members the first `r` hold `Q`, the rest `P`. -/
def midway (r : ℕ) : sProp 𝕄 := bigSep (Finset.range n) fun k => if k < r then Q k else P k
/-- All but the `r`-th. -/
def midwayBut (r : ℕ) : sProp 𝕄 := bigSep ((Finset.range n).erase r) fun k => if k < r then Q k else P k

theorem midway_take {r : ℕ} (h : r < n) : midway n P Q r = iprop(P r ∗ midwayBut n P Q r) := by
  refine (bigSep_erase (Finset.mem_range.2 h)).trans ?_
  rw [if_neg (Nat.lt_irrefl r)]
  rfl
theorem midway_put {r : ℕ} (h : r < n) : midway n P Q (r + 1) = iprop(Q r ∗ midwayBut n P Q r) := by
  refine (bigSep_erase (Finset.mem_range.2 h)).trans ?_
  rw [if_pos (Nat.lt_succ_self r)]
  have e : bigSep ((Finset.range n).erase r) (fun k => if k < r + 1 then Q k else P k) = midwayBut n P Q r :=
    bigSep_congr fun k hk => by
      have hne := (Finset.mem_erase.1 hk).1
      by_cases hlt : k < r
      · rw [if_pos hlt, if_pos (by omega)]
      · rw [if_neg hlt, if_neg (by omega)]
  rw [e]
  rfl
theorem midway_zero : midway n P Q 0 = bigSep (Finset.range n) P :=
  bigSep_congr fun k _ => if_neg (Nat.not_lt_zero k)
theorem midway_all : midway n P Q n = bigSep (Finset.range n) Q :=
  bigSep_congr fun k hk => if_pos (Finset.mem_range.1 hk)

end Mix

section Chains
variable (own : ℕ → Dev nD) (A : Dev nD → S1024x8x128.Idx → Elt F .f32) (κ : GSem nD τ sig → ℕ) (c : Dev nD)
variable (tab : S1024x1.Idx → Elt F .i32)

/-- Closing a cell whose later rounds have no duties, under any schedule. -/
theorem close_gen (Rd : Rounds.Schedule (GSem nD τ sig) (Dev nD) 𝕄) [∀ g r d, BI.Storable (upEmb : UEmb _ 𝕄) (Rd.payload g r d)]
    (g : GSem nD τ sig) (k : ℕ) (hu : ¬ Rd.unitless g) {R : ℕ} (hR : ∀ r ≥ R, Rd.duties g r = ∅) :
    iprop(cellInv ER Rd k g ∗ atPos ER g R ∅ 0) ⊢ iprop(|={Set.univ}=> semVal g 0) :=
  Rounds.cell_close ER Rd (Set.mem_univ k) hu hR

theorem close_cell {g : GSem nD τ sig} (hg : g ∈ cells) {R : ℕ} (hR : ∀ r ≥ R, (sched (F := F) own A).duties g r = ∅) :
    iprop(invs own A κ ∗ atPos ER g R ∅ 0) ⊢ iprop(|={Set.univ}=> semVal g 0) := by
  iintro ⟨#Hinv, Hat⟩
  iapply (close_gen (sched own A) g (κ g) (fun h => h) hR)
  isplitr
  · iapply (invs_get own A κ hg); iexact Hinv
  · iexact Hat

theorem duties_rCell_later {r : ℕ} (hr : r < 32) : ∀ n ≥ 1, (sched (F := F) own A).duties (rCell c r) n = ∅ := by
  have hc : c.val < 32 := c.isLt
  rw [← recvCell_eq c hr]
  exact duties_recv_later own A (by omega)
theorem duties_rCell_own {r : ℕ} (hr : r < 32) (h : own (32 * c.val + r) = c) :
    ∀ n ≥ 0, (sched (F := F) own A).duties (rCell c r) n = ∅ := by
  have hc : c.val < 32 := c.isLt
  rw [← recvCell_eq c hr]
  exact duties_recv_own own A (by omega) (by rw [home_mul c hr]; exact h)

/-! ## The receives -/

/-- Receive row `r` before its step: of a token the device owns, the row as it will stay; otherwise the credit of the
arrival. -/
def recvTodo (r : ℕ) : sProp 𝕄 :=
  iprop(atPos ER (rCell c r) 0 ∅ 0
    ∗ (if own (32 * c.val + r) = c then rPts c r (recvd own A c) else cred (tallyAt (rCell c r) () N)))
/-- Receive row `r` after its step. -/
def recvDone (r : ℕ) : sProp 𝕄 := iprop(rPts c r (recvd own A c) ∗ semVal (rCell c r) 0)

def recvI (r : ℕ) : sProp 𝕄 :=
  iprop(invs own A κ ∗ tabPts tab c ∗ midway 32 (recvTodo own A c) (recvDone own A c) r ∗ (∃ W, owes (c : Thread nD τ) 0 W))

set_option maxHeartbeats 1000000 in
theorem wp_recvStep (hown : ∀ t (ht : t < 1024), ownW (tab (tabIx t ht)) = BitVec.ofNat 32 (own t).val) (r : ℕ) (hr : r < 32) :
    recvI own A κ c tab r ⊢ WP c (recvStep tM aM bM cc0_scratch3 c r hr) fun _ => recvI own A κ c tab (r + 1) := by
  have hc : c.val < 32 := c.isLt
  have ht : 32 * c.val + r < 1024 := by omega
  have hiff := recvBit_iff c (own (32 * c.val + r)) _ (hown _ ht)
  have hoff : rowOff r c = ![32 * c.val + r, 0] := rowOff_eq ⟨r, hr⟩ c
  have hsem := recvS_at ![r] (slot_inb ⟨r, hr⟩) r hr rfl
  unfold recvI recvStep whenBit
  rw [midway_take _ _ _ hr, midway_put _ _ _ hr]
  unfold recvTodo recvDone
  by_cases h : own (32 * c.val + r) = c
  · rw [if_pos h]
    iintro ⟨#Hinv, HT, ⟨⟨Hat, Hr⟩, HM⟩, HO⟩
    iapply (WP_smemLoad tab c _ _ _ ht hoff)
    isplitl [HT]; · iexact HT
    iintro HT
    rw [if_neg fun h' => hiff.1 h' h]
    imod (close_cell own A κ (mem_rCell c r hr) (duties_rCell_own own A c hr h)) $$ [Hat] with Hz
    · isplitr; · iexact Hinv
      iexact Hat
    iapply (WP_ret c)
    isplitr; · iexact Hinv
    isplitl [HT]; · iexact HT
    isplitr [HO]
    · isplitl [Hr Hz]
      · isplitl [Hr]; · iexact Hr
        iexact Hz
      iexact HM
    iexact HO
  · rw [if_neg h]
    iintro ⟨#Hinv, HT, ⟨⟨Hat, Hcr⟩, HM⟩, HO⟩
    iapply (WP_smemLoad tab c _ _ _ ht hoff)
    isplitl [HT]; · iexact HT
    iintro HT
    rw [if_pos (hiff.2 h)]
    iapply (WP_lift c _ _ _)
    iapply (wp_wait_recv own A κ c _ r hr hsem h (rRow_credit _ _)) $$ [Hat Hcr HO]
    · isplitr; · iexact Hinv
      isplitl [Hat]; · iexact Hat
      isplitl [Hcr]; · iexact Hcr
      iexact HO
    iintro ⟨Hat, Hr, HO⟩
    imod (close_cell own A κ (mem_rCell c r hr) (duties_rCell_later own A c hr)) $$ [Hat] with Hz
    · isplitr; · iexact Hinv
      iexact Hat
    iapply (WP_ret c)
    isplitr; · iexact Hinv
    isplitl [HT]; · iexact HT
    isplitr [HO]
    · isplitl [Hr Hz]
      · isplitl [Hr]; · iexact Hr
        iexact Hz
      iexact HM
    iexact HO

/-! ## The last waits -/

/-- The row last sent through slot `s`, if any was. -/
def lastRow (s : ℕ) : sProp 𝕄 :=
  if s < cnt own c 1024 then cPts c (nthTok own c (32 * ((cnt own c 1024 - 1 - s) / 32) + s)) (A c) else iprop(emp)
def endDone (s : ℕ) : sProp 𝕄 := iprop(lastRow own A c s ∗ semVal (sendCell c s) 0)

def endI (s : ℕ) : sProp 𝕄 :=
  iprop(invs own A κ ∗ levAts L lv ∗ midway 32 (slotSt c (cnt own c 1024)) (endDone own A c) s
    ∗ (∃ W, owes (c : Thread nD τ) (owedFrom own c 1024) W))

set_option maxHeartbeats 1000000 in
theorem wp_endStep (s : ℕ) (hs : s < 32) :
    endI own A κ c s ⊢ WP c (endStep aM bM cc0_scratch2 (BitVec.ofNat 32 (cnt own c 1024)) s hs) fun _ => endI own A κ c (s + 1) := by
  have hle : cnt own c 1024 ≤ 1024 := cnt_le own c 1024
  have hiff := endBit_iff ⟨cnt own c 1024, by omega⟩ ⟨s, hs⟩
  have hsem := sendS_at ![s] (slot_inb ⟨s, hs⟩) s hs rfl
  have hlater : ∀ R, cnt own c 1024 ≤ 32 * R + s → ∀ n ≥ R, (sched (F := F) own A).duties (sendCell c s) n = ∅ :=
    fun R h => duties_send_later own A c hs h
  unfold endI endStep whenBit
  rw [midway_take _ _ _ hs, midway_put _ _ _ hs]
  unfold endDone lastRow slotSt
  by_cases h : s < cnt own c 1024
  · rw [if_neg (by omega), if_pos h, if_pos (hiff.2 h)]
    iintro ⟨#Hinv, #Hlev, ⟨⟨Hat, Hcr⟩, HM⟩, HO⟩
    iapply (WP_lift c _ _ _)
    iapply (wp_wait_send own A κ c _ s ((cnt own c 1024 - 1 - s) / 32) hs hsem (by omega) (cRow_credit _ _) 1024) $$ [Hat Hcr HO]
    · isplitr; · iexact Hinv
      isplitr; · iexact Hlev
      isplitl [Hat]; · iexact Hat
      isplitl [Hcr]; · iexact Hcr
      iexact HO
    iintro ⟨Hat, -, Hr, HO⟩
    imod (close_cell own A κ (mem_send c s) (hlater ((cnt own c 1024 - 1 - s) / 32 + 1) (by omega))) $$ [Hat] with Hz
    · isplitr; · iexact Hinv
      iexact Hat
    iapply (WP_ret c)
    isplitr; · iexact Hinv
    isplitr; · iexact Hlev
    isplitr [HO]
    · isplitl [Hr Hz]
      · isplitl [Hr]; · iexact Hr
        iexact Hz
      iexact HM
    iexact HO
  · rw [if_pos (by omega), if_neg h, if_neg fun h' => h (hiff.1 h')]
    iintro ⟨#Hinv, #Hlev, ⟨⟨Hat, -⟩, HM⟩, HO⟩
    imod (close_cell own A κ (mem_send c s) (hlater 0 (by omega))) $$ [Hat] with Hz
    · isplitr; · iexact Hinv
      iexact Hat
    iapply (WP_ret c)
    isplitr; · iexact Hinv
    isplitr; · iexact Hlev
    isplitr [HO]
    · isplitl [Hz]
      · isplitr; · iempintro
        iexact Hz
      iexact HM
    iexact HO

/-! ## The signals and the barrier's wait -/

/-- What the signal to the device `j + 1` places further on takes. -/
def sigRes (j : ℕ) : sProp 𝕄 :=
  iprop(dutyTok ER (barCell (fwd j c)) 0 c ∗ reached ER (barCell (fwd j c)) 0 ∗ barPay own (fwd j c) c)

def sigI (k : ℕ) : sProp 𝕄 :=
  iprop(invs own A κ ∗ bigSep (Finset.Ico k 31) (sigRes own c) ∗ (∃ W, owes (c : Thread nD τ) (owedBar own c k) W))

/-- A signal of one unit, under any schedule. -/
theorem signal_gen (Rd : Rounds.Schedule (GSem nD τ sig) (Dev nD) 𝕄) [∀ g r d, BI.Storable (upEmb : UEmb _ 𝕄) (Rd.payload g r d)]
    (n : Dev nD) (s : Sem sig) (k : ℕ) (O₀ O : CellTallies nD τ sig Unit) (W : Waits sig Unit) (d : Dev nD)
    (hd : d ∈ Rd.duties ((n : Thread nD τ), .reg s) 0) (hk : Rd.amount ((n : Thread nD τ), .reg s) 0 d = 1)
    (hO : O₀ = O + tallyAt ((n : Thread nD τ), .reg s) () 1) {Q : PUnit → sProp 𝕄} :
    iprop(cellInv ER Rd k ((n : Thread nD τ), .reg s) ∗ owes (c : Thread nD τ) O₀ W ∗ dutyTok ER ((n : Thread nD τ), .reg s) 0 d
        ∗ Rd.payload ((n : Thread nD τ), .reg s) 0 d ∗ reached ER ((n : Thread nD τ), .reg s) 0)
      ⊢ iprop((owes (c : Thread nD τ) O W -∗ WP c (.ret ⟨⟩) Q) -∗ WP c (semSignalWord n s 1#32) Q) :=
  Rounds.wp_signal 𝒱₀ ER Rd (c : Thread nD τ) none (dst := (n : Thread nD τ)) (κ := k) (d := d) (k' := 1) hd hk () O hO

/-- A wait on a regular semaphore for the whole of its round, under any schedule. -/
theorem semWait_gen (Rd : Rounds.Schedule (GSem nD τ sig) (Dev nD) 𝕄) [∀ g r d, BI.Storable (upEmb : UEmb _ 𝕄) (Rd.payload g r d)]
    (s : Sem sig) (k : ℕ) (O : CellTallies nD τ sig Unit) (W : Waits sig Unit)
    (hk : 0 + 31 = Rd.expect ((c : Thread nD τ), .reg s) 0) {Q : PUnit → sProp 𝕄} :
    iprop(cellInv ER Rd k ((c : Thread nD τ), .reg s) ∗ cred (tallyAt ((c : Thread nD τ), .reg s) () 31) ∗ owes (c : Thread nD τ) O W
        ∗ MayWait (c : Thread nD τ) (.reg s) () O ∗ atPos ER ((c : Thread nD τ), .reg s) 0 ∅ 0)
      ⊢ iprop(((owes (c : Thread nD τ) O (insert (.reg s, ()) W) ∗ atPos ER ((c : Thread nD τ), .reg s) (0 + 1) ∅ 0
            ∗ reached ER ((c : Thread nD τ), .reg s) (0 + 1)
            ∗ bigSep (Rd.duties ((c : Thread nD τ), .reg s) 0 \ ∅) (fun d => Rd.payload ((c : Thread nD τ), .reg s) 0 d)) -∗ WP c (.ret ⟨⟩) Q)
          -∗ WP c (semWaitWord s 31#32) Q) :=
  Rounds.wp_wait_rest_token 𝒱₀ ER Rd (c : Thread nD τ) none (κ := k) (k' := 31)
    (wpE_semWait_eq 𝒱₀ (c : Thread nD τ) none Set.univ) (Set.mem_univ _) () hk

theorem fwd_ne (k : ℕ) (hk : k < 31) : fwd k c ≠ c := fun e => by
  have hc : c.val < 32 := c.isLt
  have h : (c.val + k + 1) % 32 = c.val := congrArg Fin.val e
  omega

set_option maxHeartbeats 1000000 in
theorem wp_sigStep (k : ℕ) (hk : k < 31) :
    sigI own A κ c k ⊢ WP c (sigStep c k hk) fun _ => sigI own A κ c (k + 1) := by
  have hd : (⟨(toW (k + 1) c).toNat, toW_lt ⟨k, hk⟩ c⟩ : Dev nD) = fwd k c := Fin.ext (toW_eq ⟨k, hk⟩ c)
  have hm : c ∈ (sched (F := F) own A).duties (barCell (fwd k c)) 0 := by
    rw [duties_bar]; exact Finset.mem_erase.2 ⟨(fwd_ne c k hk).symm, Finset.mem_univ _⟩
  have e : Finset.Ico k 31 = insert k (Finset.Ico (k + 1) 31) := by
    ext j; rw [Finset.mem_insert, Finset.mem_Ico, Finset.mem_Ico]; omega
  have e' : bigSep (Finset.Ico k 31) (sigRes (F := F) own c) = iprop(sigRes own c k ∗ bigSep (Finset.Ico (k + 1) 31) (sigRes own c)) := by
    rw [e]; exact bigSep_insert (by rw [Finset.mem_Ico]; omega)
  unfold sigI sigStep
  rw [hd, e']
  iintro ⟨#Hinv, ⟨Hres, HS⟩, %W, HO⟩
  unfold sigRes
  icases Hres with ⟨Htok, #Hrch, Hpay⟩
  ihave Hpay := (Entails.of_eq (payload_bar own A (fwd k c) c).symm) $$ Hpay
  iapply (signal_gen c (sched own A) (fwd k c) barS (κ (barCell (fwd k c))) (owedBar own c k) (owedBar own c (k + 1)) W c hm rfl
    (owedBar_succ own c hk)) $$ [HO Htok Hpay]
  · isplitr; · iapply (invs_get own A κ (mem_bar (fwd k c))); iexact Hinv
    isplitl [HO]; · iexact HO
    isplitl [Htok]; · iexact Htok
    isplitl [Hpay]; · iexact Hpay
    iexact Hrch
  iintro HO
  iapply (WP_ret c)
  isplitr; · iexact Hinv
  isplitl [HS]; · iexact HS
  iexists W; iexact HO

/-- What the barrier leaves with the device. -/
def gotRows : sProp 𝕄 :=
  bigSep (pend own c 0) fun i => iprop((∃ f, rPts (F := F) (home i) (i % 32) f) ∗ reached ER (recvCell i) 0)

set_option maxHeartbeats 1000000 in
theorem wp_barWait {Q : PUnit → sProp 𝕄} :
    iprop(invs own A κ ∗ levAts L lv ∗ atPos ER (barCell c) 0 ∅ 0 ∗ cred (tallyAt (barCell c) () 31)
        ∗ (∃ W, owes (c : Thread nD τ) (owedFrom own c 0) W)
        ∗ ((semVal (barCell c) 0 ∗ gotRows own c ∗ (∃ W, owes (c : Thread nD τ) (owedFrom own c 0) W)) -∗ Q ⟨⟩))
      ⊢ WP c (semWaitWord barS 31#32) Q := by
  iintro ⟨#Hinv, #Hlev, Hat, Hcr, ⟨%W, HO⟩, HK⟩
  iapply (semWait_gen c (sched own A) barS (κ (barCell c)) (owedFrom own c 0) W ((Nat.zero_add _).trans (expect_bar own A c).symm)) $$ [Hat Hcr HO]
  · isplitr; · iapply (invs_get own A κ (mem_bar c)); iexact Hinv
    isplitl [Hcr]; · iexact Hcr
    isplitl [HO]; · iexact HO
    isplitr
    · iapply (mayWait_low own c (.reg barS) 1 (by decide) le_rfl 0)
      iexact Hlev
    iexact Hat
  iintro ⟨HO, Hat, -, Hpay⟩
  ihave Hp := (Entails.of_eq (rest_bar own A c)) $$ Hpay
  imod (close_cell own A κ (mem_bar c) (duties_bar_later own A c)) $$ [Hat] with Hz
  · isplitr; · iexact Hinv
    iexact Hat
  iapply (WP_ret c)
  iapply HK
  isplitl [Hz]; · iexact Hz
  isplitl [Hp]; · unfold gotRows; iexact Hp
  iexists (insert (SemLoc.reg barS, ()) W); iexact HO

end Chains

end Cert.KernelIdeal.Gen
-- ==== Proof.Back.lean ====
module

public import proofs.«01_k».proof.Proof.Chains

/-!
# All sent rows back

The rows that came back while slots were reused and the rows the last waits brought back are the rows of all tokens the
device sent; with the rows never sent they are the whole contribution buffer.
-/

@[expose] public section

noncomputable section

namespace Cert.KernelIdeal.Gen

open Idealize.ShloMosaic TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The last 32 of `n` members, each through its remainder by 32, and the members before them are all of them. -/
theorem bigSep_last32 (n : ℕ) (G : ℕ → sProp 𝕄) :
    bigSep (Finset.range n) G
      = iprop(bigSep (Finset.range (n - 32)) G
        ∗ bigSep (Finset.range 32) fun s => if s < n then G (32 * ((n - 1 - s) / 32) + s) else iprop(emp)) := by
  have hinj : Set.InjOn (fun s : ℕ => 32 * ((n - 1 - s) / 32) + s) ((Finset.range 32).filter fun s => s < n) := by
    intro a ha b hb hab
    have ha' := Finset.mem_filter.1 ha
    have hb' := Finset.mem_filter.1 hb
    have h1 := Finset.mem_range.1 ha'.1
    have h2 := Finset.mem_range.1 hb'.1
    have hab' : 32 * ((n - 1 - a) / 32) + a = 32 * ((n - 1 - b) / 32) + b := hab
    omega
  have himg : ((Finset.range 32).filter fun s => s < n).image (fun s : ℕ => 32 * ((n - 1 - s) / 32) + s) = Finset.Ico (n - 32) n := by
    ext x
    rw [Finset.mem_image, Finset.mem_Ico]
    constructor
    · rintro ⟨a, ha, rfl⟩
      have ha' := Finset.mem_filter.1 ha
      have h1 := Finset.mem_range.1 ha'.1
      have h2 := ha'.2
      show n - 32 ≤ 32 * ((n - 1 - a) / 32) + a ∧ 32 * ((n - 1 - a) / 32) + a < n
      omega
    · rintro ⟨h1, h2⟩
      refine ⟨x % 32, Finset.mem_filter.2 ⟨Finset.mem_range.2 (by omega), by omega⟩, ?_⟩
      show 32 * ((n - 1 - x % 32) / 32) + x % 32 = x
      omega
  have hr : Finset.range n = Finset.range (n - 32) ∪ Finset.Ico (n - 32) n := by
    ext x; rw [Finset.mem_union, Finset.mem_range, Finset.mem_range, Finset.mem_Ico]; omega
  have hd : Disjoint (Finset.range (n - 32)) (Finset.Ico (n - 32) n) :=
    Finset.disjoint_left.2 fun x h1 h2 => by
      have := Finset.mem_range.1 h1; have := Finset.mem_Ico.1 h2; omega
  conv_lhs => rw [hr, bigSep_union hd, ← himg, bigSep_image_of_injOn hinj, bigSep_filter]
  rfl

section Back
variable (own : ℕ → Dev nD) (A : Dev nD → S1024x8x128.Idx → Elt F .f32) (c : Dev nD)

/-- The counts of the sent tokens are all the numbers below their number. -/
theorem cnt_image : (pend own c 0).image (cnt own c) = Finset.range (cnt own c 1024) := by
  refine Finset.eq_of_subset_of_card_le ?_ ?_
  · intro x hx
    obtain ⟨t, ht, rfl⟩ := Finset.mem_image.1 hx
    have h := (mem_pend own c).1 ht
    exact Finset.mem_range.2 (cnt_lt own c h.2 h.1.2)
  · rw [Finset.card_range, Finset.card_image_of_injOn fun a ha b hb h =>
      cnt_inj own c ((mem_pend own c).1 ha).2 ((mem_pend own c).1 hb).2 h]
    unfold cnt pend
    rw [Finset.range_eq_Ico]

/-- Over the sent tokens, by token or by number. -/
theorem bigSep_nthTok (H : ℕ → sProp 𝕄) :
    bigSep (Finset.range (cnt own c 1024)) (fun m => H (nthTok own c m)) = bigSep (pend own c 0) H := by
  rw [← cnt_image, bigSep_image_of_injOn fun a ha b hb h =>
      cnt_inj own c ((mem_pend own c).1 ha).2 ((mem_pend own c).1 hb).2 h]
  exact bigSep_congr fun t ht => by rw [nthTok_cnt own c ((mem_pend own c).1 ht).2]

/-- The rows that came back during the loop and those of the last waits are all sent rows. -/
theorem rows_back :
    iprop(returned own A c (cnt own c 1024) ∗ bigSep (Finset.range 32) (lastRow own A c))
      = bigSep (pend own c 0) fun i => cPts c i (A c) := by
  exact (bigSep_last32 (cnt own c 1024) fun m => cPts c (nthTok own c m) (A c)).symm.trans
    (bigSep_nthTok own c fun i => cPts c i (A c))

/-- The rows of the tokens the device sends. -/
def sentSet : Finset S1024x8x128.Idx := (pend own c 0).biUnion cSet

/-- The contribution buffer is the sent rows and the rest. -/
theorem contrib_split (f : S1024x8x128.Idx → Elt F .f32) :
    (((c : Thread nD τ).loc cc0_scratch0) ↦{fullShare} f : sProp 𝕄)
      = iprop((bigSep (pend own c 0) fun i => cPts c i f) ∗ (((c : Thread nD τ).loc cc0_scratch0) ↦[Finset.univ \ sentSet own c]{fullShare} f)) := by
  have h := pointsTo_split_subset (nD := nD) (τ := τ) (sig := sig) (Ix := Unit) (Val := Elt F) (Name := ℕ) (U := UU) (Lvl := ℕ)
    (ℓ := (c : Thread nD τ).loc cc0_scratch0) (q := fullShare) (f := f) (I := sentSet own c) (Finset.subset_univ _)
  refine (Idealize.SL.BI.Entails.antisymm h.1 h.2).trans ?_
  have e : (((c : Thread nD τ).loc cc0_scratch0) ↦[sentSet own c]{fullShare} f : sProp 𝕄) = bigSep (pend own c 0) fun i => cPts c i f :=
    pointsTo_biUnion (ℓ := (c : Thread nD τ).loc cc0_scratch0) (pend own c 0) cSet fun i _ j _ h => cSet_disjoint h
  rw [e]

/-- The rows of the device's own tokens are never sent. -/
theorem own_not_sent (x : S1024x8x128.Idx) (h : (x 0).val / 32 = c.val) : x ∈ Finset.univ \ sentSet own c := by
  refine Finset.mem_sdiff.2 ⟨Finset.mem_univ _, fun h' => ?_⟩
  obtain ⟨i, hi, hx⟩ := Finset.mem_biUnion.1 h'
  exact ((mem_pend own c).1 hi).2.2 (by rw [← mem_cSet.1 hx]; exact h)

/-- The receive buffer by rows. -/
theorem recv_rows (f : S32x8x128.Idx → Elt F .f32) :
    (((c : Thread nD τ).loc cc0_scratch1) ↦{fullShare} f : sProp 𝕄) = bigSep (Finset.range 32) fun r => rPts c r f := by
  have hu : (Finset.univ : Finset S32x8x128.Idx) = (Finset.range 32).biUnion rSet := by
    ext x
    refine ⟨fun _ => ?_, fun _ => Finset.mem_univ _⟩
    exact Finset.mem_biUnion.2 ⟨(x 0).val, Finset.mem_range.2 (x 0).isLt, mem_rSet.2 rfl⟩
  refine Eq.trans (congrArg (fun S => (((c : Thread nD τ).loc cc0_scratch1) ↦[S]{fullShare} f : sProp 𝕄)) hu) ?_
  exact pointsTo_biUnion (ℓ := (c : Thread nD τ).loc cc0_scratch1) (Finset.range 32) rSet fun i _ j _ h => rSet_disjoint h

/-- Of the tokens a device is home of, those other devices own, by owner. -/
def foreign : Finset ℕ := (Finset.range 32).filter fun r => own (32 * c.val + r) ≠ c

theorem bar_fiber (d : Dev nD) (hne : d ≠ c) :
    ((pend own d 0).filter fun i => home i = c) = ((Finset.range 32).filter fun r => own (32 * c.val + r) = d).image fun r => 32 * c.val + r := by
  have hc : c.val < 32 := c.isLt
  ext i
  rw [Finset.mem_filter, mem_pend, Finset.mem_image]
  constructor
  · rintro ⟨⟨⟨-, hi⟩, ho, -⟩, hh⟩
    have hv : i / 32 = c.val := by rw [← home_val hi, hh]
    exact ⟨i % 32, Finset.mem_filter.2 ⟨Finset.mem_range.2 (by omega), by rw [show 32 * c.val + i % 32 = i by omega]; exact ho⟩, by omega⟩
  · rintro ⟨r, hr, rfl⟩
    have hr' := Finset.mem_filter.1 hr
    have hlt := Finset.mem_range.1 hr'.1
    refine ⟨⟨⟨by omega, by omega⟩, hr'.2, ?_⟩, home_mul c hlt⟩
    rw [show (32 * c.val + r) / 32 = c.val by omega]
    exact fun e => hne (Fin.ext e.symm)

/-- What one signal hands over, by receive row. -/
theorem barPay_rows (d : Dev nD) (hne : d ≠ c) :
    barPay (F := F) own d c = bigSep ((Finset.range 32).filter fun r => own (32 * c.val + r) = d) fun r =>
      iprop((∃ f, rPts c r f) ∗ reached ER (rCell c r) 0) := by
  have hinj : Set.InjOn (fun r : ℕ => 32 * c.val + r) ((Finset.range 32).filter fun r => own (32 * c.val + r) = d) :=
    fun a _ b _ h => Nat.add_left_cancel h
  unfold barPay
  rw [bar_fiber own c d hne, bigSep_image_of_injOn hinj]
  refine bigSep_congr fun r hr => ?_
  have hlt := Finset.mem_range.1 (Finset.mem_filter.1 hr).1
  rw [home_mul c hlt, recvCell_eq c hlt, show (32 * c.val + r) % 32 = r by omega]

theorem fwd_inj {j k : ℕ} (hj : j < 31) (hk : k < 31) (h : fwd j c = fwd k c) : j = k := by
  have hc : c.val < 32 := c.isLt
  have h' : (c.val + j + 1) % 32 = (c.val + k + 1) % 32 := congrArg Fin.val h
  omega
theorem fwd_surj (d : Dev nD) (h : d ≠ c) : ∃ j ∈ Finset.Ico 0 31, fwd j c = d := by
  have hc : c.val < 32 := c.isLt
  have hd : d.val < 32 := d.isLt
  have hne : d.val ≠ c.val := fun e => h (Fin.ext e)
  refine ⟨(d.val + 32 - c.val - 1) % 32, Finset.mem_Ico.2 ⟨by omega, by omega⟩, Fin.ext ?_⟩
  show (c.val + (d.val + 32 - c.val - 1) % 32 + 1) % 32 = d.val
  omega

/-- What all the signals hand over, by receive row: the rows of the tokens other devices own. -/
theorem barPays_rows :
    (bigSep (Finset.Ico 0 31) fun j => barPay (F := F) own (fwd j c) c)
      = bigSep (foreign own c) fun r => iprop((∃ f, rPts c r f) ∗ reached ER (rCell c r) 0) := by
  have hu : (Finset.Ico 0 31).biUnion (fun j => (Finset.range 32).filter fun r => own (32 * c.val + r) = fwd j c) = foreign own c := by
    ext r
    rw [Finset.mem_biUnion]
    unfold foreign
    constructor
    · rintro ⟨j, hj, h⟩
      have h' := Finset.mem_filter.1 h
      refine Finset.mem_filter.2 ⟨h'.1, fun e => fwd_ne c j (Finset.mem_Ico.1 hj).2 (h'.2.symm.trans e)⟩
    · intro h
      have h' := Finset.mem_filter.1 h
      obtain ⟨j, hj, e⟩ := fwd_surj c _ h'.2
      exact ⟨j, hj, Finset.mem_filter.2 ⟨h'.1, e.symm⟩⟩
  rw [← hu, bigSep_biUnion_eq]
  · exact bigSep_congr fun j hj => barPay_rows own c _ (fwd_ne c j (Finset.mem_Ico.1 hj).2)
  · intro j hj k hk hne
    refine Finset.disjoint_left.2 fun r h1 h2 => hne (fwd_inj c (Finset.mem_Ico.1 hj).2 (Finset.mem_Ico.1 hk).2 ?_)
    exact (Finset.mem_filter.1 h1).2.symm.trans (Finset.mem_filter.1 h2).2

end Back

end Cert.KernelIdeal.Gen
-- ==== Proof.Cols.lean ====
module

public import proofs.«01_k».proof.Proof.Back

/-!
# Columns of the two scratch buffers, and loads and stores at the head of a program

The kernel reads and writes the scratch buffers by columns: column `j` of the eight holds the outputs `128 j` to
`128 j + 127` of every row.
-/

@[expose] public section

noncomputable section

namespace Cert.KernelIdeal.Gen

open Idealize.ShloMosaic TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev xM : Memref sig .tc .vmem S1024x512 .bf16 := Memref.whole cc0_stg0_0
abbrev rwM : Memref sig .tc .vmem S512x128 .bf16 := Memref.whole cc0_stg1_0
abbrev tvM : Memref sig .tc .vmem S1024x1 .i32 := Memref.whole cc0_stg2_0
abbrev ewM : Memref sig .tc .vmem S4x512x1024 .bf16 := Memref.whole cc0_stg4_0
abbrev swM : Memref sig .tc .vmem S512x1024 .bf16 := Memref.whole cc0_stg5_0
abbrev oM : Memref sig .tc .vmem S32x1024 .f32 := Memref.whole cc0_stg6_0

/-! ## Columns -/

/-- Where a column block's element lies in its row block. -/
def rIx (j : Fin 8) (y : S32x1x128.Idx) : S32x8x128.Idx := fun a => match a with
  | 0 => (y 0 : Fin 32)
  | 1 => j
  | 2 => (y 2 : Fin 128)
/-- The element of the device's own rows in the contribution buffer. -/
def oIx (c : Dev nD) (j : Fin 8) (y : S32x1x128.Idx) : S1024x8x128.Idx := fun a => match a with
  | 0 => (⟨32 * c.val + (y 0).val, by have h : c.val < 32 := c.isLt; have h' : (y 0).val < 32 := (y 0).isLt; omega⟩ : Fin 1024)
  | 1 => j
  | 2 => (y 2 : Fin 128)
/-- Where an element of a row lies in a column block of all rows. -/
def aIx (x : S1024x8x128.Idx) : S1024x1x128.Idx := fun a => match a with
  | 0 => (x 0 : Fin 1024)
  | 1 => (0 : Fin 1)
  | 2 => (x 2 : Fin 128)

def rCol (j : Fin 8) (f : S32x8x128.Idx → Elt F .f32) : Vec F S32x1x128 .f32 := fun y => f (rIx j y)
def oCol (c : Dev nD) (j : Fin 8) (f : S1024x8x128.Idx → Elt F .f32) : Vec F S32x1x128 .f32 := fun y => f (oIx c j y)
/-- The contribution buffer with column `j` replaced. -/
def setCol (j : Fin 8) (w : Vec F S1024x1x128 .f32) (f : S1024x8x128.Idx → Elt F .f32) : S1024x8x128.Idx → Elt F .f32 :=
  fun x => if (x 1).val = j.val then w (aIx x) else f x

theorem read_rCol (j : Fin 8) (h) (f : S32x8x128.Idx → Elt F .f32) :
    ((Memref.whole cc0_scratch1 : Memref sig .tc .vmem S32x8x128 .f32).access
      (Rect.unit (s := S32x8x128) ![0, j.val, 0] S32x1x128.size h)).read (Elt F) f = rCol j f := by
  funext y
  show f ((Rect.unit (s := S32x8x128) ![0, j.val, 0] S32x1x128.size h).emb y) = f (rIx j y)
  refine congrArg f (funext fun a => Fin.ext ?_)
  have h1 : (y 1).val < 1 := (y 1).isLt
  match a with
  | 0 => show 0 + 1 * (y 0).val = (y 0).val; omega
  | 1 => show j.val + 1 * (y 1).val = j.val; omega
  | 2 => show 0 + 1 * (y 2).val = (y 2).val; omega

theorem emb_oCol (c : Dev nD) (j : Fin 8) (h) (y : S32x1x128.Idx) :
    (Rect.unit (s := S1024x8x128) ![32 * c.val, j.val, 0] S32x1x128.size h).emb y = oIx c j y := by
  refine funext fun a => Fin.ext ?_
  have h1 : (y 1).val < 1 := (y 1).isLt
  match a with
  | 0 => show 32 * c.val + 1 * (y 0).val = 32 * c.val + (y 0).val; omega
  | 1 => show j.val + 1 * (y 1).val = j.val; omega
  | 2 => show 0 + 1 * (y 2).val = (y 2).val; omega

theorem read_oCol (c : Dev nD) (j : Fin 8) (h) (f : S1024x8x128.Idx → Elt F .f32) :
    ((Memref.whole cc0_scratch0 : Memref sig .tc .vmem S1024x8x128 .f32).access
      (Rect.unit (s := S1024x8x128) ![32 * c.val, j.val, 0] S32x1x128.size h)).read (Elt F) f = oCol c j f := by
  funext y
  show f ((Rect.unit (s := S1024x8x128) ![32 * c.val, j.val, 0] S32x1x128.size h).emb y) = f (oIx c j y)
  rw [emb_oCol]

theorem oCol_sub (own : ℕ → Dev nD) (c : Dev nD) (j : Fin 8) (h) :
    (aM.access (Rect.unit (s := S1024x8x128) ![32 * c.val, j.val, 0] S32x1x128.size h)).set
      ⊆ (show Finset (Idx ((aM.access (Rect.unit (s := S1024x8x128) ![32 * c.val, j.val, 0] S32x1x128.size h)).loc (c : Thread nD τ))) from
        (show Finset (Idx ((c : Thread nD τ).loc cc0_scratch0)) from Finset.univ \ sentSet own c)) := by
  intro x hx
  obtain ⟨y, -, rfl⟩ := Finset.mem_map.1 hx
  refine own_not_sent own c _ ?_
  have e : (Rect.unit (s := S1024x8x128) ![32 * c.val, j.val, 0] S32x1x128.size h).emb y = oIx c j y := emb_oCol c j h y
  show (((Rect.unit (s := S1024x8x128) ![32 * c.val, j.val, 0] S32x1x128.size h).emb y) 0).val / 32 = c.val
  rw [e]
  show (32 * c.val + (y 0).val) / 32 = c.val
  have h' : (y 0).val < 32 := (y 0).isLt
  omega

theorem emb_aCol (j : Fin 8) (h) (x : S1024x8x128.Idx) (hx : (x 1).val = j.val) :
    (Rect.unit (s := S1024x8x128) ![0, j.val, 0] S1024x1x128.size h).emb (aIx x) = x := by
  refine funext fun a => Fin.ext ?_
  match a with
  | 0 => show 0 + 1 * (x 0).val = (x 0).val; omega
  | 1 => show j.val + 1 * 0 = (x 1).val; rw [hx]; omega
  | 2 => show 0 + 1 * (x 2).val = (x 2).val; omega

/-- A store of a column block replaces the column. -/
theorem write_aCol (j : Fin 8) (h) (f : S1024x8x128.Idx → Elt F .f32) (w : Vec F S1024x1x128 .f32) :
    ((Memref.whole cc0_scratch0 : Memref sig .tc .vmem S1024x8x128 .f32).access
      (Rect.unit (s := S1024x8x128) ![0, j.val, 0] S1024x1x128.size h)).write (Elt F) f w Finset.univ = setCol j w f := by
  have hemb : ∀ y, (((Memref.whole cc0_scratch0 : Memref sig .tc .vmem S1024x8x128 .f32).access
      (Rect.unit (s := S1024x8x128) ![0, j.val, 0] S1024x1x128.size h)).emb y : S1024x8x128.Idx)
        = (Rect.unit (s := S1024x8x128) ![0, j.val, 0] S1024x1x128.size h).emb y := fun _ => rfl
  funext x
  unfold setCol
  by_cases hx : (x 1).val = j.val
  · rw [if_pos hx]
    have h1 := View.write_emb_of_mem (v := (Memref.whole cc0_scratch0 : Memref sig .tc .vmem S1024x8x128 .f32).access
      (Rect.unit (s := S1024x8x128) ![0, j.val, 0] S1024x1x128.size h)) (Val := Elt F) f w (Finset.mem_univ (aIx x))
    rw [hemb, emb_aCol j h x hx] at h1
    exact h1
  · rw [if_neg hx]
    refine View.write_of_not_mem (v := (Memref.whole cc0_scratch0 : Memref sig .tc .vmem S1024x8x128 .f32).access
      (Rect.unit (s := S1024x8x128) ![0, j.val, 0] S1024x1x128.size h)) (Val := Elt F) f w _ fun hm => hx ?_
    obtain ⟨y, -, e⟩ := Finset.mem_map.1 hm
    have e' : (Rect.unit (s := S1024x8x128) ![0, j.val, 0] S1024x1x128.size h).emb y = x := e
    rw [← e']
    have h1 : (y 1).val < 1 := (y 1).isLt
    show j.val + 1 * (y 1).val = j.val; omega

/-! ## Loads and stores -/

section Heads
variable (c : Dev nD) {β : Type}

/-- A load through a rectangle, of the value it reads. -/
theorem WP_load {cs : CoreSpace} {s : Shape} {e : EltTy} (m : Memref sig .tc cs s e) (r : Rect s) {hl : m.view.LoadsAt r.toLoadRect}
    {S : Finset (Idx ((m.access r).loc (c : Thread nD τ)))} (f : Buf (Elt F) ((m.access r).loc (c : Thread nD τ)))
    (v : r.shape.Idx → Elt F e) (hv : (m.access r).read (Elt F) f = v) (hS : (m.access r).set ⊆ S)
    (k : (r.shape.Idx → Elt F e) → KProg F β) (Q : β → sProp 𝕄) :
    iprop(((m.access r).loc (c : Thread nD τ) ↦[S]{fullShare} f)
        ∗ (((m.access r).loc (c : Thread nD τ) ↦[S]{fullShare} f) -∗ WP c (k v) Q))
      ⊢ WP c (Prog.lift (.load m r.toLoadRect hl) >>= k) Q := by
  subst hv
  have h := wp_load_rect (defs := defs₀ (F := F)) 𝒱₀ (c : Thread nD τ) none Set.univ (Γ := PendingWaitsCtx.empty) (m := m) (r := r) (hl := hl) (k := k)
    (q := fullShare) (f := f) (Q := Q) hS
  exact BI.wand_elim h

/-- A store through a rectangle, leaving the contents it writes. -/
theorem WP_store {cs : CoreSpace} {s : Shape} {e : EltTy} (m : Memref sig .tc cs s e) (r : Rect s) (w : r.shape.Idx → Elt F e)
    {hx : (m.access r).Stores Finset.univ} {hm : (Finset.univ : Finset r.shape.Idx) = Finset.univ ∨ ∀ a, r.stride a = 1}
    (f v : Buf (Elt F) ((m.access r).loc (c : Thread nD τ)))
    (hv : (m.access r).write (Elt F) f w Finset.univ = v)
    (k : PUnit → KProg F β) (Q : β → sProp 𝕄) :
    iprop(((m.access r).loc (c : Thread nD τ) ↦{fullShare} f)
        ∗ (((m.access r).loc (c : Thread nD τ) ↦{fullShare} v) -∗ WP c (k ⟨⟩) Q))
      ⊢ WP c (Prog.lift (.store m r w Finset.univ hx hm) >>= k) Q := by
  subst hv
  have h := wp_store (defs := defs₀ (F := F)) 𝒱₀ (c : Thread nD τ) none Set.univ (Γ := PendingWaitsCtx.empty) (m := m) (r := r) (w := w) (hx := hx) (hm := hm) (k := k)
    (f := f) (Q := Q) (S := Finset.univ) (Finset.subset_univ _)
  exact BI.wand_elim h

/-- The contribution buffer, and the receive buffer, whole. -/
def aPts (f : S1024x8x128.Idx → Elt F .f32) : sProp 𝕄 := ((c : Thread nD τ).loc cc0_scratch0) ↦{fullShare} f
def bPts (f : S32x8x128.Idx → Elt F .f32) : sProp 𝕄 := ((c : Thread nD τ).loc cc0_scratch1) ↦{fullShare} f
/-- The rows of the contribution buffer that are never sent. -/
def keptPts (own : ℕ → Dev nD) (f : S1024x8x128.Idx → Elt F .f32) : sProp 𝕄 :=
  ((c : Thread nD τ).loc cc0_scratch0) ↦[Finset.univ \ sentSet own c]{fullShare} f

/-- A load of a column of the receive buffer. -/
theorem WP_rCol (j : Fin 8) (f : S32x8x128.Idx → Elt F .f32) (off : Fin 3 → ℕ) (e : off = ![0, j.val, 0]) (h) {hl}
    (k : Vec F S32x1x128 .f32 → KProg F β) (Q : β → sProp 𝕄) :
    iprop(bPts c f ∗ (bPts c f -∗ WP c (k (rCol j f)) Q))
      ⊢ WP c (Prog.lift (.load bM (Rect.unit (s := S32x8x128) off S32x1x128.size h).toLoadRect hl) >>= k) Q := by
  subst e
  unfold bPts
  exact WP_load c (cs := .vmem) bM (Rect.unit (s := S32x8x128) ![0, j.val, 0] S32x1x128.size h) (S := Finset.univ) f _ (read_rCol j h f)
    (Finset.subset_univ _) k Q

/-- A load of a column of the device's own rows. -/
theorem WP_oCol (own : ℕ → Dev nD) (j : Fin 8) (f : S1024x8x128.Idx → Elt F .f32) (off : Fin 3 → ℕ) (e : off = ![32 * c.val, j.val, 0]) (h) {hl}
    (k : Vec F S32x1x128 .f32 → KProg F β) (Q : β → sProp 𝕄) :
    iprop(keptPts c own f ∗ (keptPts c own f -∗ WP c (k (oCol c j f)) Q))
      ⊢ WP c (Prog.lift (.load aM (Rect.unit (s := S1024x8x128) off S32x1x128.size h).toLoadRect hl) >>= k) Q := by
  subst e
  unfold keptPts
  exact WP_load c (cs := .vmem) aM (Rect.unit (s := S1024x8x128) ![32 * c.val, j.val, 0] S32x1x128.size h) f _ (read_oCol c j h f)
    (oCol_sub own c j h) k Q

/-- A column of the contribution buffer loaded, and stored. -/
theorem WP_aCol (j : Fin 8) (f : S1024x8x128.Idx → Elt F .f32) (w : Vec F S1024x1x128 .f32) (off : Fin 3 → ℕ) (e : off = ![0, j.val, 0]) (h) (h') {hl} {hx} {hm}
    (k : PUnit → KProg F β) (Q : β → sProp 𝕄) :
    iprop(aPts c f ∗ (aPts c (setCol j w f) -∗ WP c (k ⟨⟩) Q))
      ⊢ WP c (Prog.lift (.load aM (Rect.unit (s := S1024x8x128) off S1024x1x128.size h).toLoadRect hl) >>= fun _ =>
          Prog.lift (.store aM (Rect.unit (s := S1024x8x128) off S1024x1x128.size h') w Finset.univ hx hm) >>= k) Q := by
  subst e
  unfold aPts
  iintro ⟨HA, HK⟩
  iapply (WP_load c (cs := .vmem) aM (Rect.unit (s := S1024x8x128) ![0, j.val, 0] S1024x1x128.size h) (S := Finset.univ) f _ rfl
    (Finset.subset_univ _) _ Q)
  isplitl [HA]; · iexact HA
  iintro HA
  iapply (WP_store c (cs := .vmem) aM (Rect.unit (s := S1024x8x128) ![0, j.val, 0] S1024x1x128.size h) w f _ (write_aCol j h f w) k Q)
  isplitl [HA]; · iexact HA
  iexact HK

theorem zero2 : (![0, 0] : Fin 2 → ℕ) = fun _ => 0 := by
  funext a
  match a with
  | 0 => rfl
  | 1 => rfl
theorem zero3 : (![0, 0, 0] : Fin 3 → ℕ) = fun _ => 0 := by
  funext a
  match a with
  | 0 => rfl
  | 1 => rfl
  | 2 => rfl

end Heads

end Cert.KernelIdeal.Gen
-- ==== Proof.Tail.lean ====
module

public import proofs.«01_k».proof.Proof.Cols

/-!
# The pieces of the program after the barrier

The program after the barrier is cut into the loads, the stores of the contributions, the loop of the sends with the
receives, and the result with the last waits. What is stored is named: the contributions, and the result as a
function of the columns read.
-/

@[expose] public section

noncomputable section

namespace Cert.KernelIdeal.Gen

open Idealize.ShloMosaic TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Pieces -/

/-- Column `j` of the contributions. -/
def contribCol (c : Dev nD) (v411 : Vec F S1024x512 .bf16) (v413 : Vec F S512x128 .bf16) (v425 : Vec F S1024x1 .i32)
    (v471 : Vec F S4x512x1024 .bf16) :
    Fin 8 → Vec F S1024x1x128 .f32
  | 0 => k0_pay11 (k0_pay2 v411) (k0_pay5 (k0_pay3 v411 v413) v425) (k0_pay6 (meW c) (k0_pay2 v411) (k0_pay3 v411 v413) v425) (k0_pay7 (meW c) (k0_pay2 v411) (k0_pay3 v411 v413) v425) (k0_pay8 (meW c) (k0_pay2 v411) (k0_pay3 v411 v413) v425) (k0_pay9 (meW c) v425) (Scalar.ofBits .f32 0x00000000#32) v471
  | 1 => k0_pay12 (k0_pay2 v411) (k0_pay5 (k0_pay3 v411 v413) v425) (k0_pay6 (meW c) (k0_pay2 v411) (k0_pay3 v411 v413) v425) (k0_pay7 (meW c) (k0_pay2 v411) (k0_pay3 v411 v413) v425) (k0_pay8 (meW c) (k0_pay2 v411) (k0_pay3 v411 v413) v425) (k0_pay9 (meW c) v425) (Scalar.ofBits .f32 0x00000000#32) v471
  | 2 => k0_pay13 (k0_pay2 v411) (k0_pay5 (k0_pay3 v411 v413) v425) (k0_pay6 (meW c) (k0_pay2 v411) (k0_pay3 v411 v413) v425) (k0_pay7 (meW c) (k0_pay2 v411) (k0_pay3 v411 v413) v425) (k0_pay8 (meW c) (k0_pay2 v411) (k0_pay3 v411 v413) v425) (k0_pay9 (meW c) v425) (Scalar.ofBits .f32 0x00000000#32) v471
  | 3 => k0_pay14 (k0_pay2 v411) (k0_pay5 (k0_pay3 v411 v413) v425) (k0_pay6 (meW c) (k0_pay2 v411) (k0_pay3 v411 v413) v425) (k0_pay7 (meW c) (k0_pay2 v411) (k0_pay3 v411 v413) v425) (k0_pay8 (meW c) (k0_pay2 v411) (k0_pay3 v411 v413) v425) (k0_pay9 (meW c) v425) (Scalar.ofBits .f32 0x00000000#32) v471
  | 4 => k0_pay15 (k0_pay2 v411) (k0_pay5 (k0_pay3 v411 v413) v425) (k0_pay6 (meW c) (k0_pay2 v411) (k0_pay3 v411 v413) v425) (k0_pay7 (meW c) (k0_pay2 v411) (k0_pay3 v411 v413) v425) (k0_pay8 (meW c) (k0_pay2 v411) (k0_pay3 v411 v413) v425) (k0_pay9 (meW c) v425) (Scalar.ofBits .f32 0x00000000#32) v471
  | 5 => k0_pay17 (accV5 c v411 v413 v425 v471)
  | 6 => k0_pay18 (accV c v411 v413 v425 v471)
  | 7 => k0_pay19 (accV c v411 v413 v425 v471)

/-- The result's store and the last waits. -/
def tailP (c : Dev nD) (v508 : BitVec 32) (v511 : Vec F S32x512 .bf16) (v513 : Vec F S512x1024 .bf16) : KProg F PUnit := do
  let r0 : Vec F S32x1x128 .f32 ← Prog.lift (.load bM (Rect.unit (s := S32x8x128) ![0, 0, 0] S32x1x128.size inb_S32x8x128_S32x1x128_0_0_0).toLoadRect (View.loadsAt_vmem h_S32x1x128))
  let r1 : Vec F S32x1x128 .f32 ← Prog.lift (.load bM (Rect.unit (s := S32x8x128) ![0, 1, 0] S32x1x128.size inb_S32x8x128_S32x1x128_0_1_0).toLoadRect (View.loadsAt_vmem h_S32x1x128))
  let r2 : Vec F S32x1x128 .f32 ← Prog.lift (.load bM (Rect.unit (s := S32x8x128) ![0, 2, 0] S32x1x128.size inb_S32x8x128_S32x1x128_0_2_0).toLoadRect (View.loadsAt_vmem h_S32x1x128))
  let r3 : Vec F S32x1x128 .f32 ← Prog.lift (.load bM (Rect.unit (s := S32x8x128) ![0, 3, 0] S32x1x128.size inb_S32x8x128_S32x1x128_0_3_0).toLoadRect (View.loadsAt_vmem h_S32x1x128))
  let r4 : Vec F S32x1x128 .f32 ← Prog.lift (.load bM (Rect.unit (s := S32x8x128) ![0, 4, 0] S32x1x128.size inb_S32x8x128_S32x1x128_0_4_0).toLoadRect (View.loadsAt_vmem h_S32x1x128))
  let r5 : Vec F S32x1x128 .f32 ← Prog.lift (.load bM (Rect.unit (s := S32x8x128) ![0, 5, 0] S32x1x128.size inb_S32x8x128_S32x1x128_0_5_0).toLoadRect (View.loadsAt_vmem h_S32x1x128))
  let r6 : Vec F S32x1x128 .f32 ← Prog.lift (.load bM (Rect.unit (s := S32x8x128) ![0, 6, 0] S32x1x128.size inb_S32x8x128_S32x1x128_0_6_0).toLoadRect (View.loadsAt_vmem h_S32x1x128))
  let r7 : Vec F S32x1x128 .f32 ← Prog.lift (.load bM (Rect.unit (s := S32x8x128) ![0, 7, 0] S32x1x128.size inb_S32x8x128_S32x1x128_0_7_0).toLoadRect (View.loadsAt_vmem h_S32x1x128))
  let o0 : Vec F S32x1x128 .f32 ← Prog.lift (.load aM (Rect.unit (s := S1024x8x128) (k0_off40 c) S32x1x128.size (k0_off40_inb c)).toLoadRect (View.loadsAt_vmem h_S32x1x128))
  let o1 : Vec F S32x1x128 .f32 ← Prog.lift (.load aM (Rect.unit (s := S1024x8x128) (k0_off41 c) S32x1x128.size (k0_off41_inb c)).toLoadRect (View.loadsAt_vmem h_S32x1x128))
  let o2 : Vec F S32x1x128 .f32 ← Prog.lift (.load aM (Rect.unit (s := S1024x8x128) (k0_off42 c) S32x1x128.size (k0_off42_inb c)).toLoadRect (View.loadsAt_vmem h_S32x1x128))
  let o3 : Vec F S32x1x128 .f32 ← Prog.lift (.load aM (Rect.unit (s := S1024x8x128) (k0_off43 c) S32x1x128.size (k0_off43_inb c)).toLoadRect (View.loadsAt_vmem h_S32x1x128))
  let o4 : Vec F S32x1x128 .f32 ← Prog.lift (.load aM (Rect.unit (s := S1024x8x128) (k0_off44 c) S32x1x128.size (k0_off44_inb c)).toLoadRect (View.loadsAt_vmem h_S32x1x128))
  let o5 : Vec F S32x1x128 .f32 ← Prog.lift (.load aM (Rect.unit (s := S1024x8x128) (k0_off45 c) S32x1x128.size (k0_off45_inb c)).toLoadRect (View.loadsAt_vmem h_S32x1x128))
  let o6 : Vec F S32x1x128 .f32 ← Prog.lift (.load aM (Rect.unit (s := S1024x8x128) (k0_off46 c) S32x1x128.size (k0_off46_inb c)).toLoadRect (View.loadsAt_vmem h_S32x1x128))
  let o7 : Vec F S32x1x128 .f32 ← Prog.lift (.load aM (Rect.unit (s := S1024x8x128) (k0_off47 c) S32x1x128.size (k0_off47_inb c)).toLoadRect (View.loadsAt_vmem h_S32x1x128))
  let _ : Vec F S32x1024 .f32 ← Prog.lift (.load oM (Rect.unit (s := S32x1024) ![0, 0] S32x1024.size inb_S32x1024_S32x1024_0_0).toLoadRect (View.loadsAt_vmem h_S32x1024))
  Prog.lift (.store oM (Rect.unit (s := S32x1024) ![0, 0] S32x1024.size inb_S32x1024_S32x1024_0_0) (k0_pay28 (k0_pay20 v511 v513) (k0_pay23 (k0_pay21 r0) (k0_pay22 r1) r2 r3 r4 r5 r6 r7) (k0_pay24 o0) (k0_pay25 o1) (k0_pay26 o2) (k0_pay27 o3) o4 o5 o6 o7) Finset.univ (View.stores_vmem_bits_univ h_S32x1024 rfl) (.inl rfl))
  chain (endStep aM bM cc0_scratch2 v508) (pure ⟨⟩) 32 0 (by omega)

/-- The loop of the sends, the loads of the shared product and the receives. -/
def sendsP (c : Dev nD) (v411 : Vec F S1024x512 .bf16) (v413 : Vec F S512x128 .bf16) (v425 : Vec F S1024x1 .i32)
    (v471 : Vec F S4x512x1024 .bf16) : KProg F PUnit := do
  let v508 : BitVec 32 ← Scf.Loop.for k0_t1_loop k0_t1_ok 0#32 (k0_t1_body xM (Memref.isWhole_whole _) rwM (Memref.isWhole_whole _) tvM (Memref.isWhole_whole _) tM (Memref.isWhole_whole _) ewM (Memref.isWhole_whole _) swM (Memref.isWhole_whole _) oM (Memref.isWhole_whole _) aM (Memref.isWhole_whole _) bM (Memref.isWhole_whole _) cc0_scratch2 cc0_scratch3 c (meW c) (accV c v411 v413 v425 v471) (accV5 c v411 v413 v425 v471))
  let v511 : Vec F S32x512 .bf16 ← Prog.lift (.load xM (Rect.unit (s := S1024x512) (k0_off7 c) S32x512.size (k0_off7_inb c)).toLoadRect (View.loadsAt_vmem h_S32x512))
  let v513 : Vec F S512x1024 .bf16 ← Prog.lift (.load swM (Rect.unit (s := S512x1024) ![0, 0] S512x1024.size inb_S512x1024_S512x1024_0_0).toLoadRect (View.loadsAt_vmem h_S512x1024))
  chain (recvStep tM aM bM cc0_scratch3 c) (tailP c v508 v511 v513) 32 0 (by omega)

/-- The stores of the contributions. -/
def storesP (c : Dev nD) (v411 : Vec F S1024x512 .bf16) (v413 : Vec F S512x128 .bf16) (v425 : Vec F S1024x1 .i32)
    (v471 : Vec F S4x512x1024 .bf16) : KProg F PUnit := do
  let _ : Vec F S1024x1x128 .f32 ← Prog.lift (.load aM (Rect.unit (s := S1024x8x128) ![0, 0, 0] S1024x1x128.size inb_S1024x8x128_S1024x1x128_0_0_0).toLoadRect (View.loadsAt_vmem h_S1024x1x128))
  Prog.lift (.store aM (Rect.unit (s := S1024x8x128) ![0, 0, 0] S1024x1x128.size inb_S1024x8x128_S1024x1x128_0_0_0) (contribCol c v411 v413 v425 v471 0) Finset.univ (View.stores_vmem_bits_univ h_S1024x1x128 rfl) (.inl rfl))
  let _ : Vec F S1024x1x128 .f32 ← Prog.lift (.load aM (Rect.unit (s := S1024x8x128) ![0, 1, 0] S1024x1x128.size inb_S1024x8x128_S1024x1x128_0_1_0).toLoadRect (View.loadsAt_vmem h_S1024x1x128))
  Prog.lift (.store aM (Rect.unit (s := S1024x8x128) ![0, 1, 0] S1024x1x128.size inb_S1024x8x128_S1024x1x128_0_1_0) (contribCol c v411 v413 v425 v471 1) Finset.univ (View.stores_vmem_bits_univ h_S1024x1x128 rfl) (.inl rfl))
  let _ : Vec F S1024x1x128 .f32 ← Prog.lift (.load aM (Rect.unit (s := S1024x8x128) ![0, 2, 0] S1024x1x128.size inb_S1024x8x128_S1024x1x128_0_2_0).toLoadRect (View.loadsAt_vmem h_S1024x1x128))
  Prog.lift (.store aM (Rect.unit (s := S1024x8x128) ![0, 2, 0] S1024x1x128.size inb_S1024x8x128_S1024x1x128_0_2_0) (contribCol c v411 v413 v425 v471 2) Finset.univ (View.stores_vmem_bits_univ h_S1024x1x128 rfl) (.inl rfl))
  let _ : Vec F S1024x1x128 .f32 ← Prog.lift (.load aM (Rect.unit (s := S1024x8x128) ![0, 3, 0] S1024x1x128.size inb_S1024x8x128_S1024x1x128_0_3_0).toLoadRect (View.loadsAt_vmem h_S1024x1x128))
  Prog.lift (.store aM (Rect.unit (s := S1024x8x128) ![0, 3, 0] S1024x1x128.size inb_S1024x8x128_S1024x1x128_0_3_0) (contribCol c v411 v413 v425 v471 3) Finset.univ (View.stores_vmem_bits_univ h_S1024x1x128 rfl) (.inl rfl))
  let _ : Vec F S1024x1x128 .f32 ← Prog.lift (.load aM (Rect.unit (s := S1024x8x128) ![0, 4, 0] S1024x1x128.size inb_S1024x8x128_S1024x1x128_0_4_0).toLoadRect (View.loadsAt_vmem h_S1024x1x128))
  Prog.lift (.store aM (Rect.unit (s := S1024x8x128) ![0, 4, 0] S1024x1x128.size inb_S1024x8x128_S1024x1x128_0_4_0) (contribCol c v411 v413 v425 v471 4) Finset.univ (View.stores_vmem_bits_univ h_S1024x1x128 rfl) (.inl rfl))
  let _ : Vec F S1024x1x128 .f32 ← Prog.lift (.load aM (Rect.unit (s := S1024x8x128) ![0, 5, 0] S1024x1x128.size inb_S1024x8x128_S1024x1x128_0_5_0).toLoadRect (View.loadsAt_vmem h_S1024x1x128))
  Prog.lift (.store aM (Rect.unit (s := S1024x8x128) ![0, 5, 0] S1024x1x128.size inb_S1024x8x128_S1024x1x128_0_5_0) (contribCol c v411 v413 v425 v471 5) Finset.univ (View.stores_vmem_bits_univ h_S1024x1x128 rfl) (.inl rfl))
  let _ : Vec F S1024x1x128 .f32 ← Prog.lift (.load aM (Rect.unit (s := S1024x8x128) ![0, 6, 0] S1024x1x128.size inb_S1024x8x128_S1024x1x128_0_6_0).toLoadRect (View.loadsAt_vmem h_S1024x1x128))
  Prog.lift (.store aM (Rect.unit (s := S1024x8x128) ![0, 6, 0] S1024x1x128.size inb_S1024x8x128_S1024x1x128_0_6_0) (contribCol c v411 v413 v425 v471 6) Finset.univ (View.stores_vmem_bits_univ h_S1024x1x128 rfl) (.inl rfl))
  let _ : Vec F S1024x1x128 .f32 ← Prog.lift (.load aM (Rect.unit (s := S1024x8x128) ![0, 7, 0] S1024x1x128.size inb_S1024x8x128_S1024x1x128_0_7_0).toLoadRect (View.loadsAt_vmem h_S1024x1x128))
  Prog.lift (.store aM (Rect.unit (s := S1024x8x128) ![0, 7, 0] S1024x1x128.size inb_S1024x8x128_S1024x1x128_0_7_0) (contribCol c v411 v413 v425 v471 7) Finset.univ (View.stores_vmem_bits_univ h_S1024x1x128 rfl) (.inl rfl))
  sendsP c v411 v413 v425 v471

/-- All after the barrier. -/
def afterP (c : Dev nD) : KProg F PUnit := do
  let v411 : Vec F S1024x512 .bf16 ← Prog.lift (.load xM (Rect.unit (s := S1024x512) ![0, 0] S1024x512.size inb_S1024x512_S1024x512_0_0).toLoadRect (View.loadsAt_vmem h_S1024x512))
  let v413 : Vec F S512x128 .bf16 ← Prog.lift (.load rwM (Rect.unit (s := S512x128) ![0, 0] S512x128.size inb_S512x128_S512x128_0_0).toLoadRect (View.loadsAt_vmem h_S512x128))
  let v425 : Vec F S1024x1 .i32 ← Prog.lift (.load tvM (Rect.unit (s := S1024x1) ![0, 0] S1024x1.size inb_S1024x1_S1024x1_0_0).toLoadRect (View.loadsAt_vmem h_S1024x1))
  let v471 : Vec F S4x512x1024 .bf16 ← Prog.lift (.load ewM (Rect.unit (s := S4x512x1024) ![0, 0, 0] S4x512x1024.size inb_S4x512x1024_S4x512x1024_0_0_0).toLoadRect (View.loadsAt_vmem h_S4x512x1024))
  storesP c v411 v413 v425 v471

set_option maxHeartbeats 4000000 in
set_option maxRecDepth 65536 in
theorem afterBarrier_eq (c : Dev nD) :
    afterBarrier (F := F) xM (Memref.isWhole_whole _) rwM (Memref.isWhole_whole _) tvM (Memref.isWhole_whole _) tM (Memref.isWhole_whole _) ewM (Memref.isWhole_whole _) swM (Memref.isWhole_whole _) oM (Memref.isWhole_whole _) aM (Memref.isWhole_whole _) bM (Memref.isWhole_whole _) cc0_scratch2 cc0_scratch3 c = afterP c := by
  unfold afterBarrier afterP storesP sendsP tailP contribCol
  rfl

/-! ## What is stored -/

/-- The contributions of device `c` to all tokens. -/
def contribOf (c : Dev nD) (v411 : Vec F S1024x512 .bf16) (v413 : Vec F S512x128 .bf16) (v425 : Vec F S1024x1 .i32)
    (v471 : Vec F S4x512x1024 .bf16) :
    S1024x8x128.Idx → Elt F .f32 := fun x => contribCol c v411 v413 v425 v471 (x 1 : Fin 8) (aIx x)

/-- All eight columns replaced. -/
theorem setCols (w : Fin 8 → Vec F S1024x1x128 .f32) (f : S1024x8x128.Idx → Elt F .f32) :
    setCol 7 (w 7) (setCol 6 (w 6) (setCol 5 (w 5) (setCol 4 (w 4) (setCol 3 (w 3) (setCol 2 (w 2) (setCol 1 (w 1) (setCol 0 (w 0) f)))))))
      = fun x => w (x 1 : Fin 8) (aIx x) := by
  funext x
  have key : ∀ j : Fin 8, (x 1 : Fin 8) = j → setCol 7 (w 7) (setCol 6 (w 6) (setCol 5 (w 5) (setCol 4 (w 4) (setCol 3 (w 3) (setCol 2 (w 2) (setCol 1 (w 1) (setCol 0 (w 0) f))))))) x = w j (aIx x) := by
    intro j hj
    have hv : (x 1).val = j.val := congrArg Fin.val hj
    unfold setCol
    rw [hv]
    match j with
    | 0 => rfl
    | 1 => rfl
    | 2 => rfl
    | 3 => rfl
    | 4 => rfl
    | 5 => rfl
    | 6 => rfl
    | 7 => rfl
  exact key _ rfl

/-- The result from the shared product's operands and the columns read. -/
def outOf (v511 : Vec F S32x512 .bf16) (v513 : Vec F S512x1024 .bf16) (r o : Fin 8 → Vec F S32x1x128 .f32) : FVec F S32x1024 .f32 :=
  k0_pay28 (k0_pay20 v511 v513) (k0_pay23 (k0_pay21 (r 0)) (k0_pay22 (r 1)) (r 2) (r 3) (r 4) (r 5) (r 6) (r 7))
    (k0_pay24 (o 0)) (k0_pay25 (o 1)) (k0_pay26 (o 2)) (k0_pay27 (o 3)) (o 4) (o 5) (o 6) (o 7)

/-- The 32 rows of the input that the device computes the shared product of. -/
def rowsOf (c : Dev nD) (x : S1024x512.Idx → Elt F .bf16) : Vec F S32x512 .bf16 :=
  fun y => x fun a => match a with
    | 0 => (⟨32 * c.val + (y 0).val, by have h : c.val < 32 := c.isLt; have h' : (y 0).val < 32 := (y 0).isLt; omega⟩ : Fin 1024)
    | 1 => (y 1 : Fin 512)

theorem read_rows (c : Dev nD) (x : S1024x512.Idx → Elt F .bf16) (off : Fin 2 → ℕ) (e : off = ![32 * c.val, 0]) (h) :
    (xM.access (Rect.unit (s := S1024x512) off S32x512.size h)).read (Elt F) x = rowsOf c x := by
  subst e
  funext y
  show x ((Rect.unit (s := S1024x512) ![32 * c.val, 0] S32x512.size h).emb y) = _
  refine congrArg x (funext fun a => Fin.ext ?_)
  match a with
  | 0 => show 32 * c.val + 1 * (y 0).val = 32 * c.val + (y 0).val; omega
  | 1 => show 0 + 1 * (y 1).val = (y 1).val; omega

section Pts
variable (c : Dev nD)
def xPts (f : S1024x512.Idx → Elt F .bf16) : sProp 𝕄 := ((c : Thread nD τ).loc cc0_stg0_0) ↦{fullShare} f
def rwPts (f : S512x128.Idx → Elt F .bf16) : sProp 𝕄 := ((c : Thread nD τ).loc cc0_stg1_0) ↦{fullShare} f
def tvPts (f : S1024x1.Idx → Elt F .i32) : sProp 𝕄 := ((c : Thread nD τ).loc cc0_stg2_0) ↦{fullShare} f
def ewPts (f : S4x512x1024.Idx → Elt F .bf16) : sProp 𝕄 := ((c : Thread nD τ).loc cc0_stg4_0) ↦{fullShare} f
def swPts (f : S512x1024.Idx → Elt F .bf16) : sProp 𝕄 := ((c : Thread nD τ).loc cc0_stg5_0) ↦{fullShare} f
def oPts (f : S32x1024.Idx → Elt F .f32) : sProp 𝕄 := ((c : Thread nD τ).loc cc0_stg6_0) ↦{fullShare} f
end Pts

/-! ## The end -/

section Tail
variable (own : ℕ → Dev nD) (A : Dev nD → S1024x8x128.Idx → Elt F .f32) (κ : GSem nD τ sig → ℕ) (c : Dev nD)

set_option maxHeartbeats 4000000 in
/-- The result is stored and the slots' last rows come back. -/
theorem wp_tail (fB : S32x8x128.Idx → Elt F .f32) (fA : S1024x8x128.Idx → Elt F .f32) (fo : S32x1024.Idx → Elt F .f32)
    (v511 : Vec F S32x512 .bf16) (v513 : Vec F S512x1024 .bf16) :
    iprop((invs own A κ ∗ levAts L lv) ∗ bPts c fB ∗ keptPts c own fA ∗ oPts c fo
        ∗ slots c (cnt own c 1024) ∗ (∃ W, owes (c : Thread nD τ) (owedFrom own c 1024) W))
      ⊢ WP c (tailP c (BitVec.ofNat 32 (cnt own c 1024)) v511 v513) fun _ =>
        iprop(bPts c fB ∗ keptPts c own fA ∗ oPts c (outOf v511 v513 (fun j => rCol j fB) (fun j => oCol c j fA))
          ∗ bigSep (Finset.range 32) (endDone own A c) ∗ (∃ W, owes (c : Thread nD τ) (owedFrom own c 1024) W)) := by
  unfold tailP
  iintro ⟨⟨#Hinv, #Hlev⟩, HB, HA, Ho, HS, HO⟩
  iapply (WP_rCol c 0 fB _ rfl _ _ _)
  isplitl [HB]; · iexact HB
  iintro HB
  iapply (WP_rCol c 1 fB _ rfl _ _ _)
  isplitl [HB]; · iexact HB
  iintro HB
  iapply (WP_rCol c 2 fB _ rfl _ _ _)
  isplitl [HB]; · iexact HB
  iintro HB
  iapply (WP_rCol c 3 fB _ rfl _ _ _)
  isplitl [HB]; · iexact HB
  iintro HB
  iapply (WP_rCol c 4 fB _ rfl _ _ _)
  isplitl [HB]; · iexact HB
  iintro HB
  iapply (WP_rCol c 5 fB _ rfl _ _ _)
  isplitl [HB]; · iexact HB
  iintro HB
  iapply (WP_rCol c 6 fB _ rfl _ _ _)
  isplitl [HB]; · iexact HB
  iintro HB
  iapply (WP_rCol c 7 fB _ rfl _ _ _)
  isplitl [HB]; · iexact HB
  iintro HB
  iapply (WP_oCol c own 0 fA _ (k0_off40_eq c) _ _ _)
  isplitl [HA]; · iexact HA
  iintro HA
  iapply (WP_oCol c own 1 fA _ (k0_off41_eq c) _ _ _)
  isplitl [HA]; · iexact HA
  iintro HA
  iapply (WP_oCol c own 2 fA _ (k0_off42_eq c) _ _ _)
  isplitl [HA]; · iexact HA
  iintro HA
  iapply (WP_oCol c own 3 fA _ (k0_off43_eq c) _ _ _)
  isplitl [HA]; · iexact HA
  iintro HA
  iapply (WP_oCol c own 4 fA _ (k0_off44_eq c) _ _ _)
  isplitl [HA]; · iexact HA
  iintro HA
  iapply (WP_oCol c own 5 fA _ (k0_off45_eq c) _ _ _)
  isplitl [HA]; · iexact HA
  iintro HA
  iapply (WP_oCol c own 6 fA _ (k0_off46_eq c) _ _ _)
  isplitl [HA]; · iexact HA
  iintro HA
  iapply (WP_oCol c own 7 fA _ (k0_off47_eq c) _ _ _)
  isplitl [HA]; · iexact HA
  iintro HA
  unfold oPts
  iapply (WP_load c (cs := .vmem) oM _ (S := Finset.univ) fo _ rfl (Finset.subset_univ _) _ _)
  isplitl [Ho]; · iexact Ho
  iintro Ho
  iapply (WP_store c (cs := .vmem) oM _ _ fo _ (Memref.write_access_unit_zero_univ (Elt F) cc0_stg6_0 zero2 _ fo _) _ _)
  isplitl [Ho]; · iexact Ho
  iintro Ho
  iapply (wp_chain c (endStep aM bM cc0_scratch2 (BitVec.ofNat 32 (cnt own c 1024))) (pure ⟨⟩) (endI own A κ c) _ (wp_endStep own A κ c) 32 0 _)
  unfold endI
  isplitl [HS HO]
  · isplitr; · iexact Hinv
    isplitr; · iexact Hlev
    isplitl [HS]
    · iapply (Entails.of_eq (midway_zero 32 (slotSt c (cnt own c 1024)) (endDone own A c)).symm)
      unfold slots; iexact HS
    iexact HO
  iintro ⟨-, -, HE, HO⟩
  iapply (WP_ret c)
  isplitl [HB]; · iexact HB
  isplitl [HA]; · iexact HA
  isplitl [Ho]; · iexact Ho
  isplitl [HE]
  · iapply (Entails.of_eq (midway_all 32 (slotSt c (cnt own c 1024)) (endDone own A c))); iexact HE
  iexact HO

end Tail

end Cert.KernelIdeal.Gen
-- ==== Proof.Body.lean ====
module

public import proofs.«01_k».proof.Proof.Tail

/-!
# The kernel body

The body of one device, from the buffers, the cells' positions and tokens it starts with to the buffers as it leaves
them and every cell's counter back at zero.
-/

@[expose] public section

noncomputable section

namespace Cert.KernelIdeal.Gen

open Idealize.ShloMosaic TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The loop by an invariant, before the rest. -/
theorem WP_for {β : Type} (c : Dev nD) (body : Fin k0_t1_loop.trips → BitVec 32 → KProg F (BitVec 32)) (I : ℕ → BitVec 32 → sProp 𝕄)
    (hbody : ∀ t acc, I t.val acc ⊢ WP c (body t acc) (I (t.val + 1))) (init : BitVec 32) (kk : BitVec 32 → KProg F β) (Q : β → sProp 𝕄) :
    iprop(I 0 init ∗ (∀ acc, I 1024 acc -∗ WP c (kk acc) Q)) ⊢ WP c (Scf.Loop.for k0_t1_loop k0_t1_ok init body >>= kk) Q := by
  have h := Scf.wp_for_bind frame (wpE (defs₀ (F := F)) 𝒱₀ (c : Thread nD τ) none) Set.univ k0_t1_loop.lb k0_t1_loop.ub k0_t1_loop.st k0_t1_ok init
    body I hbody (kk := kk) (Q := Q)
  have e : Scf.trips k0_t1_loop.lb k0_t1_loop.ub k0_t1_loop.st = 1024 := trips_eq
  rw [e] at h
  exact BI.wand_elim h

section Body
variable (own : ℕ → Dev nD) (A : Dev nD → S1024x8x128.Idx → Elt F .f32) (κ : GSem nD τ sig → ℕ) (c : Dev nD)
variable (tab : S1024x1.Idx → Elt F .i32)

/-- The result the device leaves. -/
def outAt (x : S1024x512.Idx → Elt F .bf16) (sw : S512x1024.Idx → Elt F .bf16) : S32x1024.Idx → Elt F .f32 :=
  outOf (rowsOf c x) sw (fun j => rCol j (recvd own A c)) (fun j => oCol c j (A c))

/-- What the body leaves of the protocol: every counter of the device at zero. -/
def zeros : sProp 𝕄 :=
  iprop(semVal (barCell c) 0 ∗ bigSep (Finset.range 32) (fun r => semVal (rCell c r) 0) ∗ bigSep (Finset.range 32) (fun s => semVal (sendCell c s) 0))

set_option maxHeartbeats 4000000 in
/-- From the loop on. -/
theorem wp_sends (hown : ∀ t (ht : t < 1024), ownW (tab (tabIx t ht)) = BitVec.ofNat 32 (own t).val)
    (x : S1024x512.Idx → Elt F .bf16) (sw : S512x1024.Idx → Elt F .bf16) (fo : S32x1024.Idx → Elt F .f32)
    (v411 : Vec F S1024x512 .bf16) (v413 : Vec F S512x128 .bf16) (v425 : Vec F S1024x1 .i32) (v471 : Vec F S4x512x1024 .bf16) :
    iprop((invs own A κ ∗ levAts L lv) ∗ tabPts tab c ∗ xPts c x ∗ swPts c sw ∗ bigSep (pend own c 0) (sendRes own A c) ∗ slots c 0
        ∗ bigSep (Finset.range 32) (recvTodo own A c) ∗ keptPts c own (A c) ∗ oPts c fo ∗ (∃ W, owes (c : Thread nD τ) (owedFrom own c 0) W))
      ⊢ WP c (sendsP c v411 v413 v425 v471) fun _ =>
        iprop(tabPts tab c ∗ xPts c x ∗ swPts c sw ∗ bPts c (recvd own A c) ∗ aPts c (A c) ∗ oPts c (outAt own A c x sw)
          ∗ bigSep (Finset.range 32) (fun r => semVal (rCell c r) 0) ∗ bigSep (Finset.range 32) (fun s => semVal (sendCell c s) 0)
          ∗ (∃ W, owes (c : Thread nD τ) 0 W)) := by
  have hr : bigSep (Finset.range 32) (recvDone own A c)
      = iprop(bPts c (recvd own A c) ∗ bigSep (Finset.range 32) (fun r => semVal (rCell c r) 0)) := by
    unfold recvDone bPts
    rw [bigSep_sep', ← recv_rows]
  have he : bigSep (Finset.range 32) (endDone own A c)
      = iprop(bigSep (Finset.range 32) (lastRow own A c) ∗ bigSep (Finset.range 32) (fun s => semVal (sendCell c s) 0)) := by
    unfold endDone
    rw [bigSep_sep']
  have ha : aPts c (A c) = iprop((returned own A c (cnt own c 1024) ∗ bigSep (Finset.range 32) (lastRow own A c)) ∗ keptPts c own (A c)) := by
    rw [rows_back]; exact contrib_split own c (A c)
  unfold sendsP
  iintro ⟨⟨#Hinv, #Hlev⟩, HT, Hx, Hsw, HP, HS, HR, HK, Ho, HO⟩
  iapply (WP_for c _ (fun i acc => iprop((invs own A κ ∗ levAts L lv) ∗ loopI own A c tab i acc))
    (fun t acc => by rw [loop_eq_step]; exact wp_trip own A κ c tab hown t acc) 0#32 _ _)
  isplitl [HT HP HS HO]
  · isplitr
    · isplitr; · iexact Hinv
      iexact Hlev
    unfold loopI
    isplitr; · ipureintro; rfl
    isplitl [HT]; · iexact HT
    isplitl [HP]; · iexact HP
    isplitl [HS]; · iexact HS
    isplitr; · unfold returned; iempintro
    iexact HO
  iintro %acc ⟨-, HI⟩
  unfold loopI
  icases HI with ⟨%hacc, HT, -, HS, Hret, HO⟩
  subst hacc
  unfold xPts
  iapply (WP_load c (cs := .vmem) xM _ (S := Finset.univ) x (rowsOf c x) (read_rows c x _ (k0_off7_eq c) _) (Finset.subset_univ _) _ _)
  isplitl [Hx]; · iexact Hx
  iintro Hx
  unfold swPts
  iapply (WP_load c (cs := .vmem) swM _ (S := Finset.univ) sw sw (Memref.read_access_unit_zero (Elt F) cc0_stg5_0 zero2 _ sw) (Finset.subset_univ _) _ _)
  isplitl [Hsw]; · iexact Hsw
  iintro Hsw
  iapply (wp_chain c (recvStep tM aM bM cc0_scratch3 c) _ (recvI own A κ c tab) _ (wp_recvStep own A κ c tab hown) 32 0 _)
  unfold recvI
  isplitl [HT HR HO]
  · isplitr; · iexact Hinv
    isplitl [HT]; · iexact HT
    isplitl [HR]
    · iapply (Entails.of_eq (midway_zero 32 (recvTodo own A c) (recvDone own A c)).symm); iexact HR
    rw [owedFrom_end]
    iexact HO
  iintro ⟨-, HT, HR, HO⟩
  ihave HR := (Entails.of_eq ((midway_all 32 (recvTodo own A c) (recvDone own A c)).trans hr)) $$ HR
  icases HR with ⟨HB, Hzr⟩
  iapply (WP_wand c _ _ _)
  isplitl [HB HK Ho HS HO]
  · iapply (wp_tail own A κ c (recvd own A c) (A c) fo (rowsOf c x) sw)
    isplitr
    · isplitr; · iexact Hinv
      iexact Hlev
    isplitl [HB]; · iexact HB
    isplitl [HK]; · iexact HK
    isplitl [Ho]; · iexact Ho
    isplitl [HS]; · iexact HS
    rw [owedFrom_end]
    iexact HO
  iintro %u ⟨HB, HK, Ho, HE, HO⟩
  ihave HE := (Entails.of_eq he) $$ HE
  icases HE with ⟨Hlast, Hzs⟩
  isplitl [HT]; · iexact HT
  isplitl [Hx]; · iexact Hx
  isplitl [Hsw]; · iexact Hsw
  isplitl [HB]; · iexact HB
  isplitl [Hret Hlast HK]
  · iapply (Entails.of_eq ha.symm)
    isplitr [HK]
    · isplitl [Hret]; · iexact Hret
      iexact Hlast
    iexact HK
  isplitl [Ho]; · unfold outAt; iexact Ho
  isplitl [Hzr]; · iexact Hzr
  isplitl [Hzs]; · iexact Hzs
  rw [owedFrom_end]
  iexact HO

/-- The tokens of the sends of token `t`. -/
def sendToks (t : ℕ) : sProp 𝕄 :=
  iprop(dutyTok ER (sendCell c (cnt own c t % 32)) (cnt own c t / 32) c ∗ dutyTok ER (recvCell t) 0 c)

theorem sendRes_join :
    iprop((bigSep (pend own c 0) fun i => cPts c i (A c)) ∗ gotRows own c ∗ bigSep (pend own c 0) (sendToks own c))
      ⊢ bigSep (pend own c 0) (sendRes own A c) := by
  unfold gotRows
  rw [← bigSep_sep', ← bigSep_sep']
  refine bigSep_mono fun t _ => show iprop(cPts c t (A c) ∗ ((∃ f, rPts (home t) (t % 32) f) ∗ reached ER (recvCell t) 0) ∗ sendToks own c t) ⊢ sendRes own A c t from ?_
  unfold sendToks sendRes
  iintro ⟨H1, ⟨H2, H3⟩, H4, H5⟩
  isplitl [H1]; · iexact H1
  isplitl [H2]; · iexact H2
  isplitl [H3]; · iexact H3
  isplitl [H4]; · iexact H4
  iexact H5

set_option maxHeartbeats 4000000 in
/-- From the stores of the contributions on. -/
theorem wp_stores (f0 : S1024x8x128.Idx → Elt F .f32)
    (v411 : Vec F S1024x512 .bf16) (v413 : Vec F S512x128 .bf16) (v425 : Vec F S1024x1 .i32) (v471 : Vec F S4x512x1024 .bf16)
    (P : sProp 𝕄) (Q : PUnit → sProp 𝕄)
    (h : iprop(P ∗ aPts c (contribOf c v411 v413 v425 v471)) ⊢ WP c (sendsP c v411 v413 v425 v471) Q) :
    iprop(P ∗ aPts c f0) ⊢ WP c (storesP c v411 v413 v425 v471) Q := by
  refine BIBase.Entails.trans ?_ (show iprop((P ∗ aPts c f0) ∗ (iprop(P ∗ aPts c (contribOf c v411 v413 v425 v471)) -∗ WP c (sendsP c v411 v413 v425 v471) Q)) ⊢ _ from ?_)
  · iintro H
    isplitl [H]; · iexact H
    iapply h
  unfold storesP
  iintro ⟨⟨HP, HA⟩, HK⟩
  iapply (WP_aCol c 0 _ (contribCol c v411 v413 v425 v471 0) _ rfl _ _ _ _)
  isplitl [HA]; · iexact HA
  iintro HA
  iapply (WP_aCol c 1 _ (contribCol c v411 v413 v425 v471 1) _ rfl _ _ _ _)
  isplitl [HA]; · iexact HA
  iintro HA
  iapply (WP_aCol c 2 _ (contribCol c v411 v413 v425 v471 2) _ rfl _ _ _ _)
  isplitl [HA]; · iexact HA
  iintro HA
  iapply (WP_aCol c 3 _ (contribCol c v411 v413 v425 v471 3) _ rfl _ _ _ _)
  isplitl [HA]; · iexact HA
  iintro HA
  iapply (WP_aCol c 4 _ (contribCol c v411 v413 v425 v471 4) _ rfl _ _ _ _)
  isplitl [HA]; · iexact HA
  iintro HA
  iapply (WP_aCol c 5 _ (contribCol c v411 v413 v425 v471 5) _ rfl _ _ _ _)
  isplitl [HA]; · iexact HA
  iintro HA
  iapply (WP_aCol c 6 _ (contribCol c v411 v413 v425 v471 6) _ rfl _ _ _ _)
  isplitl [HA]; · iexact HA
  iintro HA
  iapply (WP_aCol c 7 _ (contribCol c v411 v413 v425 v471 7) _ rfl _ _ _ _)
  isplitl [HA]; · iexact HA
  iintro HA
  iapply HK
  isplitl [HP]; · iexact HP
  iapply (Entails.of_eq (congrArg (aPts c) (setCols (contribCol c v411 v413 v425 v471) f0)))
  iexact HA

set_option maxHeartbeats 4000000 in
/-- All after the barrier. -/
theorem wp_after (hown : ∀ t (ht : t < 1024), ownW (tab (tabIx t ht)) = BitVec.ofNat 32 (own t).val)
    (x : S1024x512.Idx → Elt F .bf16) (rw' : S512x128.Idx → Elt F .bf16) (tv : S1024x1.Idx → Elt F .i32) (ew : S4x512x1024.Idx → Elt F .bf16)
    (sw : S512x1024.Idx → Elt F .bf16) (fo : S32x1024.Idx → Elt F .f32) (f0 : S1024x8x128.Idx → Elt F .f32)
    (hA : A c = contribOf c x rw' tv ew) :
    iprop((invs own A κ ∗ levAts L lv) ∗ (xPts c x ∗ rwPts c rw' ∗ tvPts c tv ∗ tabPts tab c ∗ ewPts c ew ∗ swPts c sw ∗ oPts c fo) ∗ aPts c f0
        ∗ gotRows own c ∗ bigSep (pend own c 0) (sendToks own c) ∗ slots c 0
        ∗ bigSep (Finset.range 32) (recvTodo own A c) ∗ (∃ W, owes (c : Thread nD τ) (owedFrom own c 0) W))
      ⊢ WP c (afterP c) fun _ =>
        iprop((xPts c x ∗ rwPts c rw' ∗ tvPts c tv ∗ tabPts tab c ∗ ewPts c ew ∗ swPts c sw ∗ oPts c (outAt own A c x sw))
          ∗ aPts c (A c) ∗ bPts c (recvd own A c)
          ∗ bigSep (Finset.range 32) (fun r => semVal (rCell c r) 0) ∗ bigSep (Finset.range 32) (fun s => semVal (sendCell c s) 0)
          ∗ (∃ W, owes (c : Thread nD τ) 0 W)) := by
  have hs : aPts c (contribOf c x rw' tv ew) = iprop((bigSep (pend own c 0) fun i => cPts c i (A c)) ∗ keptPts c own (A c)) := by
    rw [← hA]; exact contrib_split own c (A c)
  unfold afterP
  iintro ⟨⟨#Hinv, #Hlev⟩, ⟨Hx, Hrw, Htv, HT, Hew, Hsw, Ho⟩, HA, Hgot, Htok, HS, HR, HO⟩
  unfold xPts
  iapply (WP_load c (cs := .vmem) xM _ (S := Finset.univ) x x (Memref.read_access_unit_zero (Elt F) cc0_stg0_0 zero2 _ x) (Finset.subset_univ _) _ _)
  isplitl [Hx]; · iexact Hx
  iintro Hx
  unfold rwPts
  iapply (WP_load c (cs := .vmem) rwM _ (S := Finset.univ) rw' rw' (Memref.read_access_unit_zero (Elt F) cc0_stg1_0 zero2 _ rw') (Finset.subset_univ _) _ _)
  isplitl [Hrw]; · iexact Hrw
  iintro Hrw
  unfold tvPts
  iapply (WP_load c (cs := .vmem) tvM _ (S := Finset.univ) tv tv (Memref.read_access_unit_zero (Elt F) cc0_stg2_0 zero2 _ tv) (Finset.subset_univ _) _ _)
  isplitl [Htv]; · iexact Htv
  iintro Htv
  unfold ewPts
  iapply (WP_load c (cs := .vmem) ewM _ (S := Finset.univ) ew ew (Memref.read_access_unit_zero (Elt F) cc0_stg4_0 zero3 _ ew) (Finset.subset_univ _) _ _)
  isplitl [Hew]; · iexact Hew
  iintro Hew
  iapply (wp_stores c f0 x rw' tv ew (iprop((invs own A κ ∗ levAts L lv) ∗ ((((c : Thread nD τ).loc cc0_stg0_0) ↦{fullShare} x) ∗ (((c : Thread nD τ).loc cc0_stg1_0) ↦{fullShare} rw')
      ∗ (((c : Thread nD τ).loc cc0_stg2_0) ↦{fullShare} tv) ∗ tabPts tab c ∗ (((c : Thread nD τ).loc cc0_stg4_0) ↦{fullShare} ew) ∗ swPts c sw ∗ oPts c fo)
        ∗ gotRows own c ∗ bigSep (pend own c 0) (sendToks own c) ∗ slots c 0
        ∗ bigSep (Finset.range 32) (recvTodo own A c) ∗ (∃ W, owes (c : Thread nD τ) (owedFrom own c 0) W))) _ ?_)
  · iintro ⟨⟨⟨#Hinv, #Hlev⟩, ⟨Hx, Hrw, Htv, HT, Hew, Hsw, Ho⟩, Hgot, Htok, HS, HR, HO⟩, HA⟩
    ihave HA := (Entails.of_eq hs) $$ HA
    icases HA with ⟨HC, HK⟩
    iapply (WP_wand c _ _ _)
    isplitl [Hx HT Hsw Ho Hgot Htok HS HR HO HC HK]
    · iapply (wp_sends own A κ c tab hown x sw fo x rw' tv ew)
      isplitr
      · isplitr; · iexact Hinv
        iexact Hlev
      isplitl [HT]; · iexact HT
      isplitl [Hx]; · unfold xPts; iexact Hx
      isplitl [Hsw]; · iexact Hsw
      isplitl [HC Hgot Htok]
      · iapply (sendRes_join own A c)
        isplitl [HC]; · iexact HC
        isplitl [Hgot]; · iexact Hgot
        iexact Htok
      isplitl [HS]; · iexact HS
      isplitl [HR]; · iexact HR
      isplitl [HK]; · iexact HK
      isplitl [Ho]; · iexact Ho
      iexact HO
    iintro %u ⟨HT, Hx, Hsw, HB, HA, Ho, Hzr, Hzs, HO⟩
    isplitl [Hx Hrw Htv HT Hew Hsw Ho]
    · isplitl [Hx]; · unfold xPts; iexact Hx
      isplitl [Hrw]; · iexact Hrw
      isplitl [Htv]; · iexact Htv
      isplitl [HT]; · iexact HT
      isplitl [Hew]; · iexact Hew
      isplitl [Hsw]; · iexact Hsw
      iexact Ho
    isplitl [HA]; · iexact HA
    isplitl [HB]; · iexact HB
    isplitl [Hzr]; · iexact Hzr
    isplitl [Hzs]; · iexact Hzs
    iexact HO
  isplitr [HA]
  · isplitr
    · isplitr; · iexact Hinv
      iexact Hlev
    isplitl [Hx Hrw Htv HT Hew Hsw Ho]
    · isplitl [Hx]; · iexact Hx
      isplitl [Hrw]; · iexact Hrw
      isplitl [Htv]; · iexact Htv
      isplitl [HT]; · iexact HT
      isplitl [Hew]; · iexact Hew
      isplitl [Hsw]; · iexact Hsw
      iexact Ho
    isplitl [Hgot]; · iexact Hgot
    isplitl [Htok]; · iexact Htok
    isplitl [HS]; · iexact HS
    isplitl [HR]; · iexact HR
    iexact HO
  iexact HA

/-! ## Before the barrier -/

/-- Receive row `r` at the start, beside its row of zeros. -/
def rowStart (r : ℕ) : sProp 𝕄 :=
  iprop(atPos ER (rCell c r) 0 ∅ 0 ∗ reached ER (rCell c r) 0
    ∗ (if own (32 * c.val + r) = c then iprop(emp) else cred (tallyAt (rCell c r) () N)))

/-- A row of zeros is kept, or its use is handed to the owner of its token. -/
theorem row_split (r : ℕ) :
    iprop(rPts c r (k0_pay1 (F := F)) ∗ rowStart own c r)
      ⊢ iprop(recvTodo own A c r
        ∗ (if own (32 * c.val + r) ≠ c then iprop((∃ f, rPts c r f) ∗ reached ER (rCell c r) 0) else iprop(emp))) := by
  unfold rowStart recvTodo
  by_cases h : own (32 * c.val + r) = c
  · have e : rPts c r (recvd own A c) = rPts c r (k0_pay1 (F := F)) := by
      unfold rPts
      refine pointsTo_congr (ℓ := (c : Thread nD τ).loc cc0_scratch1) fun x hx => ?_
      show recvd own A c x = k0_pay1 x
      unfold recvd
      exact if_pos (by unfold tokAt; rw [mem_rSet.1 hx]; exact h)
    rw [if_pos h, if_pos h, if_neg (fun h' => h' h), e]
    iintro ⟨Hr, Hat, -, -⟩
    isplitl [Hat Hr]
    · isplitl [Hat]; · iexact Hat
      iexact Hr
    iempintro
  · rw [if_neg h, if_neg h, if_pos h]
    iintro ⟨Hr, Hat, Hrch, Hcr⟩
    isplitl [Hat Hcr]
    · isplitl [Hat]; · iexact Hat
      iexact Hcr
    isplitl [Hr]; · iexists _; iexact Hr
    iexact Hrch

theorem rows_split :
    iprop(bPts c (k0_pay1 (F := F)) ∗ bigSep (Finset.range 32) (rowStart own c))
      ⊢ iprop(bigSep (Finset.range 32) (recvTodo own A c) ∗ bigSep (Finset.Ico 0 31) fun j => barPay own (fwd j c) c) := by
  have e : (bigSep (Finset.range 32) fun r => (if own (32 * c.val + r) ≠ c then iprop((∃ f, rPts (F := F) c r f) ∗ reached ER (rCell c r) 0) else iprop(emp)))
      = bigSep (Finset.Ico 0 31) fun j => barPay own (fwd j c) c := by
    rw [barPays_rows]
    unfold foreign
    rw [bigSep_filter]
    rfl
  rw [← e]
  unfold bPts
  rw [recv_rows c (k0_pay1 (F := F)), ← bigSep_sep', ← bigSep_sep']
  exact bigSep_mono fun r _ => row_split own A c r

/-- What a device starts from, beside its buffers and debts. -/
def startRes : sProp 𝕄 :=
  iprop(atPos ER (barCell c) 0 ∅ 0 ∗ cred (tallyAt (barCell c) () 31) ∗ slots c 0 ∗ bigSep (Finset.range 32) (rowStart own c)
    ∗ (bigSep (Finset.Ico 0 31) fun j => iprop(dutyTok ER (barCell (fwd j c)) 0 c ∗ reached ER (barCell (fwd j c)) 0))
    ∗ bigSep (pend own c 0) (sendToks own c))

theorem sigRes_join :
    iprop((bigSep (Finset.Ico 0 31) fun j => iprop(dutyTok ER (barCell (fwd j c)) 0 c ∗ reached ER (barCell (fwd j c)) 0))
        ∗ bigSep (Finset.Ico 0 31) fun j => barPay (F := F) own (fwd j c) c)
      ⊢ bigSep (Finset.Ico 0 31) (sigRes own c) := by
  rw [← bigSep_sep']
  refine bigSep_mono fun j _ => show iprop((dutyTok ER (barCell (fwd j c)) 0 c ∗ reached ER (barCell (fwd j c)) 0) ∗ barPay own (fwd j c) c) ⊢ sigRes own c j from ?_
  unfold sigRes
  iintro ⟨⟨H1, H2⟩, H3⟩
  isplitl [H1]; · iexact H1
  isplitl [H2]; · iexact H2
  iexact H3

/-- The device's own number, at the head of a program. -/
theorem WP_deviceId {β : Type} (k : Dev nD → KProg F β) (Q : β → sProp 𝕄) :
    WP c (k c) Q ⊢ WP c (Prog.lift .deviceId >>= k) Q :=
  by
  unfold WP
  exact Entails.of_eq (wp_deviceId 𝒱₀ (c : Thread nD τ) none Set.univ).symm

set_option maxHeartbeats 4000000 in
/-- The whole body. -/
theorem wp_body (hown : ∀ t (ht : t < 1024), ownW (tab (tabIx t ht)) = BitVec.ofNat 32 (own t).val)
    (x : S1024x512.Idx → Elt F .bf16) (rw' : S512x128.Idx → Elt F .bf16) (tv : S1024x1.Idx → Elt F .i32) (ew : S4x512x1024.Idx → Elt F .bf16)
    (sw : S512x1024.Idx → Elt F .bf16) (fo : S32x1024.Idx → Elt F .f32) (f0 : S1024x8x128.Idx → Elt F .f32) (g0 : S32x8x128.Idx → Elt F .f32)
    (hA : A c = contribOf c x rw' tv ew) :
    iprop((invs own A κ ∗ levAts L lv) ∗ (xPts c x ∗ rwPts c rw' ∗ tvPts c tv ∗ tabPts tab c ∗ ewPts c ew ∗ swPts c sw ∗ oPts c fo)
        ∗ aPts c f0 ∗ bPts c g0 ∗ startRes own c ∗ (∃ W, owes (c : Thread nD τ) (owedBar own c 0) W))
      ⊢ WP c (cc0_body (F := F) xM (Memref.isWhole_whole _) rwM (Memref.isWhole_whole _) tvM (Memref.isWhole_whole _) tM (Memref.isWhole_whole _) ewM (Memref.isWhole_whole _) swM (Memref.isWhole_whole _) oM (Memref.isWhole_whole _) aM (Memref.isWhole_whole _) bM (Memref.isWhole_whole _) cc0_scratch2 cc0_scratch3) fun _ =>
        iprop((xPts c x ∗ rwPts c rw' ∗ tvPts c tv ∗ tabPts tab c ∗ ewPts c ew ∗ swPts c sw ∗ oPts c (outAt own A c x sw))
          ∗ aPts c (A c) ∗ bPts c (recvd own A c) ∗ zeros c ∗ (∃ W, owes (c : Thread nD τ) 0 W)) := by
  rw [body_eq_steps]
  unfold steps startRes
  iintro ⟨⟨#Hinv, #Hlev⟩, Hst, HA, HB, ⟨Hbat, Hbcr, HS, HR, Hbt, Htok⟩, HO⟩
  iapply (WP_deviceId c _ _)
  unfold bPts
  iapply (WP_load c (cs := .vmem) bM _ (S := Finset.univ) g0 _ rfl (Finset.subset_univ _) _ _)
  isplitl [HB]; · iexact HB
  iintro HB
  iapply (WP_store c (cs := .vmem) bM _ _ g0 _ (Memref.write_access_unit_zero_univ (Elt F) cc0_scratch1 zero3 _ g0 _) _ _)
  isplitl [HB]; · iexact HB
  iintro HB
  ihave H := (rows_split own A c) $$ [HB HR]
  · isplitl [HB]; · unfold bPts; iexact HB
    iexact HR
  icases H with ⟨HR, Hpay⟩
  ihave Hsig := (sigRes_join own c) $$ [Hbt Hpay]
  · isplitl [Hbt]; · iexact Hbt
    iexact Hpay
  iapply (wp_chain c (sigStep c) _ (sigI own A κ c) _ (wp_sigStep own A κ c) 31 0 _)
  unfold sigI
  isplitl [Hsig HO]
  · isplitr; · iexact Hinv
    isplitl [Hsig]; · iexact Hsig
    iexact HO
  iintro ⟨-, -, HO⟩
  iapply (WP_bind c _ _ _)
  iapply (wp_barWait own A κ c)
  isplitr; · iexact Hinv
  isplitr; · iexact Hlev
  isplitl [Hbat]; · iexact Hbat
  isplitl [Hbcr]; · iexact Hbcr
  isplitl [HO]; · rw [← owedBar_end]; iexact HO
  iintro ⟨Hz, Hgot, HO⟩
  rw [afterBarrier_eq]
  iapply (WP_wand c _ _ _)
  isplitr [Hz]
  · iapply (wp_after own A κ c tab hown x rw' tv ew sw fo f0 hA)
    isplitr
    · isplitr; · iexact Hinv
      iexact Hlev
    isplitl [Hst]; · iexact Hst
    isplitl [HA]; · iexact HA
    isplitl [Hgot]; · iexact Hgot
    isplitl [Htok]; · iexact Htok
    isplitl [HS]; · iexact HS
    isplitl [HR]; · iexact HR
    iexact HO
  iintro %u ⟨Hst, HA, HB, Hzr, Hzs, HO⟩
  isplitl [Hst]; · iexact Hst
  isplitl [HA]; · iexact HA
  isplitl [HB]; · unfold bPts; iexact HB
  isplitl [Hz Hzr Hzs]
  · unfold zeros
    isplitl [Hz]; · iexact Hz
    isplitl [Hzr]; · iexact Hzr
    iexact Hzs
  iexact HO

end Body

end Cert.KernelIdeal.Gen
-- ==== Proof.Deal.lean ====
module

public import proofs.«01_k».proof.Proof.Body
public import Idealize.ShloMosaic.Lib.Pipeline.Launch

/-!
# Dealing the cells, the tokens and the credits

Each device begins with its own cells' positions, the tokens of the duties it pays, and credit for what its own
cells are owed.
-/

@[expose] public section

noncomputable section

namespace Cert.KernelIdeal.Gen

open Idealize.ShloMosaic TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The kernel's own semaphores -/

/-- The send semaphores, then the receive semaphores. -/
def osem (k : Fin 64) : SemLoc sig := .dma (show DmaSem sig from (⟨7 + k.val, by omega⟩ : Fin 71))

/-- All of them: the 32 send semaphores and the 32 receive semaphores. -/
theorem osem_split (Φ : SemLoc sig → sProp 𝕄) :
    (bigSep Finset.univ fun k : Fin 64 => Φ (osem k))
      = iprop((bigSep (Finset.range 32) fun k => Φ (.dma (sendS k))) ∗ bigSep (Finset.range 32) fun r => Φ (.dma (recvS r))) := by
  have e : (Finset.univ : Finset (Fin 64)) = (Finset.range 32).image (fun k : ℕ => (⟨k % 32, by omega⟩ : Fin 64))
      ∪ (Finset.range 32).image (fun r : ℕ => (⟨32 + r % 32, by omega⟩ : Fin 64)) := by
    ext k
    rw [Finset.mem_union, Finset.mem_image, Finset.mem_image]
    refine ⟨fun _ => ?_, fun _ => Finset.mem_univ _⟩
    have hk : k.val < 64 := k.isLt
    by_cases h : k.val < 32
    · exact .inl ⟨k.val, Finset.mem_range.2 h, Fin.ext (by show k.val % 32 = k.val; omega)⟩
    · exact .inr ⟨k.val - 32, Finset.mem_range.2 (by omega), Fin.ext (by show 32 + (k.val - 32) % 32 = k.val; omega)⟩
  have hd : Disjoint ((Finset.range 32).image (fun k : ℕ => (⟨k % 32, by omega⟩ : Fin 64)))
      ((Finset.range 32).image (fun r : ℕ => (⟨32 + r % 32, by omega⟩ : Fin 64))) := by
    rw [Finset.disjoint_left]
    intro k h1 h2
    obtain ⟨a, -, ha⟩ := Finset.mem_image.1 h1
    obtain ⟨b, -, hb⟩ := Finset.mem_image.1 h2
    have := congrArg Fin.val (ha.trans hb.symm)
    have h' : a % 32 = 32 + b % 32 := this
    omega
  rw [e, bigSep_union hd, BI.bigSep_image_of_injOn (fun a ha b hb h => ?_), BI.bigSep_image_of_injOn (fun a ha b hb h => ?_)]
  · refine congrArg₂ (fun X Y => iprop(X ∗ Y)) (bigSep_congr fun k _ => rfl) (bigSep_congr fun r _ => ?_)
    have h1 : (⟨7 + (32 + r % 32), by omega⟩ : Fin 71) = ⟨39 + r % 32, by omega⟩ := Fin.ext (by show 7 + (32 + r % 32) = 39 + r % 32; omega)
    exact congrArg (fun s : Fin 71 => Φ (.dma (show DmaSem sig from s))) h1
  · have ha' := Finset.mem_range.1 (Finset.mem_coe.1 ha)
    have hb' := Finset.mem_range.1 (Finset.mem_coe.1 hb)
    have h' : 32 + a % 32 = 32 + b % 32 := congrArg Fin.val h
    omega
  · have ha' := Finset.mem_range.1 (Finset.mem_coe.1 ha)
    have hb' := Finset.mem_range.1 (Finset.mem_coe.1 hb)
    have h' : a % 32 = b % 32 := congrArg Fin.val h
    omega

theorem bar_deal (Φ : GSem nD τ sig → sProp 𝕄) : bigSep barCells Φ = bigSep Finset.univ fun c => Φ (barCell c) := by
  unfold barCells
  exact BI.bigSep_image_of_injOn (fun a _ b _ h => congrArg (fun g : GSem nD τ sig => g.1.1) h) Φ

theorem dma_deal (Φ : GSem nD τ sig → sProp 𝕄) :
    bigSep dmaCells Φ = bigSep Finset.univ fun c : Dev nD => bigSep Finset.univ fun k : Fin 64 => Φ ((c : Thread nD τ), osem k) := by
  unfold dmaCells
  rw [BI.bigSep_image_of_injOn (fun a _ b _ h => ?_), bigSep_univ_prod]
  · rfl
  · obtain ⟨a1, a2⟩ := a
    obtain ⟨b1, b2⟩ := b
    have h1 : a1 = b1 := congrArg (fun g : GSem nD τ sig => g.1.1) h
    have h2 : 7 + a2.val = 7 + b2.val :=
      congrArg (fun g : GSem nD τ sig => match g.2 with | .dma s => (show Fin 71 from s).val | .reg _ => 0) h
    exact Prod.ext h1 (Fin.ext (Nat.add_left_cancel h2))

theorem cells_disjoint : Disjoint barCells dmaCells := by
  rw [Finset.disjoint_left]
  intro g h1 h2
  obtain ⟨c, -, hc⟩ := Finset.mem_image.1 h1
  obtain ⟨p, -, hp⟩ := Finset.mem_image.1 h2
  have h := congrArg (fun g : GSem nD τ sig => match g.2 with | .dma _ => true | .reg _ => false) (hc.trans hp.symm)
  exact Bool.false_ne_true h

/-- Tokens with one receive cell are one. -/
theorem recv_inj {i j : ℕ} (hi : i < 1024) (hj : j < 1024) (h : recvCell i = recvCell j) : i = j := by
  have h1 : i / 32 % 32 = j / 32 % 32 := congrArg (fun g : GSem nD τ sig => g.1.1.val) h
  have h2 : 39 + i % 32 = 39 + j % 32 :=
    congrArg (fun g : GSem nD τ sig => match g.2 with | .dma s => (show Fin 71 from s).val | .reg _ => 0) h
  omega

section Deal
variable (own : ℕ → Dev nD) (A : Dev nD → S1024x8x128.Idx → Elt F .f32)

/-! ## The tokens -/

/-- The duties device `c` pays: a barrier unit to every other device, and both ends of each send. -/
def tokKey (c : Dev nD) : Finset (GSem nD τ sig × ℕ × Dev nD) :=
  (Finset.Ico 0 31).image (fun j => (barCell (fwd j c), 0, c))
    ∪ ((pend own c 0).image (fun t => (sendCell c (cnt own c t % 32), cnt own c t / 32, c))
      ∪ (pend own c 0).image (fun t => (recvCell t, 0, c)))
def toks : Finset (GSem nD τ sig × ℕ × Dev nD) := Finset.univ.biUnion (tokKey own)

theorem tokKey_dev {c : Dev nD} {x} (h : x ∈ tokKey own c) : x.2.2 = c := by
  unfold tokKey at h
  rw [Finset.mem_union, Finset.mem_union, Finset.mem_image, Finset.mem_image, Finset.mem_image] at h
  rcases h with ⟨_, -, rfl⟩ | ⟨_, -, rfl⟩ | ⟨_, -, rfl⟩ <;> rfl

theorem tokKey_deal (c : Dev nD) :
    bigSep (tokKey own c) (fun x => (dutyTok ER x.1 x.2.1 x.2.2 : sProp 𝕄))
      = iprop((bigSep (Finset.Ico 0 31) fun j => dutyTok ER (barCell (fwd j c)) 0 c) ∗ bigSep (pend own c 0) (sendToks own c)) := by
  have d1 : Disjoint ((Finset.Ico 0 31).image (fun j => (barCell (fwd j c), 0, c)))
      ((pend own c 0).image (fun t => (sendCell c (cnt own c t % 32), cnt own c t / 32, c))
        ∪ (pend own c 0).image (fun t => (recvCell t, 0, c))) := by
    rw [Finset.disjoint_left]
    intro x h1 h2
    obtain ⟨j, -, hj⟩ := Finset.mem_image.1 h1
    rw [Finset.mem_union, Finset.mem_image, Finset.mem_image] at h2
    rcases h2 with ⟨t, -, ht⟩ | ⟨t, -, ht⟩
    · have h := congrArg (fun x : GSem nD τ sig × ℕ × Dev nD => match x.1.2 with | .dma _ => true | .reg _ => false) (hj.trans ht.symm)
      exact Bool.false_ne_true h
    · have h := congrArg (fun x : GSem nD τ sig × ℕ × Dev nD => match x.1.2 with | .dma _ => true | .reg _ => false) (hj.trans ht.symm)
      exact Bool.false_ne_true h
  have d2 : Disjoint ((pend own c 0).image (fun t => (sendCell c (cnt own c t % 32), cnt own c t / 32, c)))
      ((pend own c 0).image (fun t => (recvCell t, 0, c))) := by
    rw [Finset.disjoint_left]
    intro x h1 h2
    obtain ⟨j, -, hj⟩ := Finset.mem_image.1 h1
    obtain ⟨t, -, ht⟩ := Finset.mem_image.1 h2
    have h : 7 + cnt own c j % 32 % 32 = 39 + t % 32 :=
      congrArg (fun x : GSem nD τ sig × ℕ × Dev nD => match x.1.2 with | .dma s => (show Fin 71 from s).val | .reg _ => 0) (hj.trans ht.symm)
    omega
  unfold tokKey
  rw [bigSep_union d1, bigSep_union d2, BI.bigSep_image_of_injOn (fun a ha b hb h => ?_), BI.bigSep_image_of_injOn (fun a ha b hb h => ?_),
    BI.bigSep_image_of_injOn (fun a ha b hb h => ?_)]
  · refine congrArg₂ (fun X Y => iprop(X ∗ Y)) rfl ?_
    unfold sendToks
    rw [bigSep_sep']
    rfl
  · have ha' := (mem_pend own c).1 (Finset.mem_coe.1 ha)
    have hb' := (mem_pend own c).1 (Finset.mem_coe.1 hb)
    exact recv_inj ha'.1.2 hb'.1.2 (congrArg Prod.fst h)
  · have ha' := (mem_pend own c).1 (Finset.mem_coe.1 ha)
    have hb' := (mem_pend own c).1 (Finset.mem_coe.1 hb)
    have h1 : 7 + cnt own c a % 32 % 32 = 7 + cnt own c b % 32 % 32 :=
      congrArg (fun x : GSem nD τ sig × ℕ × Dev nD => match x.1.2 with | .dma s => (show Fin 71 from s).val | .reg _ => 0) h
    have h2 : cnt own c a / 32 = cnt own c b / 32 := congrArg (fun x : GSem nD τ sig × ℕ × Dev nD => x.2.1) h
    exact cnt_inj own c ha'.2 hb'.2 (by omega)
  · have ha' := Finset.mem_Ico.1 (Finset.mem_coe.1 ha)
    have hb' := Finset.mem_Ico.1 (Finset.mem_coe.1 hb)
    exact fwd_inj c ha'.2 hb'.2 (congrArg (fun x : GSem nD τ sig × ℕ × Dev nD => x.1.1.1) h)

theorem toks_deal :
    bigSep (toks own) (fun x => (dutyTok ER x.1 x.2.1 x.2.2 : sProp 𝕄))
      = bigSep Finset.univ fun c => iprop((bigSep (Finset.Ico 0 31) fun j => dutyTok ER (barCell (fwd j c)) 0 c) ∗ bigSep (pend own c 0) (sendToks own c)) := by
  unfold toks
  rw [bigSep_biUnion_eq _ _ _ (fun c _ c' _ hne => Finset.disjoint_left.2 fun x h h' => hne ((tokKey_dev own h).symm.trans (tokKey_dev own h')))]
  exact bigSep_congr fun c _ => tokKey_deal own c

/-! ## What the launch deals -/

/-- Device `c`'s share: the invariants, its barrier cell's position, its tokens, and the right to begin its cells. -/
def dealt (κ : GSem nD τ sig → ℕ) (c : Dev nD) : sProp 𝕄 :=
  iprop(invs own A κ ∗ atPos ER (barCell c) 0 ∅ 0
    ∗ (bigSep (Finset.Ico 0 31) fun j => iprop(dutyTok ER (barCell (fwd j c)) 0 c ∗ reached ER (barCell (fwd j c)) 0))
    ∗ bigSep (pend own c 0) (sendToks own c)
    ∗ bigSep Finset.univ fun k : Fin 64 => openTok ER ((c : Thread nD τ), osem k))

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every barrier cell's round 0 has begun. -/
def barReached : sProp 𝕄 := bigSep Finset.univ fun c : Dev nD => reached ER (barCell c) 0
instance : BI.Persistent (barReached (F := F)) := by unfold barReached; infer_instance
theorem barReached_get (c : Dev nD) : barReached (F := F) ⊢ reached ER (barCell c) 0 := by
  unfold barReached; exact bigSep_elim (Finset.mem_univ c)

theorem barToks_reached (c : Dev nD) :
    iprop(barReached (F := F) ∗ bigSep (Finset.Ico 0 31) fun j => dutyTok ER (barCell (fwd j c)) 0 c)
      ⊢ bigSep (Finset.Ico 0 31) fun j => iprop(dutyTok ER (barCell (fwd j c)) 0 c ∗ reached ER (barCell (fwd j c)) 0) :=
  bigSep_with_persistent fun j _ => by
    iintro ⟨#Hr, H⟩
    isplitl [H]; · iexact H
    iapply (barReached_get (fwd j c)); iexact Hr

/-- One device's share put together. -/
theorem dealt_intro (κ : GSem nD τ sig → ℕ) (c : Dev nD) :
    iprop((invs own A κ ∗ barReached) ∗ (atPos ER (barCell c) 0 ∅ 0
      ∗ ((bigSep (Finset.Ico 0 31) fun j => dutyTok ER (barCell (fwd j c)) 0 c) ∗ bigSep (pend own c 0) (sendToks own c))
      ∗ bigSep Finset.univ fun k : Fin 64 => openTok ER ((c : Thread nD τ), osem k)))
      ⊢ dealt own A κ c := by
  unfold dealt
  iintro ⟨⟨#HI, #HR⟩, Hat, ⟨Hb, Ht⟩, Ho⟩
  isplitr; · iexact HI
  isplitl [Hat]; · iexact Hat
  isplitl [Hb]
  · iapply (barToks_reached c)
    isplitr; · iexact HR
    iexact Hb
  isplitl [Ht]; · iexact Ht
  iexact Ho

/-- The protocol's part of what the launch begins with. -/
def u₁ : UB := launchOf barCells dmaCells (toks own)

theorem deal :
    iprop((bigSep Finset.univ fun c => semVal (barCell c) 0) ∗ BI.own (ER (F := F) (u₁ own)))
      ⊢ |={Set.univ}=> iprop(∃ κ, bigSep Finset.univ fun c => dealt own A κ c) := by
  have h1 := fund_launch (ER (F := F)) (sched own A) cells_disjoint (fun g _ h => h) (toks own) ∅ (Es := Set.univ)
  rw [← cells_eq] at h1
  simp only [bar_deal, dma_deal, toks_deal] at h1
  refine BIBase.Entails.trans h1 (BI.fupd_mono ?_)
  have hj (κ : GSem nD τ sig → ℕ) :
      iprop((bigSep Finset.univ fun c : Dev nD => (atPos ER (barCell c) 0 ∅ 0 : sProp 𝕄))
        ∗ (bigSep Finset.univ fun c => iprop((bigSep (Finset.Ico 0 31) fun j => dutyTok ER (barCell (fwd j c)) 0 c) ∗ bigSep (pend own c 0) (sendToks own c)))
        ∗ bigSep Finset.univ fun c : Dev nD => bigSep Finset.univ fun k : Fin 64 => openTok ER ((c : Thread nD τ), osem k))
      ⊢ bigSep Finset.univ fun c : Dev nD => iprop((atPos ER (barCell c) 0 ∅ 0
      ∗ ((bigSep (Finset.Ico 0 31) fun j => dutyTok ER (barCell (fwd j c)) 0 c) ∗ bigSep (pend own c 0) (sendToks own c))
      ∗ bigSep Finset.univ fun k : Fin 64 => openTok ER ((c : Thread nD τ), osem k))) := by
    simp only [bigSep_sep']
    exact BI.Entails.refl _
  iintro ⟨%κ, -, HI, HR, Hat, Hop, Htk⟩
  iexists κ
  iapply (bigSep_with_persistent (R := iprop(invs own A κ ∗ barReached)) fun c _ => dealt_intro own A κ c)
  isplitl [HI HR]
  · isplitl [HI]; · unfold invs; iexact HI
    unfold barReached; iexact HR
  iapply (hj κ)
  isplitl [Hat]; · iexact Hat
  isplitl [Htk]; · iexact Htk
  iexact Hop

/-! ## Beginning the cells -/

theorem mem_osem (c : Dev nD) (k : Fin 64) : ((c : Thread nD τ), osem k) ∈ cells := by
  rw [cells_eq]
  exact Finset.mem_union_right _ (Finset.mem_image.2 ⟨(c, k), Finset.mem_univ _, rfl⟩)

theorem open_one (κ : GSem nD τ sig → ℕ) (c : Dev nD) (k : Fin 64) :
    iprop(invs own A κ ∗ openTok ER ((c : Thread nD τ), osem k) ∗ semVal ((c : Thread nD τ), osem k) 0)
      ⊢ |={Set.univ}=> iprop(atPos ER ((c : Thread nD τ), osem k) 0 ∅ 0 ∗ reached ER ((c : Thread nD τ), osem k) 0) := by
  refine BIBase.Entails.trans (sep_mono_left (invs_get own A κ (mem_osem c k))) ?_
  exact cell_open ER (sched own A) (Set.mem_univ _)

theorem open_all (κ : GSem nD τ sig → ℕ) (c : Dev nD) :
    iprop(invs own A κ ∗ (bigSep Finset.univ fun k : Fin 64 => openTok ER ((c : Thread nD τ), osem k))
        ∗ bigSep Finset.univ fun k : Fin 64 => semVal ((c : Thread nD τ), osem k) 0)
      ⊢ |={Set.univ}=> iprop((bigSep (Finset.range 32) fun k => iprop(atPos ER (sendCell c k) 0 ∅ 0 ∗ reached ER (sendCell c k) 0))
          ∗ bigSep (Finset.range 32) fun r => iprop(atPos ER (rCell c r) 0 ∅ 0 ∗ reached ER (rCell c r) 0)) := by
  rw [← bigSep_sep']
  have hs := osem_split (F := F) (fun s => iprop(atPos ER ((c : Thread nD τ), s) 0 ∅ 0 ∗ reached ER ((c : Thread nD τ), s) 0))
  refine BIBase.Entails.trans (bigSep_with_persistent (Ψ := fun k : Fin 64 =>
    iprop(|={Set.univ}=> iprop(atPos ER ((c : Thread nD τ), osem k) 0 ∅ 0 ∗ reached ER ((c : Thread nD τ), osem k) 0))) fun k _ => open_one own A κ c k) ?_
  refine BIBase.Entails.trans (BI.bigSep_fupd _ _) (BI.fupd_mono ?_)
  exact BIBase.Entails.of_eq hs

theorem slots_zero (c : Dev nD) :
    (bigSep (Finset.range 32) fun k => iprop(atPos ER (sendCell c k) 0 ∅ 0 ∗ reached ER (sendCell c k) 0)) = slots (F := F) c 0 := by
  unfold slots
  refine bigSep_congr fun k _ => ?_
  unfold slotSt
  exact (if_pos (Nat.zero_le k)).symm

/-! ## Credits -/

theorem owed_bar (d c : Dev nD) : owedBar own d 0 (barCell c) () = if d = c then 0 else 1 := by
  unfold owedBar
  rw [Pi.add_apply, Finsupp.add_apply]
  have h0 : owedFrom own d 0 (barCell c) () = 0 := by
    by_contra hn
    obtain ⟨t, -, h⟩ := owedFrom_pos own d (Nat.pos_of_ne_zero hn)
    have h := congrArg (fun g : GSem nD τ sig => match g.2 with | .dma _ => true | .reg _ => false) h
    exact Bool.false_ne_true h
  rw [h0, Nat.zero_add, Finset.sum_apply, Finsupp.finset_sum_apply]
  have hb (j : ℕ) (h : barCell c = barCell (fwd j d)) : fwd j d = c := (congrArg (fun g : GSem nD τ sig => g.1.1) h).symm
  by_cases h : d = c
  · rw [if_pos h]
    refine Finset.sum_eq_zero fun j hj => ?_
    rw [tallyAt_apply]
    exact if_neg fun h' => fwd_ne d j (Finset.mem_Ico.1 hj).2 ((hb j h'.1).trans h.symm)
  · rw [if_neg h]
    obtain ⟨j, hj, e⟩ := fwd_surj d c (fun h' => h h'.symm)
    rw [Finset.sum_eq_single_of_mem j hj]
    · rw [tallyAt_apply, e]; exact if_pos ⟨rfl, rfl⟩
    · intro k hk hne
      rw [tallyAt_apply]
      exact if_neg fun h' => hne (fwd_inj d (Finset.mem_Ico.1 hk).2 (Finset.mem_Ico.1 hj).2 ((hb k h'.1).trans e.symm))

theorem owed_recv (d c : Dev nD) (r : ℕ) (hr : r < 32) (hne : own (32 * c.val + r) ≠ c) :
    owedBar own d 0 (rCell c r) () = if d = own (32 * c.val + r) then N else 0 := by
  have hc : c.val < 32 := c.isLt
  unfold owedBar
  rw [Pi.add_apply, Finsupp.add_apply, ← recvCell_eq c hr]
  have h0 : (∑ j ∈ Finset.Ico 0 31, tallyAt (barCell (fwd j d)) () 1 : CellTallies nD τ sig Unit) (recvCell (32 * c.val + r)) () = 0 := by
    rw [Finset.sum_apply, Finsupp.finset_sum_apply]
    refine Finset.sum_eq_zero fun j _ => ?_
    rw [tallyAt_apply]
    refine if_neg fun h' => ?_
    have h := congrArg (fun g : GSem nD τ sig => match g.2 with | .dma _ => true | .reg _ => false) h'.1
    exact Bool.false_ne_true h.symm
  rw [h0, Nat.add_zero]
  unfold owedFrom
  rw [Finset.sum_apply, Finsupp.finset_sum_apply]
  by_cases h : d = own (32 * c.val + r)
  · rw [if_pos h]
    have hm : 32 * c.val + r ∈ pend own d 0 :=
      (mem_pend own d).2 ⟨⟨by omega, by omega⟩, h.symm, fun e => hne (by rw [← h]; exact Fin.ext (by omega))⟩
    rw [Finset.sum_eq_single_of_mem _ hm]
    · rw [tallyAt_apply]; exact if_pos ⟨rfl, rfl⟩
    · intro t ht hn
      rw [tallyAt_apply]
      exact if_neg fun h' => hn (recv_inj ((mem_pend own d).1 ht).1.2 (by omega) h'.1.symm)
  · rw [if_neg h]
    refine Finset.sum_eq_zero fun t ht => ?_
    rw [tallyAt_apply]
    refine if_neg fun h' => h ?_
    rw [recv_inj (by omega) ((mem_pend own d).1 ht).1.2 h'.1]
    exact ((mem_pend own d).1 ht).2.1.symm

theorem launch_bar (c : Dev nD) :
    tallyOn (barCell c) (launchCredit (Pipeline.owing fun d => owedBar own d 0) 0 (barCell c)) = (tallyAt (barCell c) () 31 : CellTallies nD τ sig Unit) := by
  unfold tallyAt
  refine congrArg _ (Finsupp.ext fun u => ?_)
  cases u
  rw [Pipeline.launchCredit_owing, Finsupp.single_eq_same, Finset.sum_congr rfl fun d _ => owed_bar own d c]
  have e : (∑ d : Dev nD, if d = c then 0 else 1) = ∑ d : Dev nD, if d ≠ c then 1 else 0 :=
    Finset.sum_congr rfl fun d _ => by by_cases h : d = c <;> simp [h]
  rw [e, Finset.sum_boole, Finset.filter_ne', Finset.card_erase_of_mem (Finset.mem_univ _), Finset.card_univ]
  rfl

theorem launch_recv (c : Dev nD) (r : ℕ) (hr : r < 32) (hne : own (32 * c.val + r) ≠ c) :
    tallyOn (rCell c r) (launchCredit (Pipeline.owing fun d => owedBar own d 0) 0 (rCell c r)) = (tallyAt (rCell c r) () N : CellTallies nD τ sig Unit) := by
  unfold tallyAt
  refine congrArg _ (Finsupp.ext fun u => ?_)
  cases u
  rw [Pipeline.launchCredit_owing, Finsupp.single_eq_same, Finset.sum_congr rfl fun d _ => owed_recv own d c r hr hne, Finset.sum_ite_eq' Finset.univ _ fun _ => N,
    if_pos (Finset.mem_univ _)]

theorem recvS_inj : Set.InjOn (fun r : ℕ => (SemLoc.dma (recvS r) : SemLoc sig)) (Finset.range 32) := fun a ha b hb h => by
  have ha' := Finset.mem_range.1 (Finset.mem_coe.1 ha)
  have hb' := Finset.mem_range.1 (Finset.mem_coe.1 hb)
  have h' : 39 + a % 32 = 39 + b % 32 := congrArg (fun s : SemLoc sig => match s with | .dma s => (show Fin 71 from s).val | .reg _ => 0) h
  omega

theorem drop_all (P : sProp 𝕄) : P ⊢ iprop(emp) := by
  iintro -
  iempintro

/-- What a device's own cells are owed at launch. -/
theorem creds (c : Dev nD) :
    (Pipeline.launchCred (fun d => owedBar own d 0) c : sProp 𝕄)
      ⊢ iprop(cred (tallyAt (barCell c) () 31)
        ∗ bigSep (Finset.range 32) fun r => if own (32 * c.val + r) = c then iprop(emp) else cred (tallyAt (rCell c r) () N)) := by
  unfold Pipeline.launchCred
  rw [bigSep_univ_at _ (SemLoc.reg barS), launch_bar]
  refine sep_mono_right ?_
  have hsub : (Finset.range 32).image (fun r : ℕ => (SemLoc.dma (recvS r) : SemLoc sig)) ⊆ Finset.univ.erase (SemLoc.reg barS) := by
    intro s hs
    obtain ⟨r, -, rfl⟩ := Finset.mem_image.1 hs
    refine Finset.mem_erase.2 ⟨fun h => ?_, Finset.mem_univ _⟩
    have h := congrArg (fun s : SemLoc sig => match s with | .dma _ => true | .reg _ => false) h
    exact Bool.false_ne_true h.symm
  refine BIBase.Entails.trans (bigSep_subset hsub) ?_
  rw [BI.bigSep_image_of_injOn recvS_inj]
  refine bigSep_mono fun r hr => ?_
  by_cases h : own (32 * c.val + r) = c
  · rw [if_pos h]
    exact drop_all _
  · rw [if_neg h, ← launch_recv own c r (Finset.mem_range.1 hr) h]
    exact BI.Entails.refl _

end Deal

end Cert.KernelIdeal.Gen
-- ==== Proof.Run.lean ====
module

public import proofs.«01_k».proof.Proof.Deal
public import proofs.«01_k».proof.Proof.Gen.KernelIdeal.Launch
public import Idealize.ShloMosaic.Lib.Pipeline.Regions
public import Idealize.ShloMosaic.Lib.Pipeline.RegionsLoop
public import Idealize.ShloMosaic.Lib.Pipeline.ValueKit
public import Idealize.ShloMosaic.Lib.Quiescent

/-!
# The run

From any memory whose tables name, on every device, one owner for each token, the program ends with its arguments
as they were, every counter at zero, and the result the body's.
-/

@[expose] public section

noncomputable section

namespace Cert.KernelIdeal.Gen

open Idealize.ShloMosaic TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg) (own : ℕ → Dev nD)

/-! ## Contents -/

/-- Device `c`'s arguments. -/
abbrev xA (c : Dev nD) : S1024x512.Idx → Elt F .bf16 := m ((c : Thread nD τ).loc main_arg0)
abbrev rwA (c : Dev nD) : S512x128.Idx → Elt F .bf16 := m ((c : Thread nD τ).loc main_arg1)
abbrev tvA (c : Dev nD) : S1024x1.Idx → Elt F .i32 := m ((c : Thread nD τ).loc main_arg2)
abbrev ewA (c : Dev nD) : S4x512x1024.Idx → Elt F .bf16 := m ((c : Thread nD τ).loc main_arg3)
abbrev swA (c : Dev nD) : S512x1024.Idx → Elt F .bf16 := m ((c : Thread nD τ).loc main_arg4)

/-- Every device's contributions. -/
def contribs (c : Dev nD) : S1024x8x128.Idx → Elt F .f32 := contribOf c (xA m c) (rwA m c) (tvA m c) (ewA m c)
/-- Device `c`'s result. -/
def resultAt (c : Dev nD) : S32x1024.Idx → Elt F .f32 := outAt own (contribs m) c (xA m c) (swA m c)

/-! ## The proof data -/

def entryRes (c : Dev nD) : sProp 𝕄 := iprop(∃ κ, (invs own (contribs m) κ ∗ levAts L lv) ∗ startRes own c)
def Φ₀ (c : Dev nD) : sProp 𝕄 := iprop(entryRes m own c ∗ (∃ f, aPts c f) ∗ (∃ f, bPts c f))
def Φ₁ (c : Dev nD) : sProp 𝕄 := iprop(zeros c ∗ (∃ f, aPts c f) ∗ (∃ f, bPts c f))

def dats (_ : Fin 1) (c : Dev nD) : Dat τ (Elt F) Unit ℕ UU ℕ cfg0 c where
  A w := m ((c : Thread nD τ).loc (Pipeline.arrRef spec0 w))
  after w _ := match w with
    | ⟨0, _⟩ => xA m c
    | ⟨1, _⟩ => rwA m c
    | ⟨2, _⟩ => tvA m c
    | ⟨3, _⟩ => tvA m c
    | ⟨4, _⟩ => ewA m c
    | ⟨5, _⟩ => swA m c
    | ⟨6, _⟩ => resultAt m own c
  Φ t := if t.val = 0 then Φ₀ m own c else Φ₁ c
  q w := Pipeline.shareOf spec0 w
  owed t := if t.val = 0 then owedBar own c 0 else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := dats m own

/-! ## The windows' blocks are their arrays -/

/-- A block read off an array. -/
def blkOf (c : Dev nD) (w : Fin cfg0.W) (t : Fin cfg0.N) : ((cfg0.win w).xblock (cfg0.grid.coords t)).Idx → Elt F (cfg0.win w).elt :=
  ((cfg0.win w).blk t).view.read (Elt F) (m ((c : Thread nD τ).loc (Pipeline.arrRef spec0 w)))

theorem index_zero (w : Fin 7) (a) : (cfg0.win w).index t0_0 a = 0 := by
  fin_cases w <;> revert a <;> decide

theorem blk_0 (c : Dev nD) (t) : blkOf m c ((0 : Fin 7)) t = xA m c := by
  obtain rfl := fin_N0 t
  funext x
  unfold blkOf
  show m ((c : Thread nD τ).loc main_arg0) _ = m ((c : Thread nD τ).loc main_arg0) _
  congr 1
  funext a
  apply Fin.ext
  exact Pipeline.Window.rect_emb_val_of_index_zero (cfg0.win (0 : Fin 7)) t0_0 a (index_zero (0 : Fin 7) a) x
theorem blk_1 (c : Dev nD) (t) : blkOf m c ((1 : Fin 7)) t = rwA m c := by
  obtain rfl := fin_N0 t
  funext x
  unfold blkOf
  show m ((c : Thread nD τ).loc main_arg1) _ = m ((c : Thread nD τ).loc main_arg1) _
  congr 1
  funext a
  apply Fin.ext
  exact Pipeline.Window.rect_emb_val_of_index_zero (cfg0.win (1 : Fin 7)) t0_0 a (index_zero (1 : Fin 7) a) x
theorem blk_2 (c : Dev nD) (t) : blkOf m c ((2 : Fin 7)) t = tvA m c := by
  obtain rfl := fin_N0 t
  funext x
  unfold blkOf
  show m ((c : Thread nD τ).loc main_arg2) _ = m ((c : Thread nD τ).loc main_arg2) _
  congr 1
  funext a
  apply Fin.ext
  exact Pipeline.Window.rect_emb_val_of_index_zero (cfg0.win (2 : Fin 7)) t0_0 a (index_zero (2 : Fin 7) a) x
theorem blk_3 (c : Dev nD) (t) : blkOf m c ((3 : Fin 7)) t = tvA m c := by
  obtain rfl := fin_N0 t
  funext x
  unfold blkOf
  show m ((c : Thread nD τ).loc main_arg2) _ = m ((c : Thread nD τ).loc main_arg2) _
  congr 1
  funext a
  apply Fin.ext
  exact Pipeline.Window.rect_emb_val_of_index_zero (cfg0.win (3 : Fin 7)) t0_0 a (index_zero (3 : Fin 7) a) x
theorem blk_4 (c : Dev nD) (t) : blkOf m c ((4 : Fin 7)) t = ewA m c := by
  obtain rfl := fin_N0 t
  funext x
  unfold blkOf
  show m ((c : Thread nD τ).loc main_arg3) _ = m ((c : Thread nD τ).loc main_arg3) _
  congr 1
  funext a
  apply Fin.ext
  exact Pipeline.Window.rect_emb_val_of_index_zero (cfg0.win (4 : Fin 7)) t0_0 a (index_zero (4 : Fin 7) a) x
theorem blk_5 (c : Dev nD) (t) : blkOf m c ((5 : Fin 7)) t = swA m c := by
  obtain rfl := fin_N0 t
  funext x
  unfold blkOf
  show m ((c : Thread nD τ).loc main_arg4) _ = m ((c : Thread nD τ).loc main_arg4) _
  congr 1
  funext a
  apply Fin.ext
  exact Pipeline.Window.rect_emb_val_of_index_zero (cfg0.win (5 : Fin 7)) t0_0 a (index_zero (5 : Fin 7) a) x

theorem before_0 (c : Dev nD) (d) : (dats m own 0 c).before (0 : Fin 7) t0_0 d = xA m c :=
  ((dats m own 0 c).before_in_eq_fetched (0 : Fin 7) rfl (fun _ => rfl) (fun _ _ _ => rfl) (fun t => (blk_0 m c t).symm) t0_0 d).trans (blk_0 m c t0_0)
theorem before_1 (c : Dev nD) (d) : (dats m own 0 c).before (1 : Fin 7) t0_0 d = rwA m c :=
  ((dats m own 0 c).before_in_eq_fetched (1 : Fin 7) rfl (fun _ => rfl) (fun _ _ _ => rfl) (fun t => (blk_1 m c t).symm) t0_0 d).trans (blk_1 m c t0_0)
theorem before_2 (c : Dev nD) (d) : (dats m own 0 c).before (2 : Fin 7) t0_0 d = tvA m c :=
  ((dats m own 0 c).before_in_eq_fetched (2 : Fin 7) rfl (fun _ => rfl) (fun _ _ _ => rfl) (fun t => (blk_2 m c t).symm) t0_0 d).trans (blk_2 m c t0_0)
theorem before_3 (c : Dev nD) (d) : (dats m own 0 c).before (3 : Fin 7) t0_0 d = tvA m c :=
  ((dats m own 0 c).before_in_eq_fetched (3 : Fin 7) rfl (fun _ => rfl) (fun _ _ _ => rfl) (fun t => (blk_3 m c t).symm) t0_0 d).trans (blk_3 m c t0_0)
theorem before_4 (c : Dev nD) (d) : (dats m own 0 c).before (4 : Fin 7) t0_0 d = ewA m c :=
  ((dats m own 0 c).before_in_eq_fetched (4 : Fin 7) rfl (fun _ => rfl) (fun _ _ _ => rfl) (fun t => (blk_4 m c t).symm) t0_0 d).trans (blk_4 m c t0_0)
theorem before_5 (c : Dev nD) (d) : (dats m own 0 c).before (5 : Fin 7) t0_0 d = swA m c :=
  ((dats m own 0 c).before_in_eq_fetched (5 : Fin 7) rfl (fun _ => rfl) (fun _ _ _ => rfl) (fun t => (blk_5 m c t).symm) t0_0 d).trans (blk_5 m c t0_0)

/-! ## The body obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns
  simp only [Memref.view_whole, View.read_whole, View.set_whole]

/-- A staging buffer whole at `X`. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stg_elim (c : Dev nD) (b : Ref sig .tc) {D : Type} (X : D → b.ty.Contents (Elt F)) (Y : b.ty.Contents (Elt F)) (h : ∀ d, X d = Y) :
    iprop(∃ d, stg c b (X d)) ⊢ (((c : Thread nD τ).loc b) ↦{fullShare} Y : sProp 𝕄) := by
  unfold stg
  iintro ⟨%d, %f, %hf, H⟩
  rw [h d] at hf
  subst hf
  iexact H
theorem stg_some (c : Dev nD) (b : Ref sig .tc) {D : Type} (X : D → b.ty.Contents (Elt F)) :
    iprop(∃ d, stg c b (X d)) ⊢ iprop(∃ f, (((c : Thread nD τ).loc b) ↦{fullShare} f : sProp 𝕄)) := by
  unfold stg
  iintro ⟨%d, %f, %hf, H⟩
  iexists f
  iexact H
theorem stg_intro (c : Dev nD) (b : Ref sig .tc) (Y : b.ty.Contents (Elt F)) :
    (((c : Thread nD τ).loc b) ↦{fullShare} Y : sProp 𝕄) ⊢ stg c b Y := by
  unfold stg
  iintro H
  iexists Y
  isplitr; · ipureintro; rfl
  iexact H

theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ := by first | rfl | skip) :
    iprop(∃ W, owes (c : Thread nD τ) O W) ⊢ (dat.owesAt () t : sProp 𝕄) := by
  unfold Dat.owesAt Pipeline.owesWithin Dat.bound
  rw [h0, hr]
  iintro ⟨%W, HO⟩
  iexists W
  isplitr; · ipureintro; exact fun _ _ => Or.inl trivial
  iexact HO
theorem owesAt_elim {cfg : Pipeline.Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ iprop(∃ W, owes (c : Thread nD τ) O W) := by
  unfold Dat.owesAt Pipeline.owesWithin
  rw [h0]
  iintro ⟨%W, -, HO⟩
  iexists W
  iexact HO

def bodyPre (c : Dev nD) : sProp 𝕄 :=
  iprop(Φ₀ m own c ∗ (dats m own 0 c).owesAt () t0_0.castSucc
    ∗ (∃ d, stg c cc0_stg0_0 ((dats m own 0 c).before (0 : Fin 7) t0_0 d))
    ∗ (∃ d, stg c cc0_stg1_0 ((dats m own 0 c).before (1 : Fin 7) t0_0 d))
    ∗ (∃ d, stg c cc0_stg2_0 ((dats m own 0 c).before (2 : Fin 7) t0_0 d))
    ∗ (∃ d, stg c cc0_stg3_0 ((dats m own 0 c).before (3 : Fin 7) t0_0 d))
    ∗ (∃ d, stg c cc0_stg4_0 ((dats m own 0 c).before (4 : Fin 7) t0_0 d))
    ∗ (∃ d, stg c cc0_stg5_0 ((dats m own 0 c).before (5 : Fin 7) t0_0 d))
    ∗ (∃ d, stg c cc0_stg6_0 ((dats m own 0 c).before (6 : Fin 7) t0_0 d)))

def bodyPost (c : Dev nD) : sProp 𝕄 :=
  iprop(Φ₁ c ∗ (dats m own 0 c).owesAt () t0_0.succ
    ∗ stg c cc0_stg0_0 (xA m c) ∗ stg c cc0_stg1_0 (rwA m c) ∗ stg c cc0_stg2_0 (tvA m c) ∗ stg c cc0_stg3_0 (tvA m c)
    ∗ stg c cc0_stg4_0 (ewA m c) ∗ stg c cc0_stg5_0 (swA m c) ∗ stg c cc0_stg6_0 (resultAt m own c))

/-- The tables name the owners. -/
def Owners : Prop := ∀ (c : Dev nD) (t : ℕ) (ht : t < 1024), ownW (tvA m c (tabIx t ht)) = BitVec.ofNat 32 (own t).val

set_option maxHeartbeats 4000000 in
theorem sound_body (hown : Owners m own) (c : Dev nD) :
    bodyPre m own c ⊢ WP c (cc0_body (F := F) xM (Memref.isWhole_whole _) rwM (Memref.isWhole_whole _) tvM (Memref.isWhole_whole _) tM (Memref.isWhole_whole _) ewM (Memref.isWhole_whole _) swM (Memref.isWhole_whole _) oM (Memref.isWhole_whole _) aM (Memref.isWhole_whole _) bM (Memref.isWhole_whole _) cc0_scratch2 cc0_scratch3) fun _ => bodyPost m own c := by
  unfold bodyPre Φ₀ entryRes
  iintro ⟨⟨⟨%κ, Hinv, Hst⟩, ⟨%f0, HA⟩, ⟨%g0, HB⟩⟩, HO, H0, H1, H2, H3, H4, H5, H6⟩
  ihave HO := (owesAt_elim (dats m own 0 c) t0_0.castSucc (owedBar own c 0) rfl) $$ HO
  ihave H0 := (stg_elim c cc0_stg0_0 _ (xA m c) (before_0 m own c)) $$ H0
  ihave H1 := (stg_elim c cc0_stg1_0 _ (rwA m c) (before_1 m own c)) $$ H1
  ihave H2 := (stg_elim c cc0_stg2_0 _ (tvA m c) (before_2 m own c)) $$ H2
  ihave H3 := (stg_elim c cc0_stg3_0 _ (tvA m c) (before_3 m own c)) $$ H3
  ihave H4 := (stg_elim c cc0_stg4_0 _ (ewA m c) (before_4 m own c)) $$ H4
  ihave H5 := (stg_elim c cc0_stg5_0 _ (swA m c) (before_5 m own c)) $$ H5
  ihave H6 := (stg_some c cc0_stg6_0 _) $$ H6
  icases H6 with ⟨%fo, H6⟩
  iapply (WP_wand c _ _ _)
  isplitl
  · iapply (wp_body own (contribs m) κ c (tvA m c) (hown c) (xA m c) (rwA m c) (tvA m c) (ewA m c) (swA m c) fo f0 g0 rfl)
    isplitl [Hinv]; · iexact Hinv
    isplitl [H0 H1 H2 H3 H4 H5 H6]
    · isplitl [H0]; · unfold xPts; iexact H0
      isplitl [H1]; · unfold rwPts; iexact H1
      isplitl [H2]; · unfold tvPts; iexact H2
      isplitl [H3]; · unfold tabPts; iexact H3
      isplitl [H4]; · unfold ewPts; iexact H4
      isplitl [H5]; · unfold swPts; iexact H5
      unfold oPts; iexact H6
    isplitl [HA]; · iexact HA
    isplitl [HB]; · iexact HB
    isplitl [Hst]; · iexact Hst
    iexact HO
  iintro %u ⟨⟨H0, H1, H2, H3, H4, H5, H6⟩, HA, HB, Hz, HO⟩
  unfold bodyPost Φ₁
  isplitl [Hz HA HB]
  · isplitl [Hz]; · iexact Hz
    isplitl [HA]; · iexists _; iexact HA
    iexists _; iexact HB
  isplitl [HO]; · iapply (owesAt_intro (dats m own 0 c) t0_0.succ 0 rfl); iexact HO
  isplitl [H0]; · iapply (stg_intro c cc0_stg0_0 (xA m c)); unfold xPts; iexact H0
  isplitl [H1]; · iapply (stg_intro c cc0_stg1_0 (rwA m c)); unfold rwPts; iexact H1
  isplitl [H2]; · iapply (stg_intro c cc0_stg2_0 (tvA m c)); unfold tvPts; iexact H2
  isplitl [H3]; · iapply (stg_intro c cc0_stg3_0 (tvA m c)); unfold tabPts; iexact H3
  isplitl [H4]; · iapply (stg_intro c cc0_stg4_0 (ewA m c)); unfold ewPts; iexact H4
  isplitl [H5]; · iapply (stg_intro c cc0_stg5_0 (swA m c)); unfold swPts; iexact H5
  iapply (stg_intro c cc0_stg6_0 (resultAt m own c)); unfold oPts resultAt; iexact H6

set_option maxRecDepth 4000 in
theorem body_obligation (hown : Owners m own) (c : Dev nD) : BodyObligation (dats m own 0 c) (defs₀ (F := F)) 𝒱₀ () Set.univ := fun t => by
  rw [fin_N0 t]
  rw [bigSep_W0, bigSep_W0]
  simp only [owns_whole_eq]
  have h := sound_body m own hown c
  unfold WP at h
  exact h

/-! ## The region -/

theorem shareOf_out (c : Dev nD) : ∀ w : Fin 7, (cfg0.win w).isOut = false → (pdats m own 0 c).q w = Pipeline.shareOf spec0 w := fun _ _ => rfl

/-- The buffers at the end: the result's at its value, the rest as they were. -/
def Vend (c : Dev nD) : (b : Ref sig .tc) → Buf (Elt F) ((c : Thread nD τ).loc b) :=
  Function.update (fun b => m ((c : Thread nD τ).loc b)) main_v1 (resultAt m own c)

theorem Vend_ne (c : Dev nD) (b : Ref sig .tc) (h : b ≠ main_v1) : Vend m own c b = m ((c : Thread nD τ).loc b) := by
  unfold Vend
  exact Function.update_of_ne h _ _
theorem Vend_self (c : Dev nD) : Vend m own c main_v1 = resultAt m own c := by
  unfold Vend
  exact Function.update_self _ _ _

theorem arr_out (c : Dev nD) : (pdats m own 0 c).arrAt (6 : Fin 7) cfg0.N = resultAt m own c := by
  refine (dats m own 0 c).arrAt_eq_of_after_last (6 : Fin 7) t0_0 (by decide +kernel) _ fun j => ?_
  rfl

theorem arr_end (c : Dev nD) (w : Fin 7) : (pdats m own 0 c).arrAt w cfg0.N = Vend m own c (Pipeline.arrRef spec0 w) := by
  match w with
  | ⟨0, _⟩ => exact ((dats m own 0 c).arrAt_in (0 : Fin 7) rfl _).trans (Vend_ne m own c main_arg0 (by decide)).symm
  | ⟨1, _⟩ => exact ((dats m own 0 c).arrAt_in (1 : Fin 7) rfl _).trans (Vend_ne m own c main_arg1 (by decide)).symm
  | ⟨2, _⟩ => exact ((dats m own 0 c).arrAt_in (2 : Fin 7) rfl _).trans (Vend_ne m own c main_arg2 (by decide)).symm
  | ⟨3, _⟩ => exact ((dats m own 0 c).arrAt_in (3 : Fin 7) rfl _).trans (Vend_ne m own c main_arg2 (by decide)).symm
  | ⟨4, _⟩ => exact ((dats m own 0 c).arrAt_in (4 : Fin 7) rfl _).trans (Vend_ne m own c main_arg3 (by decide)).symm
  | ⟨5, _⟩ => exact ((dats m own 0 c).arrAt_in (5 : Fin 7) rfl _).trans (Vend_ne m own c main_arg4 (by decide)).symm
  | ⟨6, _⟩ => exact (arr_out m own c).trans (Vend_self m own c).symm

theorem prefHeld_emp (c : Dev nD) (q) (pf) :
    (Pipeline.prefHeld (Ix := Unit) (Name := ℕ) (U := UU) (Lvl := ℕ) (Val := Elt F) (pcfgs (F := F) 0).pre c q pf : sProp 𝕄) = BI.emp :=
  bigSep_univ_eq_bigSepL (I := Fin 0) [] (by decide) (by decide) _

theorem stage_low : ∀ (w : Fin 7) (s : Fin (win0 w).nbuf), ((if 39 ≤ (show Fin 71 from (win0 w).sem s).val then 2 else 0) : ℕ) ≤ 0 := by decide
theorem own_sems : Pipeline.OwnSemFacts spec0 osem := by decide

theorem waits (c : Dev nD) : (levAts L lv : sProp 𝕄) ⊢ Pipeline.cellsWaits (Pipeline.pin (pcfgs (F := F)) adm) (pdats m own) () 0 c :=
  Pipeline.cellsWaits_intro _ (pdats m own) () 0 c fun w s t => by
    have hsm : lv ((c : Thread nD τ), .dma (((cfg0.win w).sem s))) () ≤ 0 := stage_low w s
    rcases t with ⟨_ | n, ht⟩
    · exact mayWait_zero own c _ hsm
    · show _ ⊢ MayWait (c : Thread nD τ) _ () 0
      rw [MayWait_zero]
      exact drop_all _

theorem zeros_own (c : Dev nD) :
    iprop((bigSep (Finset.range 32) fun r => semVal (rCell c r) 0) ∗ bigSep (Finset.range 32) fun s => semVal (sendCell c s) 0)
      ⊢ (Pipeline.ownSems0 (Ix := Unit) (Name := ℕ) (U := UU) (Lvl := ℕ) (Val := Elt F) (τ := τ) osem c : sProp 𝕄) := by
  have e : (Pipeline.ownSems0 (Ix := Unit) (Name := ℕ) (U := UU) (Lvl := ℕ) (Val := Elt F) (τ := τ) osem c : sProp 𝕄)
      = iprop((bigSep (Finset.range 32) fun s => semVal (sendCell c s) 0) ∗ bigSep (Finset.range 32) fun r => semVal (rCell c r) 0) :=
    osem_split (F := F) fun s => semVal ((c : Thread nD τ), s) 0
  rw [e]
  iintro ⟨H1, H2⟩
  isplitl [H2]; · iexact H2
  iexact H1

/-- What a device holds when its region is entered. -/
def enter (c : Dev nD) : sProp 𝕄 :=
  iprop(unscopedBufs c (fun b => m ((c : Thread nD τ).loc b)) ∗ (∃ W, owes (c : Thread nD τ) (owedBar own c 0) W)
    ∗ (∃ κ, dealt own (contribs m) κ c) ∗ cred (tallyAt (barCell c) () 31)
    ∗ bigSep (Finset.range 32) fun r => if own (32 * c.val + r) = c then iprop(emp) else cred (tallyAt (rCell c r) () N))
/-- And when it is left. -/
def left (c : Dev nD) : sProp 𝕄 := iprop(unscopedBufs c (Vend m own c) ∗ semVal (barCell c) 0)

theorem rowStart_join (c : Dev nD) :
    iprop((bigSep (Finset.range 32) fun r => iprop(atPos ER (rCell c r) 0 ∅ 0 ∗ reached ER (rCell c r) 0))
        ∗ bigSep (Finset.range 32) fun r => if own (32 * c.val + r) = c then iprop(emp) else cred (tallyAt (rCell c r) () N))
      ⊢ bigSep (Finset.range 32) (rowStart (F := F) own c) := by
  rw [← bigSep_sep']
  refine bigSep_mono fun r _ => show iprop((atPos ER (rCell c r) 0 ∅ 0 ∗ reached ER (rCell c r) 0)
    ∗ (if own (32 * c.val + r) = c then iprop(emp) else cred (tallyAt (rCell c r) () N))) ⊢ rowStart own c r from ?_
  unfold rowStart
  iintro ⟨⟨H1, H2⟩, H3⟩
  isplitl [H1]; · iexact H1
  isplitl [H2]; · iexact H2
  iexact H3

/-- The device's cells begun, and its tokens and credits gathered. -/
theorem enter_start (κ : GSem nD τ sig → ℕ) (c : Dev nD) :
    iprop((dealt own (contribs m) κ c ∗ cred (tallyAt (barCell c) () 31)
        ∗ bigSep (Finset.range 32) fun r => if own (32 * c.val + r) = c then iprop(emp) else cred (tallyAt (rCell c r) () N))
        ∗ (Pipeline.ownSems0 (Ix := Unit) (Name := ℕ) (U := UU) (Lvl := ℕ) (Val := Elt F) (τ := τ) osem c) ∗ levAts L lv)
      ⊢ |={Set.univ}=> entryRes m own c := by
  unfold dealt entryRes startRes Pipeline.ownSems0
  iintro ⟨⟨⟨#Hinv, Hat, Hbt, Htk, Hop⟩, Hc, Hcr⟩, Hs, #Hlev⟩
  imod (open_all own (contribs m) κ c) $$ [Hop Hs] with ⟨Hsl, Hr⟩
  · isplitr; · iexact Hinv
    isplitl [Hop]; · iexact Hop
    iexact Hs
  ihave Hsl := (Entails.of_eq (slots_zero (F := F) c)) $$ Hsl
  ihave Hr := (rowStart_join own c) $$ [Hr Hcr]
  · isplitl [Hr]; · iexact Hr
    iexact Hcr
  imodintro
  iexists κ
  isplitr
  · isplitr; · iexact Hinv
    iexact Hlev
  isplitl [Hat]; · iexact Hat
  isplitl [Hc]; · iexact Hc
  isplitl [Hsl]; · iexact Hsl
  isplitl [Hr]; · iexact Hr
  isplitl [Hbt]; · iexact Hbt
  iexact Htk

theorem last_ne : ¬ ((Fin.last (Pipeline.pin (pcfgs (F := F)) adm 0).N).val = 0) := by
  rw [Fin.val_last]
  show ¬ grid0.N = 0
  rw [N_0]
  decide
theorem Φ_last (c : Dev nD) : (pdats m own 0 c).Φ (Fin.last (Pipeline.pin (pcfgs (F := F)) adm 0).N) = Φ₁ c := by
  show (if (Fin.last (Pipeline.pin (pcfgs (F := F)) adm 0).N).val = 0 then Φ₀ m own c else Φ₁ c) = _
  exact if_neg (last_ne (F := F))
theorem owed_last (c : Dev nD) : (pdats m own 0 c).owed (Fin.last (Pipeline.pin (pcfgs (F := F)) adm 0).N) = 0 := by
  show (if (Fin.last (Pipeline.pin (pcfgs (F := F)) adm 0).N).val = 0 then owedBar own c 0 else 0) = _
  exact if_neg (last_ne (F := F))

theorem leave (c : Dev nD) : (Φ₁ c : sProp 𝕄) ⊢ iprop(semVal (barCell c) 0 ∗ Pipeline.ownSems0 osem c ∗ Pipeline.scopedRest spec0 c) := by
  have hs := scopedRest0_eq (Ix := Unit) (Val := Elt F) (Name := ℕ) (U := UU) (Lvl := ℕ) c
  refine BIBase.Entails.trans ?_ (sep_mono_right (sep_mono_right (BIBase.Entails.of_eq hs.symm)))
  unfold Φ₁ zeros aPts bPts
  iintro ⟨⟨Hz, Hr, Hs⟩, Ha, Hb⟩
  isplitl [Hz]; · iexact Hz
  isplitl [Hr Hs]
  · iapply (zeros_own c)
    isplitl [Hr]; · iexact Hr
    iexact Hs
  isplitl [Ha]; · iexact Ha
  iexact Hb

theorem enter_bufs (c : Dev nD) : unscopedBufs c (fun b => m ((c : Thread nD τ).loc b)) ⊢ (pdats m own 0 c).arrays ((pdats m own 0 c).arrAt · 0) :=
  BIBase.Entails.trans (Pipeline.arrays_of_unscopedBufs_shared (pcfgs (F := F)) adm (pdats := pdats m own) (p := 0) winFacts₀0 sharedIn0 arr_whole0 c (shareOf_out m own c)
    (fun b => m ((c : Thread nD τ).loc b)) (fun w => rfl)) (by iintro ⟨H, -⟩; iexact H)
theorem exit_bufs (c : Dev nD) : (pdats m own 0 c).arrays ((pdats m own 0 c).arrAt · (Pipeline.pin (pcfgs (F := F)) adm 0).N) ⊢ unscopedBufs c (Vend m own c) := by
  have ha := Pipeline.unscopedBufs_of_arrays_shared (pcfgs (F := F)) adm (p := 0) winFacts₀0 sharedIn0 arr_whole0 c (pdats m own) (shareOf_out m own c)
    (fun b => m ((c : Thread nD τ).loc b)) (Vend m own c) (fun w => (pdats m own 0 c).arrAt w cfg0.N) (arr_end m own c)
    (fun b hb => Vend_ne m own c b fun e => hb (by rw [e]; exact Finset.mem_image.mpr ⟨(6 : Fin 7), Finset.mem_univ _, rfl⟩))
  have hu := unscopedRest0_eq (Ix := Unit) (Val := Elt F) (Name := ℕ) (U := UU) (Lvl := ℕ) c (fun b => m ((c : Thread nD τ).loc b))
  refine BIBase.Entails.trans ?_ ha
  iintro H
  isplitl [H]; · iexact H
  iapply (Entails.of_eq hu.symm)
  iempintro

def reg0 (hown : Owners m own) : Pipeline.RegionSeg (pcfgs (F := F)) adm (pdats m own) () defs₀ 𝒱₀ L lv 0 where
  win := winFacts₀0
  block_pos := block_pos0
  stage_whole := stage_whole0
  K := Fin 64
  osem := osem
  ho := own_sems
  hbody c := (body_obligation m own hown c).loose
  hwaits c := waits m own c
  pre c := enter m own c
  post c := iprop(left m own c ∗ ∃ W, owes (c : Thread nD τ) (0 : CellTallies nD τ sig Unit) W)
  X c := entryRes m own c
  Y c := semVal (barCell c) 0
  Z c := iprop(emp)
  hentry c := by
    rw [prefHeld_emp]
    unfold enter
    iintro ⟨⟨Hb, HO, ⟨%κ, Hd⟩, Hc, Hcr⟩, Hs, Hlev⟩
    imod (enter_start m own κ c) $$ [Hd Hc Hcr Hs Hlev] with HX
    · isplitr [Hs Hlev]
      · isplitl [Hd]; · iexact Hd
        isplitl [Hc]; · iexact Hc
        iexact Hcr
      isplitl [Hs]; · iexact Hs
      iexact Hlev
    ihave Hb := (enter_bufs m own c) $$ Hb
    imodintro
    isplitl [Hb]; · iexact Hb
    isplitr; · iempintro
    isplitl [HO]; · iapply (owesAt_intro (pdats m own 0 c) 0 (owedBar own c 0) rfl); iexact HO
    isplitl [HX]; · iexact HX
    iempintro
  hin c := by
    rw [show (pdats m own 0 c).Φ 0 = Φ₀ m own c from rfl]
    have hs := scopedRest0_eq (Ix := Unit) (Val := Elt F) (Name := ℕ) (U := UU) (Lvl := ℕ) c
    refine BIBase.Entails.trans (sep_mono_right (sep_mono_right (BIBase.Entails.of_eq hs))) ?_
    unfold Φ₀ aPts bPts
    iintro ⟨HX, -, Ha, Hb⟩
    isplitl [HX]; · iexact HX
    isplitl [Ha]; · iexact Ha
    iexact Hb
  hout c := by
    rw [Φ_last]
    exact leave c
  hexit c := by
    unfold left
    iintro ⟨Ha, HO, Hz, -⟩
    imodintro
    isplitl [Ha Hz]
    · isplitl [Ha]
      · iapply (exit_bufs m own c); iexact Ha
      iexact Hz
    iapply (owesAt_elim (pdats m own 0 c) (Fin.last _) 0 (owed_last m own c)); iexact HO

def segs (hown : Owners m own) : List (Pipeline.Seg (pcfgs (F := F)) adm (pdats m own) () defs₀ 𝒱₀ L lv) := [.region (reg0 m own hown)]

theorem main_eq (hown : Owners m own) (c : Dev nD) : main (F := F) c = Pipeline.Seg.run (segs m own hown) :=
  main_segs adm (pdats m own) () 𝒱₀ L lv (reg0 m own hown) c

/-! ## The launch -/

/-- The whole protocol's beginning, held by device 0. -/
def G (c : Dev nD) : sProp 𝕄 := if c = (0 : Fin 32) then BI.own (ER (F := F) (u₁ own)) else iprop(emp)

theorem G_all : (bigSep Finset.univ (G (F := F) own)) = BI.own (ER (F := F) (u₁ own)) := by
  have e : (bigSep Finset.univ (G (F := F) own)) = bigSep (Finset.univ.filter fun c : Dev nD => c = (0 : Fin 32)) fun _ => BI.own (ER (F := F) (u₁ own)) := by
    rw [bigSep_filter]; rfl
  rw [e, Finset.filter_eq', if_pos (Finset.mem_univ _), bigSep_singleton]

def u₀ : UU :=
  (initOf (Pipeline.cells (Pipeline.pin (pcfgs (F := F)) adm) cellOf_inj) (Pipeline.launchToks (Pipeline.pin (pcfgs (F := F)) adm) cellOf_inj), u₁ own)

theorem unscopedSems0_eq (c : Dev nD) : (unscopedSems0 c : sProp 𝕄) = semVal (barCell c) 0 := by
  unfold unscopedSems0
  rw [bigSep_eq_bigSepL_of_eq [SemLoc.reg barS] (by decide) (by decide)]
  rfl

theorem init :
    iprop((bigSep Finset.univ fun c : Dev nD => iprop(unscopedBufs c (fun b => m ((c : Thread nD τ).loc b)) ∗ unscopedSems0 c
          ∗ owes (c : Thread nD τ) (owedBar own c 0) ∅ ∗ Pipeline.launchCred (fun d => owedBar own d 0) c ∗ prngReg c (ρ c) ∗ G own c)) ∗ levAts L lv)
      ⊢ (|={Set.univ}=> bigSep Finset.univ (enter m own) : sProp 𝕄) := by
  have hj : iprop((bigSep Finset.univ fun c : Dev nD => (unscopedBufs c (fun b => m ((c : Thread nD τ).loc b)) : sProp 𝕄))
      ∗ (bigSep Finset.univ fun c : Dev nD => (owes (c : Thread nD τ) (owedBar own c 0) ∅ : sProp 𝕄))
      ∗ (bigSep Finset.univ fun c : Dev nD => (Pipeline.launchCred (fun d => owedBar own d 0) c : sProp 𝕄))
      ∗ (iprop(∃ κ, bigSep Finset.univ fun c => dealt own (contribs m) κ c))) ⊢ bigSep Finset.univ (enter m own) := by
    iintro ⟨H1, H2, H3, %κ, H4⟩
    iapply (show iprop((bigSep Finset.univ fun c : Dev nD => (unscopedBufs c (fun b => m ((c : Thread nD τ).loc b)) : sProp 𝕄))
      ∗ (bigSep Finset.univ fun c : Dev nD => (owes (c : Thread nD τ) (owedBar own c 0) ∅ : sProp 𝕄))
      ∗ (bigSep Finset.univ fun c : Dev nD => (Pipeline.launchCred (fun d => owedBar own d 0) c : sProp 𝕄))
      ∗ (bigSep Finset.univ fun c => dealt own (contribs m) κ c)) ⊢ bigSep Finset.univ (enter m own) from by
        rw [← bigSep_sep', ← bigSep_sep', ← bigSep_sep']
        refine bigSep_mono fun c _ => show iprop(unscopedBufs c (fun b => m ((c : Thread nD τ).loc b)) ∗ owes (c : Thread nD τ) (owedBar own c 0) ∅
          ∗ Pipeline.launchCred (fun d => owedBar own d 0) c ∗ dealt own (contribs m) κ c) ⊢ enter m own c from ?_
        unfold enter
        iintro ⟨H1, H2, H3, H4⟩
        ihave H3 := (creds own c) $$ H3
        icases H3 with ⟨Hc, Hr⟩
        isplitl [H1]; · iexact H1
        isplitl [H2]; · iexists _; iexact H2
        isplitl [H4]; · iexists κ; iexact H4
        isplitl [Hc]; · iexact Hc
        iexact Hr)
    isplitl [H1]; · iexact H1
    isplitl [H2]; · iexact H2
    isplitl [H3]; · iexact H3
    iexact H4
  have hb : (bigSep Finset.univ fun c : Dev nD => (unscopedSems0 c : sProp 𝕄)) = bigSep Finset.univ fun c => semVal (barCell c) 0 :=
    bigSep_congr fun c _ => unscopedSems0_eq c
  simp only [bigSep_sep']
  iintro ⟨⟨H1, H2, H3, H4, -, H6⟩, -⟩
  ihave H2 := (Entails.of_eq hb) $$ H2
  ihave H6 := (Entails.of_eq (G_all own)) $$ H6
  imod (deal own (contribs m)) $$ [H2 H6] with H
  · isplitl [H2]; · iexact H2
    iexact H6
  imodintro
  iapply (hj)
  isplitl [H1]; · iexact H1
  isplitl [H3]; · iexact H3
  isplitl [H4]; · iexact H4
  iexact H

theorem left_list (c : Dev nD) :
    left m own c ⊢ iprop((((c : Thread nD τ).loc main_arg0) ↦{fullShare} m ((c : Thread nD τ).loc main_arg0)) ∗ (((c : Thread nD τ).loc main_arg1) ↦{fullShare} m ((c : Thread nD τ).loc main_arg1))
      ∗ (((c : Thread nD τ).loc main_arg2) ↦{fullShare} m ((c : Thread nD τ).loc main_arg2)) ∗ (((c : Thread nD τ).loc main_arg3) ↦{fullShare} m ((c : Thread nD τ).loc main_arg3))
      ∗ (((c : Thread nD τ).loc main_arg4) ↦{fullShare} m ((c : Thread nD τ).loc main_arg4)) ∗ (((c : Thread nD τ).loc main_v1) ↦{fullShare} resultAt m own c) ∗ semVal (barCell c) 0) := by
  have hl : (unscopedBufs c (Vend m own c) : sProp 𝕄) = iprop((((c : Thread nD τ).loc main_arg0) ↦{fullShare} Vend m own c main_arg0) ∗ (((c : Thread nD τ).loc main_arg1) ↦{fullShare} Vend m own c main_arg1)
      ∗ (((c : Thread nD τ).loc main_arg2) ↦{fullShare} Vend m own c main_arg2) ∗ (((c : Thread nD τ).loc main_arg3) ↦{fullShare} Vend m own c main_arg3)
      ∗ (((c : Thread nD τ).loc main_arg4) ↦{fullShare} Vend m own c main_arg4) ∗ (((c : Thread nD τ).loc main_v1) ↦{fullShare} Vend m own c main_v1)) := by
    unfold unscopedBufs
    rw [bigSep_eq_bigSepL_of_eq [main_arg0, main_arg1, main_arg2, main_arg3, main_arg4, main_v1] (by decide) (by decide)]
    rfl
  rw [Vend_ne m own c main_arg0 (by decide), Vend_ne m own c main_arg1 (by decide), Vend_ne m own c main_arg2 (by decide), Vend_ne m own c main_arg3 (by decide),
    Vend_ne m own c main_arg4 (by decide), Vend_self] at hl
  unfold left
  rw [hl]
  iintro ⟨⟨H0, H1, H2, H3, H4, H5⟩, Hz⟩
  isplitl [H0]; · iexact H0
  isplitl [H1]; · iexact H1
  isplitl [H2]; · iexact H2
  isplitl [H3]; · iexact H3
  isplitl [H4]; · iexact H4
  isplitl [H5]; · iexact H5
  iexact Hz

/-- What is read off device `c`'s final memory. -/
def Ends (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4) ∧ s.mem ((c : Thread nD τ).loc main_v1) = resultAt m own c

theorem fin_read (c : Dev nD) (s' : Phys nD τ sig (Elt F)) :
    iprop(left m own c ∗ SI s') ⊢ |={Set.univ}=> (iprop(⌜Ends m own c s'.mem ∧ s'.mem.sem (barCell c) = 0⌝ ∗ SI s') : sProp 𝕄) := by
  refine BIBase.Entails.trans (sep_mono_left (left_list m own c)) ?_
  iintro ⟨⟨H0, H1, H2, H3, H4, H5, Hz⟩, HSI⟩
  icombine HSI H0 gives %h0
  icombine HSI H1 gives %h1
  icombine HSI H2 gives %h2
  icombine HSI H3 gives %h3
  icombine HSI H4 gives %h4
  icombine HSI H5 gives %h5
  icombine HSI Hz gives %hz
  imodintro
  isplitr
  · ipureintro
    exact ⟨⟨Buf.eq_of_forall_mem_univ h0, Buf.eq_of_forall_mem_univ h1, Buf.eq_of_forall_mem_univ h2, Buf.eq_of_forall_mem_univ h3,
      Buf.eq_of_forall_mem_univ h4, Buf.eq_of_forall_mem_univ h5⟩, hz⟩
  iexact HSI

theorem unscoped_bar (sm : SemLoc sig) (h : sm.isScoped .tc = false) : sm = .reg barS := by
  revert sm; decide

-- the launch theorem's implicit arguments are found by unfolding plain definitions in a type
set_option backward.isDefEq.respectTransparency.types false in
/-- The run. -/
theorem run_main (hown : Owners m own) : θ_run defs (onTc (τ := τ) (main (F := F))) ⟨m, fun _ => 0, ρ⟩
    (fun r => (∀ c : Dev nD, Ends m own c r.2) ∧ r.2.sem = fun _ => 0) :=
  Pipeline.θ_run_regions_kit_sems (pcfgs (F := F)) adm (pdats m own) () cellOf_inj EP defs₀ 𝒱₀ L lv m ρ main (segs m own hown)
    (fun c Q => by rw [main_eq m own hown c])
    (by simp only [segs, Pipeline.Seg.pipes_region, Pipeline.Seg.pipes_nil]; decide)
    (O₀ := fun c => owedBar own c 0) (hL := L_of_ne) (G := G own) (u₀ := u₀ (F := F) own)
    (hu₀ := by
      unfold u₀
      iintro Hu
      ihave H := (ownU_pair _ _) $$ Hu
      icases H with ⟨HP, HX⟩
      imodintro
      isplitl [HP]; · iexact HP
      iapply (Entails.of_eq (G_all (F := F) own).symm)
      iexact HX)
    (T₀ := enter m own) (Tₙ := left m own)
    (hch := ⟨fun c => .rfl, fun c => .rfl⟩)
    (hinit := init m ρ own)
    (QY := fun c s => Ends m own c s ∧ s.sem (barCell c) = 0)
    (hfin := fun c s' => fin_read m own c s')
    (hQ := fun s h hs => ⟨fun c => (h c).1, sem_eq_zero hs fun c sm hsm => by
      rw [unscoped_bar sm hsm]
      exact (h c).2⟩)

end Cert.KernelIdeal.Gen
-- ==== Proof.Owners.lean ====
module

public import proofs.«01_k».proof.Defs
public import proofs.«01_k».proof.Proof.Run
public import proofs.«01_k».proof.Proof.Gen.Kernel
public import proofs.«01_k».proof.Proof.Gen.Pre_in_runs
public import Idealize.ShloMosaic.Lib.ReduceAll
public import Idealize.ShloMosaic.Lib.Routing.Words

/-!
# The owners

Under the precondition token `i`'s expert is one of the four of device `i / 24 % 32`, on every device's table.
-/

@[expose] public section

noncomputable section

namespace Cert.KernelIdeal.Gen

open Idealize.ShloMosaic Idealize.SL.Sem TcCoe

/-- Token `i`'s owner. -/
def owner (i : ℕ) : Dev nD := ⟨i / 24 % 32, Nat.mod_lt _ (by decide)⟩

/-- The first expert of token `t`'s owner, as the precondition computes it. -/
theorem first_word (t : ℕ) (ht : t < 1024) :
    IntOp.muli 4#32 (IntOp.remsi .host (IntOp.divsi .host (BitVec.ofNat 32 t) 24#32) 32#32) = BitVec.ofNat 32 (4 * (t / 24 % 32)) := by
  rw [show (24#32 : BitVec 32) = BitVec.ofNat 32 24 from rfl, show (32#32 : BitVec 32) = BitVec.ofNat 32 32 from rfl,
    Routing.divsi_word _ (by omega) (by decide) (by decide), Routing.remsi_word _ (by omega) (by decide) (by decide)]
  show (BitVec.ofNat 32 4) * _ = _
  rw [← BitVec.ofNat_mul]

/-- A word between two bounds by signed comparisons, from the bits of the two comparisons. -/
theorem word_between (w : BitVec 32) (a : ℕ) (ha : a < 128)
    (h : IntOp.andi (IntOp.cmpi .sge w (BitVec.ofNat 32 a)) (IntOp.cmpi .slt w (IntOp.addi (BitVec.ofNat 32 a) 4#32)) = 1#1) :
    a ≤ w.toNat ∧ w.toNat < a + 4 := by
  have hs : IntOp.addi (BitVec.ofNat 32 a) 4#32 = BitVec.ofNat 32 (a + 4) := by
    show BitVec.ofNat 32 a + BitVec.ofNat 32 4 = _
    rw [← BitVec.ofNat_add]
  rw [hs] at h
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle, BitVec.slt, decide_eq_true_eq, BitVec.toInt, BitVec.toNat_ofNat] at h
  obtain ⟨h1, h2⟩ := h
  have hw := w.isLt
  rw [Nat.mod_eq_of_lt (by omega : a < 2 ^ 32)] at h1
  rw [Nat.mod_eq_of_lt (by omega : a + 4 < 2 ^ 32)] at h2
  split at h1 <;> split at h1 <;> split at h2 <;> omega

/-- The precondition at one token. -/
theorem in_runs_at {F : FTy → Type} [FloatOps F] (x : FVec F S1024x512 .bf16) (rw' : FVec F S512x128 .bf16) (tv : IVec S1024x1 32)
    (ew : FVec F S4x512x1024 .bf16) (sw : FVec F S512x1024 .bf16)
    (h : Cert.Pre_in_runs.fn (F := F) x rw' tv ew sw = fun _ => 1#1) (t : ℕ) (ht : t < 1024) :
    4 * (owner t).val ≤ (tv (tabIx t ht)).toNat ∧ (tv (tabIx t ht)).toNat < 4 * (owner t).val + 4 := by
  have hu : Subsingleton Cert.Pre_in_runs.S_.Idx := ⟨fun i j => funext fun a => a.elim0⟩
  have hb := Host.reduce_andi_all _ _ _ _ _ (congrFun h (fun a => a.elim0)) (tabIx t ht)
  refine word_between _ _ (by show 4 * (t / 24 % 32) < 128; omega) ?_
  have hf := first_word t ht
  show IntOp.andi (IntOp.cmpi .sge _ (BitVec.ofNat 32 (4 * (t / 24 % 32)))) (IntOp.cmpi .slt _ (IntOp.addi (BitVec.ofNat 32 (4 * (t / 24 % 32))) 4#32)) = 1#1
  rw [← hf]
  exact hb

/-- The tables name the owners. -/
theorem owners_of_pre {F : FTy → Type} [FloatOps F] (m : (ℓ : Loc nD τ sig) → Buf (Elt F) ℓ)
    (h : ∀ c : Dev nD, Cert.Pre_in_runs.fn (F := F) (xA m c) (rwA m c) (tvA m c) (ewA m c) (swA m c) = fun _ => 1#1) : Owners m owner :=
  fun c t ht => ownW_eq _ _ (in_runs_at _ _ _ _ _ (h c) t ht).1 (in_runs_at _ _ _ _ _ (h c) t ht).2

end Cert.KernelIdeal.Gen

namespace Cert.Proof

open Idealize.ShloMosaic Idealize.SL.Sem TcCoe

/-- The two programs have one text: their body tables are equal. -/
theorem defs₀_eq : Cert.Kernel.defs₀ (F := Bits) = Cert.KernelIdeal.defs₀ (F := Bits) := by
  refine congrArg Defs.onTc (funext fun l => funext fun a => ?_)
  match l, a with
  | 0, (t, s) => rfl

/-- The same of the tables with the pipeline's regions. -/
theorem defs_eq : Cert.Kernel.defs (F := Bits) = Cert.KernelIdeal.defs (F := Bits) := by
  unfold Cert.Kernel.defs
  rw [defs₀_eq]
  rfl

open Cert.KernelIdeal.Gen in
/-- The idealised kernel's text run over any float values: the arguments unchanged and every counter zero again. -/
theorem frame_run {F : FTy → Type} [FloatOps F] (m : (ℓ : Loc Cert.KernelIdeal.nD Cert.KernelIdeal.τ Cert.KernelIdeal.sig) → Buf (Elt F) ℓ)
    (ρ : Dev Cert.KernelIdeal.nD → PrngReg) (h : Owners m owner) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0) :=
  (θ_run Cert.KernelIdeal.defs _ _).mono
    (fun _ r => ⟨fun c => ⟨(r.1 c).1, (r.1 c).2.1, (r.1 c).2.2.1, (r.1 c).2.2.2.1, (r.1 c).2.2.2.2.1⟩, r.2⟩)
    (run_main m ρ owner h)

open Cert.KernelIdeal.Gen in
/-- The frame of the idealised kernel. -/
theorem frame_kernelIdeal : Cert.quiescent_KernelIdeal := fun m ρ h => frame_run m ρ (owners_of_pre m h)

open Cert.KernelIdeal.Gen in
/-- The frame of the kernel: the same run at the bit patterns. -/
theorem frame_kernel : Cert.quiescent_Kernel := fun m ρ h =>
  (congrArg (fun D => θ_run D (onTc (τ := Cert.Kernel.τ) (Cert.Kernel.main (F := Bits))) ⟨m, fun _ => 0, ρ⟩ _) defs_eq).mpr
    (frame_run (F := Bits) m ρ (owners_of_pre (F := Bits) m h))

end Cert.Proof
-- ==== Proof.RefFrame.lean ====
module

public import proofs.«01_k».proof.Defs
public import proofs.«01_k».proof.Proof.Gen.ReferenceIdeal
public import proofs.«01_k».proof.Proof.Gen.ReferenceIdeal.Run
public import Idealize.ShloMosaic.Lib.Quiescent

/-!
# The reference's frame

The reference is host operations on one device: its run ends with the arguments unchanged, and it declares no semaphore.
-/

@[expose] public section

noncomputable section

namespace Cert.Proof

open Idealize.ShloMosaic Idealize.SL.Sem TcCoe

/-- The reference ends with its arguments unchanged and every counter zero. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof
-- ==== Proof.Finite.lean ====
module

public import proofs.«01_k».proof.Proof.Owners
public import proofs.«01_k».proof.Proof.Gen.Pre_in_runs_finite_KernelIdeal

/-!
# What the stronger precondition says

It is the owners' precondition, and that every element of the tokens and of the router's weights is finite.
-/

@[expose] public section

noncomputable section

namespace Cert.KernelIdeal.Gen

open Idealize.ShloMosaic Idealize.SL.Sem TcCoe

/-- Both bits of a conjunction that is one. -/
theorem andi_split {a b : BitVec 1} (h : IntOp.andi a b = 1#1) : a = 1#1 ∧ b = 1#1 := by
  revert a b; decide

/-- An extended real whose absolute value is below the infinity is a real. -/
theorem real_of_below {a : EReal} (h : FloatOps.cmpf (F := Ideal) (φ := .f32) .olt (max a (-a)) (Ideal.ofBits .f32 0x7F800000#32) = 1#1) :
    ∃ r : ℝ, a = r := by
  have ht : Ideal.ofBits .f32 0x7F800000#32 = ⊤ := by simp [Ideal.ofBits, Ideal.ieee]
  rw [ht] at h
  have hlt : max a (-a) < ⊤ := by
    by_contra hn
    have : FloatOps.cmpf (F := Ideal) (φ := .f32) .olt (max a (-a)) (⊤ : EReal) = 0#1 := by
      show BitVec.ofBool (decide (max a (-a) < ⊤)) = 0#1
      rw [decide_eq_false hn]; rfl
    rw [this] at h
    exact absurd h (by decide)
  induction a with
  | bot => exact absurd hlt (by simp)
  | top => exact absurd hlt (by simp)
  | coe r => exact ⟨r, rfl⟩

section
variable (x : FVec Ideal S1024x512 .bf16) (rw' : FVec Ideal S512x128 .bf16) (tv : IVec S1024x1 32)
    (ew : FVec Ideal S4x512x1024 .bf16) (sw : FVec Ideal S512x1024 .bf16)
    (h : Cert.Pre_in_runs_finite_KernelIdeal.fn (F := Ideal) x rw' tv ew sw = fun _ => 1#1)
include h

/-- The owners' precondition follows. -/
theorem in_runs_of_finite : Cert.Pre_in_runs.fn (F := Ideal) x rw' tv ew sw = fun _ => 1#1 :=
  funext fun j => (andi_split (congrFun h j)).1

/-- The tokens are finite. -/
theorem tokens_real (i : S1024x512.Idx) : ∃ r : ℝ, x i = r := by
  have hu : Subsingleton Cert.Pre_in_runs_finite_KernelIdeal.S_.Idx := ⟨fun i j => funext fun a => a.elim0⟩
  exact real_of_below (Host.reduce_andi_all _ _ _ _ _ (andi_split (andi_split (congrFun h (fun a => a.elim0))).2).1 i)

/-- The router's weights are finite. -/
theorem router_real (i : S512x128.Idx) : ∃ r : ℝ, rw' i = r := by
  have hu : Subsingleton Cert.Pre_in_runs_finite_KernelIdeal.S_.Idx := ⟨fun i j => funext fun a => a.elim0⟩
  exact real_of_below (Host.reduce_andi_all _ _ _ _ _ (andi_split (andi_split (congrFun h (fun a => a.elim0))).2).2 i)

end

end Cert.KernelIdeal.Gen
-- ==== Proof.Softmax.lean ====
module

public import Idealize.ShloMosaic.PureOps
public import Idealize.ShloMosaic.Lib.Pointwise

/-!
# The mathematics of the two programs

Scores, softmax weights and probabilities of a token over the experts, in the extended reals. With finite tokens and
finite router weights every probability is a nonnegative real; a nonnegative real factor moves across any sum of
extended reals, which is the one law the kernel and the reference differ by.
-/

@[expose] public section

noncomputable section

namespace Cert.Value

open Idealize.ShloMosaic

/-- An array of extended reals with two axes. -/
abbrev Mat (a b : ℕ) := (⟨2, ![a, b]⟩ : Shape).Idx → EReal

variable (x : Mat 1024 512) (rw' : Mat 512 128)

/-- Token `i`'s score for expert `e`. -/
def score (i : Fin 1024) (e : Fin 128) : EReal := ∑ d : Fin 512, x (ix2 i d) * rw' (ix2 d e)

/-- Token `i`'s greatest score, from the bottom up. -/
def top (i : Fin 1024) : EReal := Finset.univ.fold max (Ideal.ofBits .f32 0xFF800000#32) fun e => score x rw' i e

/-- Token `i`'s softmax weight for expert `e`. -/
def weight (i : Fin 1024) (e : Fin 128) : EReal := Ideal.exp (score x rw' i e - top x rw' i)

/-- Token `i`'s probability of expert `e`. -/
def prob (i : Fin 1024) (e : Fin 128) : EReal := Ideal.div (weight x rw' i e) (∑ e', weight x rw' i e')

/-- An extended real off both infinities is a real. -/
theorem exists_real {a : EReal} (h1 : a ≠ ⊥) (h2 : a ≠ ⊤) : ∃ r : ℝ, a = r := ⟨a.toReal, (EReal.coe_toReal h2 h1).symm⟩

/-- A finite sum of reals is the real sum. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A nonnegative real factor moves across a finite sum of extended reals. -/
theorem mul_sum_real {ι : Type} (s : Finset ι) {p : ℝ} (hp : 0 ≤ p) (f : ι → EReal) :
    ∑ i ∈ s, (p : EReal) * f i = (p : EReal) * ∑ i ∈ s, f i := by
  classical
  induction s using Finset.induction_on with
  | empty => simp
  | insert a s ha ih =>
    rw [Finset.sum_insert ha, Finset.sum_insert ha, ih]
    exact (EReal.left_distrib_of_nonneg_of_ne_top (by exact_mod_cast hp) (EReal.coe_ne_top p) _ _).symm

/-- Finite tokens and finite router weights make real scores. -/
theorem score_real (hx : ∀ j, ∃ r : ℝ, x j = r) (hr : ∀ j, ∃ r : ℝ, rw' j = r) (i : Fin 1024) (e : Fin 128) :
    ∃ r : ℝ, score x rw' i e = r := by
  choose fx hfx using hx
  choose fr hfr using hr
  refine ⟨∑ d : Fin 512, fx (ix2 i d) * fr (ix2 d e), ?_⟩
  unfold score
  rw [← sum_coe]
  exact Finset.sum_congr rfl fun d _ => by rw [hfx, hfr, EReal.coe_mul]

/-- The greatest of real scores is a real. -/
theorem top_real (hx : ∀ j, ∃ r : ℝ, x j = r) (hr : ∀ j, ∃ r : ℝ, rw' j = r) (i : Fin 1024) : ∃ r : ℝ, top x rw' i = r := by
  refine exists_real (fun h => ?_) (fun h => ?_)
  · obtain ⟨r, hr'⟩ := score_real x rw' hx hr i 0
    have : (⊥ : EReal) < top x rw' i := (Finset.lt_fold_max _).2 (Or.inr ⟨0, Finset.mem_univ _, by rw [hr']; exact EReal.bot_lt_coe r⟩)
    exact this.ne' h
  · have : top x rw' i < ⊤ := (Finset.fold_max_lt _).2 ⟨by simp [Ideal.ofBits, Ideal.ieee], fun e _ => by
      obtain ⟨r, hr'⟩ := score_real x rw' hx hr i e
      rw [hr']; exact EReal.coe_lt_top r⟩
    exact this.ne h

/-- Finite tokens and finite router weights make every probability a nonnegative real. -/
theorem prob_real (hx : ∀ j, ∃ r : ℝ, x j = r) (hr : ∀ j, ∃ r : ℝ, rw' j = r) (i : Fin 1024) (e : Fin 128) :
    ∃ p : ℝ, 0 ≤ p ∧ prob x rw' i e = p := by
  obtain ⟨t, ht⟩ := top_real x rw' hx hr i
  choose s hs using fun e => score_real x rw' hx hr i e
  have hw : ∀ e, weight x rw' i e = ((Real.exp (s e - t) : ℝ) : EReal) := fun e => by
    unfold weight
    rw [hs, ht, ← EReal.coe_sub]
    exact Ideal.exp_coe _
  have hpos : 0 < ∑ e', Real.exp (s e' - t) := Finset.sum_pos (fun e _ => Real.exp_pos _) ⟨0, Finset.mem_univ _⟩
  refine ⟨Real.exp (s e - t) * (1 / ∑ e', Real.exp (s e' - t)), by positivity, ?_⟩
  unfold prob
  rw [Finset.sum_congr rfl fun e' _ => hw e', sum_coe, Ideal.div_coe hpos.ne', hw, ← EReal.coe_mul]

/-- A row of scaled tokens against a column is the scaled product of the row and the column. -/
theorem scaled_row {p : ℝ} (hp : 0 ≤ p) (a b : Fin 512 → EReal) : ∑ d, a d * (p : EReal) * b d = (p : EReal) * ∑ d, a d * b d := by
  rw [← mul_sum_real _ hp]
  exact Finset.sum_congr rfl fun d _ => by rw [mul_comm (a d) (p : EReal), mul_assoc]

end Cert.Value
-- ==== Proof.KernelValue.lean ====
module

public import proofs.«01_k».proof.Proof.Run
public import proofs.«01_k».proof.Proof.Softmax

/-!
# The kernel's values, element by element

What a device's contribution and its result hold at each index, over the extended reals.
-/

@[expose] public section

noncomputable section

set_option maxRecDepth 16384

namespace Cert.KernelIdeal.Gen

open Idealize.ShloMosaic Idealize.SL.Sem TcCoe Cert.Value

/-- The exponentials are the softmax weights. -/
theorem weights_at (x : Vec Ideal S1024x512 .bf16) (rw' : Vec Ideal S512x128 .bf16) (i : Fin 1024) (e : Fin 128) :
    k0_pay3 x rw' (ix2 i e) = weight x rw' i e := by
  pointwise [k0_pay3, k0_pay2]
  rfl

/-- A sum over the experts that keeps the one of a given number. -/
theorem sum_pick (e : Fin 128) (f : Fin 128 → EReal) :
    ∑ k : Fin 128, Scalar.select (IntOp.cmpi CmpIPredicate.eq (BitVec.ofNat 32 k.val) (BitVec.ofNat 32 e.val)) (f k) 0 = f e := by
  rw [Finset.sum_eq_single e]
  · simp [Scalar.select, IntOp.cmpi]
  · intro k _ hk
    have : BitVec.ofNat 32 k.val ≠ BitVec.ofNat 32 e.val := fun h => hk (Fin.ext (by
      have := congrArg BitVec.toNat h
      simp only [BitVec.toNat_ofNat] at this
      have h1 := k.isLt
      have h2 := e.isLt
      omega))
    have hb : (BitVec.ofNat 32 k.val == BitVec.ofNat 32 e.val) = false := by simpa using this
    simp only [Scalar.select, IntOp.cmpi, hb]
    rfl
  · intro h; exact absurd (Finset.mem_univ _) h

/-- The probability the kernel takes for token `i`, whose expert is `e`. -/
theorem prob_at (x : Vec Ideal S1024x512 .bf16) (rw' : Vec Ideal S512x128 .bf16) (tv : Vec Ideal S1024x1 .i32) (i : Fin 1024)
    (e : Fin 128) (he : tv (ix2 i 0) = BitVec.ofNat 32 e.val) :
    k0_pay5 (k0_pay3 x rw') tv (ix2 i 0) = prob x rw' i e := by
  pointwise [k0_pay5, k0_pay4]
  rw [he]
  refine (sum_pick e fun k => Ideal.div (k0_pay3 x rw' (ix2 i k)) (∑ k', k0_pay3 x rw' (ix2 i k'))).trans ?_
  simp only [weights_at]
  rfl

/-- Whether an expert is the `l`-th of device `c`, by the words the kernel compares. -/
theorem hit_word (c : Dev nD) (l : Fin 4) (e : Fin 128) :
    IntOp.cmpi CmpIPredicate.eq (BitVec.ofNat 32 e.val) (Scalar.addi (Scalar.muli (meW c) 4#32) (BitVec.ofNat 32 l.val))
      = if e.val = 4 * c.val + l.val then 1#1 else 0#1 := by
  revert c l e
  decide +kernel

/-- A sum over the joined axis of four parts, part by part. -/
theorem sum_parts (f : Fin 2048 → EReal) : ∑ k : Fin 2048, f k = ∑ l : Fin 4, ∑ d : Fin 512, f ⟨512 * l.val + d.val, by omega⟩ := by
  rw [← Fintype.sum_prod_type']
  refine (Fintype.sum_equiv (finProdFinEquiv (m := 4) (n := 512)) _ _ fun y => ?_).symm
  exact congrArg f (Fin.ext (by simp [finProdFinEquiv]; omega))

/-- Token `i`'s row of the joined product on device `c`: the token scaled by its probability against its expert's
weights if the expert is one of the device's four, else zero. -/
theorem acc_at (c : Dev nD) (x : Vec Ideal S1024x512 .bf16) (rw' : Vec Ideal S512x128 .bf16) (tv : Vec Ideal S1024x1 .i32)
    (ew : Vec Ideal S4x512x1024 .bf16) (i : Fin 1024) (h : Fin 1024)
    (e : Fin 128) (he : tv (ix2 i 0) = BitVec.ofNat 32 e.val) :
    accV c x rw' tv ew (ix2 i h) = if e.val / 4 = c.val then
      ∑ d : Fin 512, x (ix2 i d) * prob x rw' i e * ew (ix3 ⟨e.val % 4, Nat.mod_lt _ (by decide)⟩ d h) else 0 := by
  have hp := prob_at x rw' tv i e he
  have h0 := hit_word c 0 e
  have h1 := hit_word c 1 e
  have h2 := hit_word c 2 e
  have h3 := hit_word c 3 e
  simp only [Fin.val_zero, Fin.val_one, Fin.val_two, show (3 : Fin 4).val = 3 from rfl] at h0 h1 h2 h3
  unfold accV
  pointwise [k0_pay10, k0_pay6, k0_pay7, k0_pay8, k0_pay9, k0_pay4, k0_pay2]
  simp only [he, h0, h1, h2, h3, hp]
  refine (sum_parts _).trans ((Finset.sum_congr rfl fun l _ => (?_ : _ = if e.val = 4 * c.val + l.val then
    ∑ d : Fin 512, x (ix2 i d) * prob x rw' i e * ew (ix3 l d h) else 0)).trans ?_)
  · have hex : ∀ d : Fin 512, ∀ h1 h2, (ix3 (⟨(512 * l.val + d.val) / 512, h1⟩ : Fin 4) (⟨(512 * l.val + d.val) % 512, h2⟩ : Fin 512) h : S4x512x1024.Idx) = ix3 l d h :=
      fun d h1 h2 => by
        have e1 : (⟨(512 * l.val + d.val) / 512, h1⟩ : Fin 4) = l := Fin.ext (by show (512 * l.val + d.val) / 512 = l.val; omega)
        have e2 : (⟨(512 * l.val + d.val) % 512, h2⟩ : Fin 512) = d := Fin.ext (by show (512 * l.val + d.val) % 512 = d.val; omega)
        rw [e1, e2]
    have hone : ∀ a b : EReal, Scalar.select 1#1 a b = a := fun _ _ => rfl
    have hzero : ∀ a b : EReal, Scalar.select 0#1 a b = b := fun _ _ => rfl
    have hix : ∀ (d : Fin 512) (n : ℕ) (hn : n < 512), n = d.val → (ix2 i (⟨n, hn⟩ : Fin 512) : S1024x512.Idx) = ix2 i d :=
      fun d n hn h => by subst h; rfl
    by_cases hl : e.val = 4 * c.val + l.val
    · rw [if_pos hl]
      refine Finset.sum_congr rfl fun d _ => ?_
      rw [hex]
      refine congrArg (· * _) ?_
      have hlv := l.isLt
      dsimp only
      split_ifs <;> first | (exfalso; omega) | (rw [hone, hix d _ _ (by omega)])
    · rw [if_neg hl]
      refine Finset.sum_eq_zero fun d _ => ?_
      refine (congrArg (· * _) (?_ : _ = (0 : EReal))).trans (zero_mul _)
      have hlv := l.isLt
      dsimp only
      split_ifs <;> first | (exfalso; omega) | exact hzero _ _
  · by_cases hc : e.val / 4 = c.val
    · rw [if_pos hc, Finset.sum_eq_single (⟨e.val % 4, Nat.mod_lt _ (by decide)⟩ : Fin 4), if_pos (by show e.val = 4 * c.val + e.val % 4; omega)]
      · intro l _ hl
        exact if_neg fun h => hl (Fin.ext (by show l.val = e.val % 4; omega))
      · intro h; exact absurd (Finset.mem_univ _) h
    · rw [if_neg hc]
      exact Finset.sum_eq_zero fun l _ => if_neg fun h => hc (by omega)

/-- A contribution's element: row `i`, column `128 j + l` of the joined product. -/
theorem contrib_at (c : Dev nD) (x : Vec Ideal S1024x512 .bf16) (rw' : Vec Ideal S512x128 .bf16) (tv : Vec Ideal S1024x1 .i32)
    (ew : Vec Ideal S4x512x1024 .bf16) (i : Fin 1024) (j : Fin 8) (l : Fin 128) :
    contribOf c x rw' tv ew (cAt i.val i.isLt j l) = accV c x rw' tv ew (ix2 i ⟨128 * j.val + l.val, by omega⟩) := by
  show contribCol c x rw' tv ew j (aIx (cAt i.val i.isLt j l)) = _
  have hcell : aIx (cAt i.val i.isLt j l) = ix3 i (0 : Fin 1) l := funext fun a => match a with
    | 0 => rfl
    | 1 => rfl
    | 2 => rfl
  rw [hcell]
  generalize hw : accV c x rw' tv ew = w
  unfold accV at hw
  match j with
  | 0 => unfold contribCol k0_pay11; rw [hw]; pointwise
  | 1 => unfold contribCol k0_pay12; rw [hw]; pointwise
  | 2 => unfold contribCol k0_pay13; rw [hw]; pointwise
  | 3 => unfold contribCol k0_pay14; rw [hw]; pointwise
  | 4 => unfold contribCol k0_pay15; rw [hw]; pointwise
  | 5 => unfold contribCol k0_pay17 accV5 k0_pay16; rw [hw]; pointwise
  | 6 => unfold contribCol k0_pay18 accV; rw [hw]; pointwise
  | 7 => unfold contribCol k0_pay19 accV; rw [hw]; pointwise

/-- The result's element at row `n`, column `128 j + l`: the shared product, the own column's and the received
column's. -/
theorem out_at (a : Vec Ideal S32x512 .bf16) (b : Vec Ideal S512x1024 .bf16) (r o : Fin 8 → Vec Ideal S32x1x128 .f32)
    (n : Fin 32) (j : Fin 8) (l : Fin 128) :
    outOf a b r o (ix2 n ⟨128 * j.val + l.val, by omega⟩)
      = (∑ d : Fin 512, a (ix2 n d) * b (ix2 d ⟨128 * j.val + l.val, by omega⟩)) + o j (ix3 n 0 l) + r j (ix3 n 0 l) := by
  pointwise [outOf, k0_pay28, k0_pay20, k0_pay21, k0_pay22, k0_pay23, k0_pay24, k0_pay25, k0_pay26, k0_pay27]
  have hix : ∀ (f : Vec Ideal S32x1x128 .f32) (k : ℕ) (hk : k < 128), k = l.val → f (ix3 n 0 (⟨k, hk⟩ : Fin 128)) = f (ix3 n 0 l) :=
    fun f k hk h => by subst h; rfl
  have hl := l.isLt
  refine congrArg₂ (· + ·) (congrArg (_ + ·) ?_) ?_
  all_goals
    match j with
    | 0 | 1 | 2 | 3 | 4 | 5 | 6 | 7 =>
      iterate 8 try refine (dif_neg (by omega)).trans ?_
      first
        | exact (dif_pos (by omega)).trans (hix _ _ _ (by omega))
        | exact hix _ _ _ (by omega)

end Cert.KernelIdeal.Gen
-- ==== Proof.RefValue.lean ====
module

public import proofs.«01_k».proof.Proof.Gen.ReferenceIdeal.Run
public import proofs.«01_k».proof.Proof.Softmax

/-!
# The reference's value, element by element

The two gathers at an index, the softmax, and the whole term: a token's row of the reference is the shared product plus
the probability of the token's expert times the token's product with the expert's weights.
-/

@[expose] public section

noncomputable section

set_option maxRecDepth 16384

namespace Cert.ReferenceIdeal.Gen

open Cert.ReferenceIdeal Idealize.ShloMosaic Idealize.SL.Sem TcCoe Cert.Value

/-- An expert's number read back, signed, from its word. -/
theorem word_toInt (e : Fin 128) : (BitVec.ofNat 32 e.val).toInt.toNat = e.val := by
  revert e; decide +kernel

/-- An expert's number is not negative as a signed word. -/
theorem word_nonneg (e : Fin 128) : IntOp.cmpi CmpIPredicate.slt (BitVec.ofNat 32 e.val) 0#32 = 0#1 := by
  revert e; decide +kernel

/-- The gathered weights: token `i`'s are those of its expert `e`. -/
theorem expert_row (w : S128x512x1024.Idx → EReal) (ix : IVec S1024x1 32) (i : Fin 1024) (d : Fin 512) (h : Fin 1024) (e : Fin 128)
    (he : ix (ix2 i 0) = BitVec.ofNat 32 e.val) :
    Host.gather gather_S128x512x1024_S1024x1_S1024x512x1024_12_0_n_n_0_1_15121024 w ix (ix3 i d h) = w (ix3 e d h) := by
  unfold Host.gather
  refine congrArg w (funext fun a => Fin.ext ?_)
  match a with
  | ⟨0, _⟩ =>
    have hs : gather_S128x512x1024_S1024x1_S1024x512x1024_12_0_n_n_0_1_15121024.siIdx (ix3 i d h) ⟨0, by decide⟩ = ix2 i 0 := by
      funext b
      match b with
      | ⟨0, _⟩ => rfl
      | ⟨1, _⟩ => rfl
    show min (ix (gather_S128x512x1024_S1024x1_S1024x512x1024_12_0_n_n_0_1_15121024.siIdx (ix3 i d h) ⟨0, by decide⟩)).toInt.toNat (128 - 1) + 0 + 0 = e.val
    rw [hs, he, word_toInt]
    omega
  | ⟨1, _⟩ => exact Nat.zero_add _
  | ⟨2, _⟩ => exact Nat.zero_add _

/-- The gathered probability: token `i`'s is that of its expert `e`. -/
theorem prob_pick (p : S1024x128.Idx → EReal) (ix : IVec S1024x1x1 32) (i : Fin 1024) (e : Fin 128)
    (he : ix (ix3 i 0 0) = BitVec.ofNat 32 e.val) :
    Host.gather gather_S1024x128_S1024x1x1_S1024x1_n_1_0_0_1_2_11 p ix (ix2 i 0) = p (ix2 i e) := by
  unfold Host.gather
  refine congrArg p (funext fun a => Fin.ext ?_)
  match a with
  | ⟨0, _⟩ => exact Nat.zero_add _
  | ⟨1, _⟩ =>
    have hs : gather_S1024x128_S1024x1x1_S1024x1_n_1_0_0_1_2_11.siIdx (ix2 i 0) ⟨0, by decide⟩ = ix3 i 0 0 := by
      funext b
      match b with
      | ⟨0, _⟩ => rfl
      | ⟨1, _⟩ => rfl
      | ⟨2, _⟩ => rfl
    show min (ix (gather_S1024x128_S1024x1x1_S1024x1_n_1_0_0_1_2_11.siIdx (ix2 i 0) ⟨0, by decide⟩)).toInt.toNat (128 - 1) + 0 + 0 = e.val
    rw [hs, he, word_toInt]
    omega

/-- The reference's scores of all tokens. -/
def scoresT (x : FVec Ideal S1024x512 .bf16) (rw' : FVec Ideal S512x128 .bf16) : FVec Ideal S1024x128 .f32 :=
  Host.dotGeneral dot_S1024x512_S512x128_S1024x128_1_0_0_1_n_n none (extf .f32 x bitsLt_bf16_f32) (extf .f32 rw' bitsLt_bf16_f32)

/-- Its softmax weights, of the scores. -/
def weightsT (s : FVec Ideal S1024x128 .f32) : FVec Ideal S1024x128 .f32 :=
  Host.exp (subf s (broadcastInDim S1024x128 ![0, 1] bcast_S1024x1_S1024x128_0_1 (broadcastInDim S1024x1 ![0] bcast_S1024_S1024x1_0
    (Host.reduce FloatOps.maximumf s (constant S_ .f32 0xFF800000#32) reducesTo_S1024x128_S1024_d1 h_S_))))

/-- Its probabilities, of the weights. -/
def probsT (w : FVec Ideal S1024x128 .f32) : FVec Ideal S1024x128 .f32 :=
  Host.divf w (broadcastInDim S1024x128 ![0, 1] bcast_S1024x1_S1024x128_0_1 (broadcastInDim S1024x1 ![0] bcast_S1024_S1024x1_0
    (Host.reduceAdd w (constant S_ .f32 0x00000000#32) reducesTo_S1024x128_S1024_d1 h_S_)))

/-- The experts' numbers as the probabilities are looked up by them. -/
def numbersT (tv : IVec S1024x1 32) : IVec S1024x1x1 32 :=
  shapeCast _ (select (cmpi .slt tv (broadcastInDim S1024x1 ![] bcast_S_S1024x1 (constantI S_ 32 0#32)))
    (addi tv (broadcastInDim S1024x1 ![] bcast_S_S1024x1 (constantI S_ 32 128#32))) tv) shapeCasts_S1024x1_S1024x1x1

/-- The probabilities at an index. -/
theorem probs_at (x : FVec Ideal S1024x512 .bf16) (rw' : FVec Ideal S512x128 .bf16) (i : Fin 1024) (e : Fin 128) :
    probsT (weightsT (scoresT x rw')) (ix2 i e) = prob x rw' i e := by
  have hs : ∀ k, scoresT x rw' (ix2 i k) = score x rw' i k := fun k => by
    pointwise [scoresT]
    rfl
  have hw : ∀ k, weightsT (scoresT x rw') (ix2 i k) = weight x rw' i k := fun k => by
    generalize scoresT x rw' = s at hs ⊢
    pointwise [weightsT]
    simp only [hs]
    rfl
  generalize weightsT (scoresT x rw') = w at hw ⊢
  pointwise [probsT]
  simp only [hw]
  rfl

/-- The numbers at an index. -/
theorem numbers_at (tv : IVec S1024x1 32) (i : Fin 1024) (e : Fin 128) (he : tv (ix2 i 0) = BitVec.ofNat 32 e.val) :
    numbersT tv (ix3 i 0 0) = BitVec.ofNat 32 e.val := by
  pointwise [numbersT]
  rw [he, word_nonneg]
  rfl

/-- The reference's result as a term of its arguments. -/
def refT (x : FVec Ideal S1024x512 .bf16) (rw' : FVec Ideal S512x128 .bf16) (tv : IVec S1024x1 32)
    (ew : FVec Ideal S128x512x1024 .bf16) (sw : FVec Ideal S512x1024 .bf16) : FVec Ideal S1024x1024 .f32 :=
  addf (Host.dotGeneral dot_S1024x512_S512x1024_S1024x1024_1_0_0_1_n_n none (extf .f32 x bitsLt_bf16_f32) (extf .f32 sw bitsLt_bf16_f32))
    (mulf (broadcastInDim S1024x1024 ![0, 1] bcast_S1024x1_S1024x1024_0_1
        (Host.gather gather_S1024x128_S1024x1x1_S1024x1_n_1_0_0_1_2_11 (probsT (weightsT (scoresT x rw'))) (numbersT tv)))
      (Host.dotGeneral dot_S1024x512_S1024x512x1024_S1024x1024_1_1_n_2_0_0 none (extf .f32 x bitsLt_bf16_f32)
        (Host.gather gather_S128x512x1024_S1024x1_S1024x512x1024_12_0_n_n_0_1_15121024 (extf .f32 ew bitsLt_bf16_f32)
          (broadcastInDim S1024x1 ![0] bcast_S1024_S1024x1_0 (shapeCast S1024 tv shapeCasts_S1024x1_S1024)))))

/-- The reference's result at row `i`, column `h`, for a token whose expert is `e`. -/
theorem ref_at (x : FVec Ideal S1024x512 .bf16) (rw' : FVec Ideal S512x128 .bf16) (tv : IVec S1024x1 32)
    (ew : FVec Ideal S128x512x1024 .bf16) (sw : FVec Ideal S512x1024 .bf16) (i h : Fin 1024) (e : Fin 128)
    (he : tv (ix2 i 0) = BitVec.ofNat 32 e.val) :
    refT x rw' tv ew sw (ix2 i h) = (∑ d : Fin 512, x (ix2 i d) * sw (ix2 d h))
      + prob x rw' i e * ∑ d : Fin 512, x (ix2 i d) * ew (ix3 e d h) := by
  unfold refT
  have hp := (prob_pick (probsT (weightsT (scoresT x rw'))) (numbersT tv) i e (numbers_at tv i e he)).trans (probs_at x rw' i e)
  have hg : ∀ d, Host.gather gather_S128x512x1024_S1024x1_S1024x512x1024_12_0_n_n_0_1_15121024 (extf .f32 ew bitsLt_bf16_f32)
          (broadcastInDim S1024x1 ![0] bcast_S1024_S1024x1_0 (shapeCast S1024 tv shapeCasts_S1024x1_S1024)) (ix3 i d h) = ew (ix3 e d h) :=
    fun d => expert_row _ _ i d h e (by pointwise; exact he)
  generalize Host.gather gather_S128x512x1024_S1024x1_S1024x512x1024_12_0_n_n_0_1_15121024 (extf .f32 ew bitsLt_bf16_f32)
          (broadcastInDim S1024x1 ![0] bcast_S1024_S1024x1_0 (shapeCast S1024 tv shapeCasts_S1024x1_S1024)) = G at hg ⊢
  generalize Host.gather gather_S1024x128_S1024x1x1_S1024x1_n_1_0_0_1_2_11 (probsT (weightsT (scoresT x rw'))) (numbersT tv) = P at hp ⊢
  pointwise
  rw [hp]
  simp only [hg]

/-- The reference ends with this term in its result. -/
theorem run_refT (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = refT (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m ρ

end Cert.ReferenceIdeal.Gen
-- ==== Proof.Equation.lean ====
module

public import proofs.«01_k».proof.Proof.Finite
public import proofs.«01_k».proof.Proof.KernelValue
public import proofs.«01_k».proof.Proof.RefValue
public import proofs.«01_k».proof.Proof.RefFrame
public import proofs.«01_k».proof.Proof.Gen.Pre_in_runs_finite_ReferenceIdeal
public import Idealize.ShloMosaic.Lib.Layout

/-!
# The kernel's result is the reference's

Device `c`'s result is block `c` of the reference's: a token's routed term is its owner's contribution, which is either
the device's own or the one it received, and the other of the two is zero.
-/

@[expose] public section

noncomputable section

set_option maxRecDepth 16384

namespace Cert.KernelIdeal.Gen

open Idealize.ShloMosaic Idealize.SL.Sem TcCoe Cert.Value

/-- Row `n` of device `c` is token `32 c + n`. -/
def tokOf (c : Dev nD) (n : Fin 32) : Fin 1024 := ⟨32 * c.val + n.val, by have h : c.val < 32 := c.isLt; omega⟩

/-- Device `d`'s `k`-th expert among all the experts. -/
theorem expert_block (d : Dev nD) (W : Cert.ReferenceIdeal.S128x512x1024.Idx → EReal) (e : Fin 128) (he : e.val / 4 = d.val) (i : Fin 512) (h : Fin 1024) :
    Layout.block ⟨3, ![4, 512, 1024]⟩ ⟨3, ![128, 512, 1024]⟩ 0 32 d W (by decide) (ix3 ⟨e.val % 4, Nat.mod_lt _ (by decide)⟩ i h) = W (ix3 e i h) := by
  rw [Layout.block_apply]
  refine congrArg W (funext fun a => Fin.ext ?_)
  rw [Layout.Tiles.idx_val]
  match a with
  | 0 => show d.val * 4 + e.val % 4 = e.val; omega
  | 1 => rfl
  | 2 => rfl

/-- Row `n` of device `c`'s block of the result is row `32 c + n` of the whole. -/
theorem result_block (c : Dev nD) (v : Cert.ReferenceIdeal.S1024x1024.Idx → EReal) (n : Fin 32) (h : Fin 1024) :
    Layout.block ⟨2, ![32, 1024]⟩ ⟨2, ![1024, 1024]⟩ 0 32 c v (by decide) (ix2 n h) = v (ix2 (tokOf c n) h) := by
  rw [Layout.block_apply]
  refine congrArg v (funext fun a => Fin.ext ?_)
  rw [Layout.Tiles.idx_val]
  match a with
  | 0 => show c.val * 32 + n.val = 32 * c.val + n.val; omega
  | 1 => rfl

section
variable (m : (ℓ : Loc nD τ sig) → Buf (Elt Ideal) ℓ)
    (x : Mat 1024 512) (rw' : Mat 512 128) (tv : IVec S1024x1 32)
    (W : Cert.ReferenceIdeal.S128x512x1024.Idx → EReal) (sw : Mat 512 1024)
    (hx : ∀ c, xA m c = x) (hr : ∀ c, rwA m c = rw') (ht : ∀ c, tvA m c = tv)
    (hW : ∀ c : Dev nD, ewA m c = Layout.block ⟨3, ![4, 512, 1024]⟩ ⟨3, ![128, 512, 1024]⟩ 0 32 c W (by decide)) (hs : ∀ c, swA m c = sw)
    (hxr : ∀ j, ∃ r : ℝ, x j = r) (hrr : ∀ j, ∃ r : ℝ, rw' j = r)
include hx hr ht hW hxr hrr

/-- Device `d`'s contribution at token `i`, whose expert is `e`: the token's probability times its product with the
expert's weights if the device holds the expert, else zero. -/
theorem contribs_at (d : Dev nD) (i : Fin 1024) (j : Fin 8) (l : Fin 128) (e : Fin 128) (he : tv (ix2 i 0) = BitVec.ofNat 32 e.val) :
    contribs m d (cAt i.val i.isLt j l) = if e.val / 4 = d.val then
      prob x rw' i e * ∑ k : Fin 512, x (ix2 i k) * W (ix3 e k ⟨128 * j.val + l.val, by omega⟩) else 0 := by
  unfold contribs
  rw [hx, hr, ht, hW, contrib_at, acc_at d x rw' tv _ i _ e he]
  by_cases hd : e.val / 4 = d.val
  · rw [if_pos hd, if_pos hd]
    obtain ⟨p, hp, hpe⟩ := prob_real x rw' hxr hrr i e
    rw [hpe, ← scaled_row hp]
    exact Finset.sum_congr rfl fun k _ => congrArg _ (expert_block d W e hd k _)
  · rw [if_neg hd, if_neg hd]

include hs

/-- Device `c`'s result is block `c` of the reference's term. -/
theorem result_eq (hown : ∀ t ht', 4 * (owner t).val ≤ (tv (tabIx t ht')).toNat ∧ (tv (tabIx t ht')).toNat < 4 * (owner t).val + 4) (c : Dev nD) :
    resultAt m owner c = Layout.block ⟨2, ![32, 1024]⟩ ⟨2, ![1024, 1024]⟩ 0 32 c (Cert.ReferenceIdeal.Gen.refT x rw' tv W sw) (by decide) := by
  have key : ∀ (n : Fin 32) (j : Fin 8) (l : Fin 128),
      resultAt m owner c (ix2 n ⟨128 * j.val + l.val, by omega⟩)
        = Layout.block ⟨2, ![32, 1024]⟩ ⟨2, ![1024, 1024]⟩ 0 32 c (Cert.ReferenceIdeal.Gen.refT x rw' tv W sw) (by decide) (ix2 n ⟨128 * j.val + l.val, by omega⟩) := by
    intro n j l
    have htab : tabIx (tokOf c n).val (tokOf c n).isLt = ix2 (tokOf c n) (0 : Fin 1) := funext fun a => match a with
      | 0 => rfl
      | 1 => rfl
    have ho := hown (tokOf c n).val (tokOf c n).isLt
    rw [htab] at ho
    have hlt : (owner (tokOf c n).val).val < 32 := (owner (tokOf c n).val).isLt
    obtain ⟨e, hew⟩ : ∃ e : Fin 128, e.val = (tv (ix2 (tokOf c n) 0)).toNat := ⟨⟨(tv (ix2 (tokOf c n) 0)).toNat, by omega⟩, rfl⟩
    have he : tv (ix2 (tokOf c n) 0) = BitVec.ofNat 32 e.val := by rw [hew, BitVec.ofNat_toNat, BitVec.setWidth_eq]
    have heo : e.val / 4 = (owner (tokOf c n).val).val := by omega
    rw [result_block, Cert.ReferenceIdeal.Gen.ref_at x rw' tv W sw _ _ e he]
    unfold resultAt outAt
    rw [out_at, hx, hs]
    have hO : oCol c j (contribs m c) (ix3 n (0 : Fin 1) l) = contribs m c (cAt (tokOf c n).val (tokOf c n).isLt j l) :=
      congrArg (contribs m c) (funext fun a => match a with
        | 0 => rfl
        | 1 => rfl
        | 2 => rfl)
    have hR : rCol j (recvd owner (contribs m) c) (ix3 n (0 : Fin 1) l)
        = if owner (tokOf c n).val = c then 0 else contribs m (owner (tokOf c n).val) (cAt (tokOf c n).val (tokOf c n).isLt j l) := by
      show recvd owner (contribs m) c (rIx j (ix3 n (0 : Fin 1) l)) = _
      unfold recvd
      refine if_congr Iff.rfl ?_ rfl
      show Ideal.ofBits .f32 0x00000000#32 = 0
      exact Ideal.ofBits_zero_f32
    have hC := fun d => contribs_at m x rw' tv W hx hr ht hW hxr hrr d (tokOf c n) j l e he
    have hrow : ∀ d : Fin 512, rowsOf (F := Ideal) c x (ix2 n d) = x (ix2 (tokOf c n) d) := fun d =>
      congrArg x (funext fun a => match a with
        | 0 => rfl
        | 1 => rfl)
    rw [hO, hR, hC, hC, if_pos heo]
    simp only [hrow]
    by_cases hc : owner (tokOf c n).val = c
    · rw [if_pos hc, if_pos (heo.trans (congrArg Fin.val hc)), add_zero]
    · rw [if_neg hc, if_neg fun h => hc (Fin.ext (heo.symm.trans h)), add_zero]
  funext y
  have h1 : (y 1 : Fin 1024).val < 1024 := (y 1 : Fin 1024).isLt
  have hy : y = ix2 (y 0 : Fin 32) (⟨128 * ((y 1 : Fin 1024).val / 128) + (y 1 : Fin 1024).val % 128, by omega⟩ : Fin 1024) := by
    funext a
    match a with
    | 0 => rfl
    | 1 => exact Fin.ext (by show (y 1 : Fin 1024).val = 128 * ((y 1 : Fin 1024).val / 128) + (y 1 : Fin 1024).val % 128; omega)
  rw [hy]
  exact key (y 0 : Fin 32) ⟨(y 1 : Fin 1024).val / 128, by omega⟩ ⟨(y 1 : Fin 1024).val % 128, by omega⟩

end

end Cert.KernelIdeal.Gen

namespace Cert.Proof

open Idealize.ShloMosaic Idealize.SL.Sem TcCoe

open Cert.KernelIdeal.Gen in
/-- The frame of the idealised kernel under the stronger precondition. -/
theorem frame_kernelIdeal_finite : Cert.quiescent_KernelIdeal_pre_in_runs_finite_KernelIdeal := fun m ρ h =>
  frame_run m ρ (owners_of_pre m fun c => in_runs_of_finite _ _ _ _ _ (h c))

/-- The reference's frame, the precondition unused. -/
theorem frame_referenceIdeal_finite : Cert.quiescent_ReferenceIdeal_pre_in_runs_finite_ReferenceIdeal := fun m ρ _ =>
  frame_referenceIdeal m ρ trivial

open Cert.KernelIdeal.Gen in
/-- The kernel's result on every device is its block of the reference's. -/
theorem equation : Cert.algebraic_KernelIdeal_ReferenceIdeal_pre_in_runs_finite_KernelIdeal := by
  intro m g m' g' hpre hargs
  have hown := owners_of_pre m fun c => in_runs_of_finite _ _ _ _ _ (hpre c)
  have hx0 := (hargs 0).1
  have hr0 := (hargs 0).2.1
  have ht0 := (hargs 0).2.2.1
  refine ⟨_, (θ_run Cert.KernelIdeal.defs _ _).mono (fun r hk c => ⟨(hk.1 c).2.2.2.2.2.trans ?_, (hk.1 c).1, (hk.1 c).2.1, (hk.1 c).2.2.1, (hk.1 c).2.2.2.1, (hk.1 c).2.2.2.2.1⟩)
      (run_main m g owner hown),
    (θ_run Cert.ReferenceIdeal.defs _ _).mono (fun r hk => hk 0) (Cert.ReferenceIdeal.Gen.run_refT m' g')⟩
  exact result_eq m _ _ _ _ _ (fun d => (hargs d).1) (fun d => (hargs d).2.1) (fun d => (hargs d).2.2.1) (fun d => (hargs d).2.2.2.1) (fun d => (hargs d).2.2.2.2)
    (fun j => by rw [← hx0]; exact tokens_real _ _ _ _ _ (hpre 0) j)
    (fun j => by rw [← hr0]; exact router_real _ _ _ _ _ (hpre 0) j)
    (fun t ht => by rw [← ht0]; exact in_runs_at _ _ _ _ _ (in_runs_of_finite _ _ _ _ _ (hpre 0)) t ht) c

end Cert.Proof
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_runs
public import proofs.«01_k».proof.Proof.Gen.Pre_in_runs_finite_KernelIdeal
public import proofs.«01_k».proof.Proof.Gen.Pre_in_runs_finite_ReferenceIdeal
public import proofs.«01_k».proof.Proof.Owners
public import proofs.«01_k».proof.Proof.RefFrame
public import proofs.«01_k».proof.Proof.Equation

/-!
# The certificate

The side conditions of the programs and of the preconditions, the frames, and the equation of the two results.
-/

@[expose] public section

namespace Cert.Proof

/-- Every claim of the certificate. -/
theorem claim : Cert.Claim := ⟨Cert.Kernel.Gen.facts, Cert.KernelIdeal.Gen.facts, Cert.ReferenceIdeal.Gen.facts, Cert.Pre_in_runs.Gen.facts,
  Cert.Pre_in_runs_finite_KernelIdeal.Gen.facts, Cert.Pre_in_runs_finite_ReferenceIdeal.Gen.facts,
  frame_kernel, frame_kernelIdeal, frame_kernelIdeal_finite, frame_referenceIdeal, frame_referenceIdeal_finite, trivial, equation⟩

end Cert.Proof
